-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjRefIdeal (m : (ℓ : Loc Cert.FoxProjRefIdeal.nD Cert.FoxProjRefIdeal.τ Cert.FoxProjRefIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjRefIdeal (m : (ℓ : Loc Cert.GateProjRefIdeal.nD Cert.GateProjRefIdeal.τ Cert.GateProjRefIdeal.sig) → Buf (Elt Ideal) ℓ) : Prop :=
  True

def Pre_ZProj (m : (ℓ : Loc Cert.ZProj.nD Cert.ZProj.τ Cert.ZProj.sig) → Buf (Elt Bits) ℓ) : Prop :=
  True

def Pre_ZProjIdeal (m : (ℓ : Loc Cert.ZProjIdeal.nD Cert.ZProjIdeal.τ Cert.ZProjIdeal.sig) → Buf (Elt Ideal) ℓ) : Prop :=
  True

def Pre_ZProjRefIdeal (m : (ℓ : Loc Cert.ZProjRefIdeal.nD Cert.ZProjRefIdeal.τ Cert.ZProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Conva (m : (ℓ : Loc Cert.Conva.nD Cert.Conva.τ Cert.Conva.sig) → Buf (Elt Bits) ℓ) : Prop :=
  True

def Pre_ConvaIdeal (m : (ℓ : Loc Cert.ConvaIdeal.nD Cert.ConvaIdeal.τ Cert.ConvaIdeal.sig) → Buf (Elt Ideal) ℓ) : Prop :=
  True

def Pre_ConvaRefIdeal (m : (ℓ : Loc Cert.ConvaRefIdeal.nD Cert.ConvaRefIdeal.τ Cert.ConvaRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Vv (m : (ℓ : Loc Cert.Vv.nD Cert.Vv.τ Cert.Vv.sig) → Buf (Elt Bits) ℓ) : Prop :=
  True

def Pre_VvIdeal (m : (ℓ : Loc Cert.VvIdeal.nD Cert.VvIdeal.τ Cert.VvIdeal.sig) → Buf (Elt Ideal) ℓ) : Prop :=
  True

def Pre_VvRefIdeal (m : (ℓ : Loc Cert.VvRefIdeal.nD Cert.VvRefIdeal.τ Cert.VvRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_SmallProj (m : (ℓ : Loc Cert.SmallProj.nD Cert.SmallProj.τ Cert.SmallProj.sig) → Buf (Elt Bits) ℓ) : Prop :=
  True

def Pre_SmallProjIdeal (m : (ℓ : Loc Cert.SmallProjIdeal.nD Cert.SmallProjIdeal.τ Cert.SmallProjIdeal.sig) → Buf (Elt Ideal) ℓ) : Prop :=
  True

def Pre_SmallProjRefIdeal (m : (ℓ : Loc Cert.SmallProjRefIdeal.nD Cert.SmallProjRefIdeal.τ Cert.SmallProjRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ r.2.sem = fun _ => 0)

def quiescent_FoxProjRefIdeal [hFoxProjRefIdeal : Cert.FoxProjRefIdeal.Facts] : Prop :=
  ∀ (m : (ℓ : Loc Cert.FoxProjRefIdeal.nD Cert.FoxProjRefIdeal.τ Cert.FoxProjRefIdeal.sig) → Buf (Elt Ideal) ℓ) (g : Dev Cert.FoxProjRefIdeal.nD → PrngReg), Pre_FoxProjRefIdeal m →
    θ_run (Cert.FoxProjRefIdeal.defs (F := Ideal)) (onTc (τ := Cert.FoxProjRefIdeal.τ) (Cert.FoxProjRefIdeal.main (F := Ideal))) ⟨m, fun _ => 0, g⟩ (fun r => (∀ c : Dev Cert.FoxProjRefIdeal.nD,
      r.2.mem ((c.tc : Thread Cert.FoxProjRefIdeal.nD Cert.FoxProjRefIdeal.τ).loc Cert.FoxProjRefIdeal.main_arg0) = m ((c.tc : Thread Cert.FoxProjRefIdeal.nD Cert.FoxProjRefIdeal.τ).loc Cert.FoxProjRefIdeal.main_arg0)
      ∧ r.2.mem ((c.tc : Thread Cert.FoxProjRefIdeal.nD Cert.FoxProjRefIdeal.τ).loc Cert.FoxProjRefIdeal.main_arg1) = m ((c.tc : Thread Cert.FoxProjRefIdeal.nD Cert.FoxProjRefIdeal.τ).loc Cert.FoxProjRefIdeal.main_arg1))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ r.2.sem = fun _ => 0)

def quiescent_GateProjRefIdeal [hGateProjRefIdeal : Cert.GateProjRefIdeal.Facts] : Prop :=
  ∀ (m : (ℓ : Loc Cert.GateProjRefIdeal.nD Cert.GateProjRefIdeal.τ Cert.GateProjRefIdeal.sig) → Buf (Elt Ideal) ℓ) (g : Dev Cert.GateProjRefIdeal.nD → PrngReg), Pre_GateProjRefIdeal m →
    θ_run (Cert.GateProjRefIdeal.defs (F := Ideal)) (onTc (τ := Cert.GateProjRefIdeal.τ) (Cert.GateProjRefIdeal.main (F := Ideal))) ⟨m, fun _ => 0, g⟩ (fun r => (∀ c : Dev Cert.GateProjRefIdeal.nD,
      r.2.mem ((c.tc : Thread Cert.GateProjRefIdeal.nD Cert.GateProjRefIdeal.τ).loc Cert.GateProjRefIdeal.main_arg0) = m ((c.tc : Thread Cert.GateProjRefIdeal.nD Cert.GateProjRefIdeal.τ).loc Cert.GateProjRefIdeal.main_arg0)
      ∧ r.2.mem ((c.tc : Thread Cert.GateProjRefIdeal.nD Cert.GateProjRefIdeal.τ).loc Cert.GateProjRefIdeal.main_arg1) = m ((c.tc : Thread Cert.GateProjRefIdeal.nD Cert.GateProjRefIdeal.τ).loc Cert.GateProjRefIdeal.main_arg1))
      ∧ r.2.sem = fun _ => 0)

def quiescent_ZProj [hZProj : Cert.ZProj.Facts] : Prop :=
  ∀ (m : (ℓ : Loc Cert.ZProj.nD Cert.ZProj.τ Cert.ZProj.sig) → Buf (Elt Bits) ℓ) (g : Dev Cert.ZProj.nD → PrngReg), Pre_ZProj m →
    θ_run (Cert.ZProj.defs (F := Bits)) (onTc (τ := Cert.ZProj.τ) (Cert.ZProj.main (F := Bits))) ⟨m, fun _ => 0, g⟩ (fun r => (∀ c : Dev Cert.ZProj.nD,
      r.2.mem ((c.tc : Thread Cert.ZProj.nD Cert.ZProj.τ).loc Cert.ZProj.main_arg0) = m ((c.tc : Thread Cert.ZProj.nD Cert.ZProj.τ).loc Cert.ZProj.main_arg0)
      ∧ r.2.mem ((c.tc : Thread Cert.ZProj.nD Cert.ZProj.τ).loc Cert.ZProj.main_arg1) = m ((c.tc : Thread Cert.ZProj.nD Cert.ZProj.τ).loc Cert.ZProj.main_arg1))
      ∧ r.2.sem = fun _ => 0)

def quiescent_ZProjIdeal [hZProjIdeal : Cert.ZProjIdeal.Facts] : Prop :=
  ∀ (m : (ℓ : Loc Cert.ZProjIdeal.nD Cert.ZProjIdeal.τ Cert.ZProjIdeal.sig) → Buf (Elt Ideal) ℓ) (g : Dev Cert.ZProjIdeal.nD → PrngReg), Pre_ZProjIdeal m →
    θ_run (Cert.ZProjIdeal.defs (F := Ideal)) (onTc (τ := Cert.ZProjIdeal.τ) (Cert.ZProjIdeal.main (F := Ideal))) ⟨m, fun _ => 0, g⟩ (fun r => (∀ c : Dev Cert.ZProjIdeal.nD,
      r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
      ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1))
      ∧ r.2.sem = fun _ => 0)

def quiescent_ZProjRefIdeal [hZProjRefIdeal : Cert.ZProjRefIdeal.Facts] : Prop :=
  ∀ (m : (ℓ : Loc Cert.ZProjRefIdeal.nD Cert.ZProjRefIdeal.τ Cert.ZProjRefIdeal.sig) → Buf (Elt Ideal) ℓ) (g : Dev Cert.ZProjRefIdeal.nD → PrngReg), Pre_ZProjRefIdeal m →
    θ_run (Cert.ZProjRefIdeal.defs (F := Ideal)) (onTc (τ := Cert.ZProjRefIdeal.τ) (Cert.ZProjRefIdeal.main (F := Ideal))) ⟨m, fun _ => 0, g⟩ (fun r => (∀ c : Dev Cert.ZProjRefIdeal.nD,
      r.2.mem ((c.tc : Thread Cert.ZProjRefIdeal.nD Cert.ZProjRefIdeal.τ).loc Cert.ZProjRefIdeal.main_arg0) = m ((c.tc : Thread Cert.ZProjRefIdeal.nD Cert.ZProjRefIdeal.τ).loc Cert.ZProjRefIdeal.main_arg0)
      ∧ r.2.mem ((c.tc : Thread Cert.ZProjRefIdeal.nD Cert.ZProjRefIdeal.τ).loc Cert.ZProjRefIdeal.main_arg1) = m ((c.tc : Thread Cert.ZProjRefIdeal.nD Cert.ZProjRefIdeal.τ).loc Cert.ZProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Conva [hConva : Cert.Conva.Facts] : Prop :=
  ∀ (m : (ℓ : Loc Cert.Conva.nD Cert.Conva.τ Cert.Conva.sig) → Buf (Elt Bits) ℓ) (g : Dev Cert.Conva.nD → PrngReg), Pre_Conva m →
    θ_run (Cert.Conva.defs (F := Bits)) (onTc (τ := Cert.Conva.τ) (Cert.Conva.main (F := Bits))) ⟨m, fun _ => 0, g⟩ (fun r => (∀ c : Dev Cert.Conva.nD,
      r.2.mem ((c.tc : Thread Cert.Conva.nD Cert.Conva.τ).loc Cert.Conva.main_arg0) = m ((c.tc : Thread Cert.Conva.nD Cert.Conva.τ).loc Cert.Conva.main_arg0)
      ∧ r.2.mem ((c.tc : Thread Cert.Conva.nD Cert.Conva.τ).loc Cert.Conva.main_arg1) = m ((c.tc : Thread Cert.Conva.nD Cert.Conva.τ).loc Cert.Conva.main_arg1)
      ∧ r.2.mem ((c.tc : Thread Cert.Conva.nD Cert.Conva.τ).loc Cert.Conva.main_arg2) = m ((c.tc : Thread Cert.Conva.nD Cert.Conva.τ).loc Cert.Conva.main_arg2))
      ∧ r.2.sem = fun _ => 0)

def quiescent_ConvaIdeal [hConvaIdeal : Cert.ConvaIdeal.Facts] : Prop :=
  ∀ (m : (ℓ : Loc Cert.ConvaIdeal.nD Cert.ConvaIdeal.τ Cert.ConvaIdeal.sig) → Buf (Elt Ideal) ℓ) (g : Dev Cert.ConvaIdeal.nD → PrngReg), Pre_ConvaIdeal m →
    θ_run (Cert.ConvaIdeal.defs (F := Ideal)) (onTc (τ := Cert.ConvaIdeal.τ) (Cert.ConvaIdeal.main (F := Ideal))) ⟨m, fun _ => 0, g⟩ (fun r => (∀ c : Dev Cert.ConvaIdeal.nD,
      r.2.mem ((c.tc : Thread Cert.ConvaIdeal.nD Cert.ConvaIdeal.τ).loc Cert.ConvaIdeal.main_arg0) = m ((c.tc : Thread Cert.ConvaIdeal.nD Cert.ConvaIdeal.τ).loc Cert.ConvaIdeal.main_arg0)
      ∧ r.2.mem ((c.tc : Thread Cert.ConvaIdeal.nD Cert.ConvaIdeal.τ).loc Cert.ConvaIdeal.main_arg1) = m ((c.tc : Thread Cert.ConvaIdeal.nD Cert.ConvaIdeal.τ).loc Cert.ConvaIdeal.main_arg1)
      ∧ r.2.mem ((c.tc : Thread Cert.ConvaIdeal.nD Cert.ConvaIdeal.τ).loc Cert.ConvaIdeal.main_arg2) = m ((c.tc : Thread Cert.ConvaIdeal.nD Cert.ConvaIdeal.τ).loc Cert.ConvaIdeal.main_arg2))
      ∧ r.2.sem = fun _ => 0)

def quiescent_ConvaRefIdeal [hConvaRefIdeal : Cert.ConvaRefIdeal.Facts] : Prop :=
  ∀ (m : (ℓ : Loc Cert.ConvaRefIdeal.nD Cert.ConvaRefIdeal.τ Cert.ConvaRefIdeal.sig) → Buf (Elt Ideal) ℓ) (g : Dev Cert.ConvaRefIdeal.nD → PrngReg), Pre_ConvaRefIdeal m →
    θ_run (Cert.ConvaRefIdeal.defs (F := Ideal)) (onTc (τ := Cert.ConvaRefIdeal.τ) (Cert.ConvaRefIdeal.main (F := Ideal))) ⟨m, fun _ => 0, g⟩ (fun r => (∀ c : Dev Cert.ConvaRefIdeal.nD,
      r.2.mem ((c.tc : Thread Cert.ConvaRefIdeal.nD Cert.ConvaRefIdeal.τ).loc Cert.ConvaRefIdeal.main_arg0) = m ((c.tc : Thread Cert.ConvaRefIdeal.nD Cert.ConvaRefIdeal.τ).loc Cert.ConvaRefIdeal.main_arg0)
      ∧ r.2.mem ((c.tc : Thread Cert.ConvaRefIdeal.nD Cert.ConvaRefIdeal.τ).loc Cert.ConvaRefIdeal.main_arg1) = m ((c.tc : Thread Cert.ConvaRefIdeal.nD Cert.ConvaRefIdeal.τ).loc Cert.ConvaRefIdeal.main_arg1)
      ∧ r.2.mem ((c.tc : Thread Cert.ConvaRefIdeal.nD Cert.ConvaRefIdeal.τ).loc Cert.ConvaRefIdeal.main_arg2) = m ((c.tc : Thread Cert.ConvaRefIdeal.nD Cert.ConvaRefIdeal.τ).loc Cert.ConvaRefIdeal.main_arg2))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4)
      ∧ r.2.mem ((c.tc : Thread Cert.Norm1.nD Cert.Norm1.τ).loc Cert.Norm1.main_arg5) = m ((c.tc : Thread Cert.Norm1.nD Cert.Norm1.τ).loc Cert.Norm1.main_arg5)
      ∧ r.2.mem ((c.tc : Thread Cert.Norm1.nD Cert.Norm1.τ).loc Cert.Norm1.main_arg6) = m ((c.tc : Thread Cert.Norm1.nD Cert.Norm1.τ).loc Cert.Norm1.main_arg6)
      ∧ r.2.mem ((c.tc : Thread Cert.Norm1.nD Cert.Norm1.τ).loc Cert.Norm1.main_arg7) = m ((c.tc : Thread Cert.Norm1.nD Cert.Norm1.τ).loc Cert.Norm1.main_arg7))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
      ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6)
      ∧ r.2.mem ((c.tc : Thread Cert.Norm1Ideal.nD Cert.Norm1Ideal.τ).loc Cert.Norm1Ideal.main_arg7) = m ((c.tc : Thread Cert.Norm1Ideal.nD Cert.Norm1Ideal.τ).loc Cert.Norm1Ideal.main_arg7))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5)
      ∧ r.2.mem ((c.tc : Thread Cert.Norm1RefIdeal.nD Cert.Norm1RefIdeal.τ).loc Cert.Norm1RefIdeal.main_arg6) = m ((c.tc : Thread Cert.Norm1RefIdeal.nD Cert.Norm1RefIdeal.τ).loc Cert.Norm1RefIdeal.main_arg6)
      ∧ r.2.mem ((c.tc : Thread Cert.Norm1RefIdeal.nD Cert.Norm1RefIdeal.τ).loc Cert.Norm1RefIdeal.main_arg7) = m ((c.tc : Thread Cert.Norm1RefIdeal.nD Cert.Norm1RefIdeal.τ).loc Cert.Norm1RefIdeal.main_arg7))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2))
      ∧ r.2.sem = fun _ => 0)

def quiescent_Vv [hVv : Cert.Vv.Facts] : Prop :=
  ∀ (m : (ℓ : Loc Cert.Vv.nD Cert.Vv.τ Cert.Vv.sig) → Buf (Elt Bits) ℓ) (g : Dev Cert.Vv.nD → PrngReg), Pre_Vv m →
    θ_run (Cert.Vv.defs (F := Bits)) (onTc (τ := Cert.Vv.τ) (Cert.Vv.main (F := Bits))) ⟨m, fun _ => 0, g⟩ (fun r => (∀ c : Dev Cert.Vv.nD,
      r.2.mem ((c.tc : Thread Cert.Vv.nD Cert.Vv.τ).loc Cert.Vv.main_arg0) = m ((c.tc : Thread Cert.Vv.nD Cert.Vv.τ).loc Cert.Vv.main_arg0)
      ∧ r.2.mem ((c.tc : Thread Cert.Vv.nD Cert.Vv.τ).loc Cert.Vv.main_arg1) = m ((c.tc : Thread Cert.Vv.nD Cert.Vv.τ).loc Cert.Vv.main_arg1)
      ∧ r.2.mem ((c.tc : Thread Cert.Vv.nD Cert.Vv.τ).loc Cert.Vv.main_arg2) = m ((c.tc : Thread Cert.Vv.nD Cert.Vv.τ).loc Cert.Vv.main_arg2))
      ∧ r.2.sem = fun _ => 0)

def quiescent_VvIdeal [hVvIdeal : Cert.VvIdeal.Facts] : Prop :=
  ∀ (m : (ℓ : Loc Cert.VvIdeal.nD Cert.VvIdeal.τ Cert.VvIdeal.sig) → Buf (Elt Ideal) ℓ) (g : Dev Cert.VvIdeal.nD → PrngReg), Pre_VvIdeal m →
    θ_run (Cert.VvIdeal.defs (F := Ideal)) (onTc (τ := Cert.VvIdeal.τ) (Cert.VvIdeal.main (F := Ideal))) ⟨m, fun _ => 0, g⟩ (fun r => (∀ c : Dev Cert.VvIdeal.nD,
      r.2.mem ((c.tc : Thread Cert.VvIdeal.nD Cert.VvIdeal.τ).loc Cert.VvIdeal.main_arg0) = m ((c.tc : Thread Cert.VvIdeal.nD Cert.VvIdeal.τ).loc Cert.VvIdeal.main_arg0)
      ∧ r.2.mem ((c.tc : Thread Cert.VvIdeal.nD Cert.VvIdeal.τ).loc Cert.VvIdeal.main_arg1) = m ((c.tc : Thread Cert.VvIdeal.nD Cert.VvIdeal.τ).loc Cert.VvIdeal.main_arg1)
      ∧ r.2.mem ((c.tc : Thread Cert.VvIdeal.nD Cert.VvIdeal.τ).loc Cert.VvIdeal.main_arg2) = m ((c.tc : Thread Cert.VvIdeal.nD Cert.VvIdeal.τ).loc Cert.VvIdeal.main_arg2))
      ∧ r.2.sem = fun _ => 0)

def quiescent_VvRefIdeal [hVvRefIdeal : Cert.VvRefIdeal.Facts] : Prop :=
  ∀ (m : (ℓ : Loc Cert.VvRefIdeal.nD Cert.VvRefIdeal.τ Cert.VvRefIdeal.sig) → Buf (Elt Ideal) ℓ) (g : Dev Cert.VvRefIdeal.nD → PrngReg), Pre_VvRefIdeal m →
    θ_run (Cert.VvRefIdeal.defs (F := Ideal)) (onTc (τ := Cert.VvRefIdeal.τ) (Cert.VvRefIdeal.main (F := Ideal))) ⟨m, fun _ => 0, g⟩ (fun r => (∀ c : Dev Cert.VvRefIdeal.nD,
      r.2.mem ((c.tc : Thread Cert.VvRefIdeal.nD Cert.VvRefIdeal.τ).loc Cert.VvRefIdeal.main_arg0) = m ((c.tc : Thread Cert.VvRefIdeal.nD Cert.VvRefIdeal.τ).loc Cert.VvRefIdeal.main_arg0)
      ∧ r.2.mem ((c.tc : Thread Cert.VvRefIdeal.nD Cert.VvRefIdeal.τ).loc Cert.VvRefIdeal.main_arg1) = m ((c.tc : Thread Cert.VvRefIdeal.nD Cert.VvRefIdeal.τ).loc Cert.VvRefIdeal.main_arg1)
      ∧ r.2.mem ((c.tc : Thread Cert.VvRefIdeal.nD Cert.VvRefIdeal.τ).loc Cert.VvRefIdeal.main_arg2) = m ((c.tc : Thread Cert.VvRefIdeal.nD Cert.VvRefIdeal.τ).loc Cert.VvRefIdeal.main_arg2))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2))
      ∧ r.2.sem = fun _ => 0)

def quiescent_SmallProj [hSmallProj : Cert.SmallProj.Facts] : Prop :=
  ∀ (m : (ℓ : Loc Cert.SmallProj.nD Cert.SmallProj.τ Cert.SmallProj.sig) → Buf (Elt Bits) ℓ) (g : Dev Cert.SmallProj.nD → PrngReg), Pre_SmallProj m →
    θ_run (Cert.SmallProj.defs (F := Bits)) (onTc (τ := Cert.SmallProj.τ) (Cert.SmallProj.main (F := Bits))) ⟨m, fun _ => 0, g⟩ (fun r => (∀ c : Dev Cert.SmallProj.nD,
      r.2.mem ((c.tc : Thread Cert.SmallProj.nD Cert.SmallProj.τ).loc Cert.SmallProj.main_arg0) = m ((c.tc : Thread Cert.SmallProj.nD Cert.SmallProj.τ).loc Cert.SmallProj.main_arg0)
      ∧ r.2.mem ((c.tc : Thread Cert.SmallProj.nD Cert.SmallProj.τ).loc Cert.SmallProj.main_arg1) = m ((c.tc : Thread Cert.SmallProj.nD Cert.SmallProj.τ).loc Cert.SmallProj.main_arg1))
      ∧ r.2.sem = fun _ => 0)

def quiescent_SmallProjIdeal [hSmallProjIdeal : Cert.SmallProjIdeal.Facts] : Prop :=
  ∀ (m : (ℓ : Loc Cert.SmallProjIdeal.nD Cert.SmallProjIdeal.τ Cert.SmallProjIdeal.sig) → Buf (Elt Ideal) ℓ) (g : Dev Cert.SmallProjIdeal.nD → PrngReg), Pre_SmallProjIdeal m →
    θ_run (Cert.SmallProjIdeal.defs (F := Ideal)) (onTc (τ := Cert.SmallProjIdeal.τ) (Cert.SmallProjIdeal.main (F := Ideal))) ⟨m, fun _ => 0, g⟩ (fun r => (∀ c : Dev Cert.SmallProjIdeal.nD,
      r.2.mem ((c.tc : Thread Cert.SmallProjIdeal.nD Cert.SmallProjIdeal.τ).loc Cert.SmallProjIdeal.main_arg0) = m ((c.tc : Thread Cert.SmallProjIdeal.nD Cert.SmallProjIdeal.τ).loc Cert.SmallProjIdeal.main_arg0)
      ∧ r.2.mem ((c.tc : Thread Cert.SmallProjIdeal.nD Cert.SmallProjIdeal.τ).loc Cert.SmallProjIdeal.main_arg1) = m ((c.tc : Thread Cert.SmallProjIdeal.nD Cert.SmallProjIdeal.τ).loc Cert.SmallProjIdeal.main_arg1))
      ∧ r.2.sem = fun _ => 0)

def quiescent_SmallProjRefIdeal [hSmallProjRefIdeal : Cert.SmallProjRefIdeal.Facts] : Prop :=
  ∀ (m : (ℓ : Loc Cert.SmallProjRefIdeal.nD Cert.SmallProjRefIdeal.τ Cert.SmallProjRefIdeal.sig) → Buf (Elt Ideal) ℓ) (g : Dev Cert.SmallProjRefIdeal.nD → PrngReg), Pre_SmallProjRefIdeal m →
    θ_run (Cert.SmallProjRefIdeal.defs (F := Ideal)) (onTc (τ := Cert.SmallProjRefIdeal.τ) (Cert.SmallProjRefIdeal.main (F := Ideal))) ⟨m, fun _ => 0, g⟩ (fun r => (∀ c : Dev Cert.SmallProjRefIdeal.nD,
      r.2.mem ((c.tc : Thread Cert.SmallProjRefIdeal.nD Cert.SmallProjRefIdeal.τ).loc Cert.SmallProjRefIdeal.main_arg0) = m ((c.tc : Thread Cert.SmallProjRefIdeal.nD Cert.SmallProjRefIdeal.τ).loc Cert.SmallProjRefIdeal.main_arg0)
      ∧ r.2.mem ((c.tc : Thread Cert.SmallProjRefIdeal.nD Cert.SmallProjRefIdeal.τ).loc Cert.SmallProjRefIdeal.main_arg1) = m ((c.tc : Thread Cert.SmallProjRefIdeal.nD Cert.SmallProjRefIdeal.τ).loc Cert.SmallProjRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def preserves_Fox_FoxIdeal : Prop :=
  IdealRules.named_const.Statement Cert.FoxIdeal.κ "log2e" .f32 0x3FB8AA3B#32 (((Real.log 2)⁻¹ : ℝ) : EReal)
  ∧ IdealRules.named_const.Statement Cert.FoxIdeal.κ "c1" .f32 0x3E0293EE#32 (((Real.log 2)⁻¹ * (Real.sqrt 128)⁻¹ : ℝ) : EReal)
  ∧ IdealRules.named_const.Statement Cert.FoxIdeal.κ "mask" .f32 0xF149F2CA#32 ⊥

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v1_0)) (v1 : (c : Dev Cert.FoxIdeal.nD) → Buf (Elt Ideal) ((c.tc : Thread Cert.FoxIdeal.nD Cert.FoxIdeal.τ).loc Cert.FoxIdeal.main_v1_1)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v1_0) = v0 c
          ∧ r.2.mem ((c.tc : Thread Cert.FoxIdeal.nD Cert.FoxIdeal.τ).loc Cert.FoxIdeal.main_v1_1) = v1 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v45) = v0 c
          ∧ r.2.mem ((c.tc : Thread Cert.FoxRefIdeal.nD Cert.FoxRefIdeal.τ).loc Cert.FoxRefIdeal.main_v47) = v1 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)) →
    ∃ (v0 : (c : Dev Cert.Ffn1Ideal.nD) → Buf (Elt Ideal) ((c.tc : Thread Cert.Ffn1Ideal.nD Cert.Ffn1Ideal.τ).loc Cert.Ffn1Ideal.main_v1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v1) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v7) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v7)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v7) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v37) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_FoxProj_FoxProjIdeal : Prop :=
  True

def algebraic_FoxProjIdeal_FoxProjRefIdeal [hFoxProjIdeal : Cert.FoxProjIdeal.Facts] [hFoxProjRefIdeal : Cert.FoxProjRefIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjRefIdeal.nD Cert.FoxProjRefIdeal.τ Cert.FoxProjRefIdeal.sig) → Buf (Elt Ideal) ℓ) (g' : Dev Cert.FoxProjRefIdeal.nD → PrngReg), Pre_FoxProjIdeal m →
    (∀ c : Dev Cert.FoxProjIdeal.nD,
      m' ((c.tc : Thread Cert.FoxProjRefIdeal.nD Cert.FoxProjRefIdeal.τ).loc Cert.FoxProjRefIdeal.main_arg0) = m ((c.tc : Thread Cert.FoxProjIdeal.nD Cert.FoxProjIdeal.τ).loc Cert.FoxProjIdeal.main_arg0)
      ∧ m' ((c.tc : Thread Cert.FoxProjRefIdeal.nD Cert.FoxProjRefIdeal.τ).loc Cert.FoxProjRefIdeal.main_arg1) = m ((c.tc : Thread Cert.FoxProjIdeal.nD Cert.FoxProjIdeal.τ).loc Cert.FoxProjIdeal.main_arg1)) →
    ∃ (v0 : (c : Dev Cert.FoxProjIdeal.nD) → Buf (Elt Ideal) ((c.tc : Thread Cert.FoxProjIdeal.nD Cert.FoxProjIdeal.τ).loc Cert.FoxProjIdeal.main_v2)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v2) = v0 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ θ_run (Cert.FoxProjRefIdeal.defs (F := Ideal)) (onTc (τ := Cert.FoxProjRefIdeal.τ) (Cert.FoxProjRefIdeal.main (F := Ideal))) ⟨m', fun _ => 0, g'⟩ (fun r => ∀ c : Dev Cert.FoxProjRefIdeal.nD,
          r.2.mem ((c.tc : Thread Cert.FoxProjRefIdeal.nD Cert.FoxProjRefIdeal.τ).loc Cert.FoxProjRefIdeal.main_v6) = v0 c
          ∧ r.2.mem ((c.tc : Thread Cert.FoxProjRefIdeal.nD Cert.FoxProjRefIdeal.τ).loc Cert.FoxProjRefIdeal.main_arg0) = m' ((c.tc : Thread Cert.FoxProjRefIdeal.nD Cert.FoxProjRefIdeal.τ).loc Cert.FoxProjRefIdeal.main_arg0)
          ∧ r.2.mem ((c.tc : Thread Cert.FoxProjRefIdeal.nD Cert.FoxProjRefIdeal.τ).loc Cert.FoxProjRefIdeal.main_arg1) = m' ((c.tc : Thread Cert.FoxProjRefIdeal.nD Cert.FoxProjRefIdeal.τ).loc Cert.FoxProjRefIdeal.main_arg1))

def preserves_GateProj_GateProjIdeal : Prop :=
  True

def algebraic_GateProjIdeal_GateProjRefIdeal [hGateProjIdeal : Cert.GateProjIdeal.Facts] [hGateProjRefIdeal : Cert.GateProjRefIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjRefIdeal.nD Cert.GateProjRefIdeal.τ Cert.GateProjRefIdeal.sig) → Buf (Elt Ideal) ℓ) (g' : Dev Cert.GateProjRefIdeal.nD → PrngReg), Pre_GateProjIdeal m →
    (∀ c : Dev Cert.GateProjIdeal.nD,
      m' ((c.tc : Thread Cert.GateProjRefIdeal.nD Cert.GateProjRefIdeal.τ).loc Cert.GateProjRefIdeal.main_arg0) = m ((c.tc : Thread Cert.GateProjIdeal.nD Cert.GateProjIdeal.τ).loc Cert.GateProjIdeal.main_arg0)
      ∧ m' ((c.tc : Thread Cert.GateProjRefIdeal.nD Cert.GateProjRefIdeal.τ).loc Cert.GateProjRefIdeal.main_arg1) = m ((c.tc : Thread Cert.GateProjIdeal.nD Cert.GateProjIdeal.τ).loc Cert.GateProjIdeal.main_arg1)) →
    ∃ (v0 : (c : Dev Cert.GateProjIdeal.nD) → Buf (Elt Ideal) ((c.tc : Thread Cert.GateProjIdeal.nD Cert.GateProjIdeal.τ).loc Cert.GateProjIdeal.main_v2)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v2) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ θ_run (Cert.GateProjRefIdeal.defs (F := Ideal)) (onTc (τ := Cert.GateProjRefIdeal.τ) (Cert.GateProjRefIdeal.main (F := Ideal))) ⟨m', fun _ => 0, g'⟩ (fun r => ∀ c : Dev Cert.GateProjRefIdeal.nD,
          r.2.mem ((c.tc : Thread Cert.GateProjRefIdeal.nD Cert.GateProjRefIdeal.τ).loc Cert.GateProjRefIdeal.main_v6) = v0 c
          ∧ r.2.mem ((c.tc : Thread Cert.GateProjRefIdeal.nD Cert.GateProjRefIdeal.τ).loc Cert.GateProjRefIdeal.main_arg0) = m' ((c.tc : Thread Cert.GateProjRefIdeal.nD Cert.GateProjRefIdeal.τ).loc Cert.GateProjRefIdeal.main_arg0)
          ∧ r.2.mem ((c.tc : Thread Cert.GateProjRefIdeal.nD Cert.GateProjRefIdeal.τ).loc Cert.GateProjRefIdeal.main_arg1) = m' ((c.tc : Thread Cert.GateProjRefIdeal.nD Cert.GateProjRefIdeal.τ).loc Cert.GateProjRefIdeal.main_arg1))

def preserves_ZProj_ZProjIdeal : Prop :=
  True

def algebraic_ZProjIdeal_ZProjRefIdeal [hZProjIdeal : Cert.ZProjIdeal.Facts] [hZProjRefIdeal : Cert.ZProjRefIdeal.Facts] : Prop :=
  ∀ (m : (ℓ : Loc Cert.ZProjIdeal.nD Cert.ZProjIdeal.τ Cert.ZProjIdeal.sig) → Buf (Elt Ideal) ℓ) (g : Dev Cert.ZProjIdeal.nD → PrngReg)
    (m' : (ℓ : Loc Cert.ZProjRefIdeal.nD Cert.ZProjRefIdeal.τ Cert.ZProjRefIdeal.sig) → Buf (Elt Ideal) ℓ) (g' : Dev Cert.ZProjRefIdeal.nD → PrngReg), Pre_ZProjIdeal m →
    (∀ c : Dev Cert.ZProjIdeal.nD,
      m' ((c.tc : Thread Cert.ZProjRefIdeal.nD Cert.ZProjRefIdeal.τ).loc Cert.ZProjRefIdeal.main_arg0) = m ((c.tc : Thread Cert.ZProjIdeal.nD Cert.ZProjIdeal.τ).loc Cert.ZProjIdeal.main_arg0)
      ∧ m' ((c.tc : Thread Cert.ZProjRefIdeal.nD Cert.ZProjRefIdeal.τ).loc Cert.ZProjRefIdeal.main_arg1) = m ((c.tc : Thread Cert.ZProjIdeal.nD Cert.ZProjIdeal.τ).loc Cert.ZProjIdeal.main_arg1)) →
    ∃ (v0 : (c : Dev Cert.ZProjIdeal.nD) → Buf (Elt Ideal) ((c.tc : Thread Cert.ZProjIdeal.nD Cert.ZProjIdeal.τ).loc Cert.ZProjIdeal.main_v2)),
      θ_run (Cert.ZProjIdeal.defs (F := Ideal)) (onTc (τ := Cert.ZProjIdeal.τ) (Cert.ZProjIdeal.main (F := Ideal))) ⟨m, fun _ => 0, g⟩ (fun r => ∀ c : Dev Cert.ZProjIdeal.nD,
          r.2.mem ((c.tc : Thread Cert.ZProjIdeal.nD Cert.ZProjIdeal.τ).loc Cert.ZProjIdeal.main_v2) = v0 c
          ∧ r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
          ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1))
      ∧ θ_run (Cert.ZProjRefIdeal.defs (F := Ideal)) (onTc (τ := Cert.ZProjRefIdeal.τ) (Cert.ZProjRefIdeal.main (F := Ideal))) ⟨m', fun _ => 0, g'⟩ (fun r => ∀ c : Dev Cert.ZProjRefIdeal.nD,
          r.2.mem ((c.tc : Thread Cert.ZProjRefIdeal.nD Cert.ZProjRefIdeal.τ).loc Cert.ZProjRefIdeal.main_v6) = v0 c
          ∧ r.2.mem ((c.tc : Thread Cert.ZProjRefIdeal.nD Cert.ZProjRefIdeal.τ).loc Cert.ZProjRefIdeal.main_arg0) = m' ((c.tc : Thread Cert.ZProjRefIdeal.nD Cert.ZProjRefIdeal.τ).loc Cert.ZProjRefIdeal.main_arg0)
          ∧ r.2.mem ((c.tc : Thread Cert.ZProjRefIdeal.nD Cert.ZProjRefIdeal.τ).loc Cert.ZProjRefIdeal.main_arg1) = m' ((c.tc : Thread Cert.ZProjRefIdeal.nD Cert.ZProjRefIdeal.τ).loc Cert.ZProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_v43) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Conva_ConvaIdeal : Prop :=
  True

def algebraic_ConvaIdeal_ConvaRefIdeal [hConvaIdeal : Cert.ConvaIdeal.Facts] [hConvaRefIdeal : Cert.ConvaRefIdeal.Facts] : Prop :=
  ∀ (m : (ℓ : Loc Cert.ConvaIdeal.nD Cert.ConvaIdeal.τ Cert.ConvaIdeal.sig) → Buf (Elt Ideal) ℓ) (g : Dev Cert.ConvaIdeal.nD → PrngReg)
    (m' : (ℓ : Loc Cert.ConvaRefIdeal.nD Cert.ConvaRefIdeal.τ Cert.ConvaRefIdeal.sig) → Buf (Elt Ideal) ℓ) (g' : Dev Cert.ConvaRefIdeal.nD → PrngReg), Pre_ConvaIdeal m →
    (∀ c : Dev Cert.ConvaIdeal.nD,
      m' ((c.tc : Thread Cert.ConvaRefIdeal.nD Cert.ConvaRefIdeal.τ).loc Cert.ConvaRefIdeal.main_arg0) = m ((c.tc : Thread Cert.ConvaIdeal.nD Cert.ConvaIdeal.τ).loc Cert.ConvaIdeal.main_arg0)
      ∧ m' ((c.tc : Thread Cert.ConvaRefIdeal.nD Cert.ConvaRefIdeal.τ).loc Cert.ConvaRefIdeal.main_arg1) = m ((c.tc : Thread Cert.ConvaIdeal.nD Cert.ConvaIdeal.τ).loc Cert.ConvaIdeal.main_arg1)
      ∧ m' ((c.tc : Thread Cert.ConvaRefIdeal.nD Cert.ConvaRefIdeal.τ).loc Cert.ConvaRefIdeal.main_arg2) = m ((c.tc : Thread Cert.ConvaIdeal.nD Cert.ConvaIdeal.τ).loc Cert.ConvaIdeal.main_arg2)) →
    ∃ (v0 : (c : Dev Cert.ConvaIdeal.nD) → Buf (Elt Ideal) ((c.tc : Thread Cert.ConvaIdeal.nD Cert.ConvaIdeal.τ).loc Cert.ConvaIdeal.main_v3)),
      θ_run (Cert.ConvaIdeal.defs (F := Ideal)) (onTc (τ := Cert.ConvaIdeal.τ) (Cert.ConvaIdeal.main (F := Ideal))) ⟨m, fun _ => 0, g⟩ (fun r => ∀ c : Dev Cert.ConvaIdeal.nD,
          r.2.mem ((c.tc : Thread Cert.ConvaIdeal.nD Cert.ConvaIdeal.τ).loc Cert.ConvaIdeal.main_v3) = v0 c
          ∧ r.2.mem ((c.tc : Thread Cert.ConvaIdeal.nD Cert.ConvaIdeal.τ).loc Cert.ConvaIdeal.main_arg0) = m ((c.tc : Thread Cert.ConvaIdeal.nD Cert.ConvaIdeal.τ).loc Cert.ConvaIdeal.main_arg0)
          ∧ r.2.mem ((c.tc : Thread Cert.ConvaIdeal.nD Cert.ConvaIdeal.τ).loc Cert.ConvaIdeal.main_arg1) = m ((c.tc : Thread Cert.ConvaIdeal.nD Cert.ConvaIdeal.τ).loc Cert.ConvaIdeal.main_arg1)
          ∧ r.2.mem ((c.tc : Thread Cert.ConvaIdeal.nD Cert.ConvaIdeal.τ).loc Cert.ConvaIdeal.main_arg2) = m ((c.tc : Thread Cert.ConvaIdeal.nD Cert.ConvaIdeal.τ).loc Cert.ConvaIdeal.main_arg2))
      ∧ θ_run (Cert.ConvaRefIdeal.defs (F := Ideal)) (onTc (τ := Cert.ConvaRefIdeal.τ) (Cert.ConvaRefIdeal.main (F := Ideal))) ⟨m', fun _ => 0, g'⟩ (fun r => ∀ c : Dev Cert.ConvaRefIdeal.nD,
          r.2.mem ((c.tc : Thread Cert.ConvaRefIdeal.nD Cert.ConvaRefIdeal.τ).loc Cert.ConvaRefIdeal.main_v32) = v0 c
          ∧ r.2.mem ((c.tc : Thread Cert.ConvaRefIdeal.nD Cert.ConvaRefIdeal.τ).loc Cert.ConvaRefIdeal.main_arg0) = m' ((c.tc : Thread Cert.ConvaRefIdeal.nD Cert.ConvaRefIdeal.τ).loc Cert.ConvaRefIdeal.main_arg0)
          ∧ r.2.mem ((c.tc : Thread Cert.ConvaRefIdeal.nD Cert.ConvaRefIdeal.τ).loc Cert.ConvaRefIdeal.main_arg1) = m' ((c.tc : Thread Cert.ConvaRefIdeal.nD Cert.ConvaRefIdeal.τ).loc Cert.ConvaRefIdeal.main_arg1)
          ∧ r.2.mem ((c.tc : Thread Cert.ConvaRefIdeal.nD Cert.ConvaRefIdeal.τ).loc Cert.ConvaRefIdeal.main_arg2) = m' ((c.tc : Thread Cert.ConvaRefIdeal.nD Cert.ConvaRefIdeal.τ).loc Cert.ConvaRefIdeal.main_arg2))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)
      ∧ m' ((c.tc : Thread Cert.Norm1RefIdeal.nD Cert.Norm1RefIdeal.τ).loc Cert.Norm1RefIdeal.main_arg5) = m ((c.tc : Thread Cert.Norm1Ideal.nD Cert.Norm1Ideal.τ).loc Cert.Norm1Ideal.main_arg5)
      ∧ m' ((c.tc : Thread Cert.Norm1RefIdeal.nD Cert.Norm1RefIdeal.τ).loc Cert.Norm1RefIdeal.main_arg6) = m ((c.tc : Thread Cert.Norm1Ideal.nD Cert.Norm1Ideal.τ).loc Cert.Norm1Ideal.main_arg6)
      ∧ m' ((c.tc : Thread Cert.Norm1RefIdeal.nD Cert.Norm1RefIdeal.τ).loc Cert.Norm1RefIdeal.main_arg7) = m ((c.tc : Thread Cert.Norm1Ideal.nD Cert.Norm1Ideal.τ).loc Cert.Norm1Ideal.main_arg7)) →
    ∃ (v0 : (c : Dev Cert.Norm1Ideal.nD) → Buf (Elt Ideal) ((c.tc : Thread Cert.Norm1Ideal.nD Cert.Norm1Ideal.τ).loc Cert.Norm1Ideal.main_v7_0)) (v1 : (c : Dev Cert.Norm1Ideal.nD) → Buf (Elt Ideal) ((c.tc : Thread Cert.Norm1Ideal.nD Cert.Norm1Ideal.τ).loc Cert.Norm1Ideal.main_v7_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v7_0) = v0 c
          ∧ r.2.mem ((c.tc : Thread Cert.Norm1Ideal.nD Cert.Norm1Ideal.τ).loc Cert.Norm1Ideal.main_v7_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
          ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
          ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6)
          ∧ r.2.mem ((c.tc : Thread Cert.Norm1Ideal.nD Cert.Norm1Ideal.τ).loc Cert.Norm1Ideal.main_arg7) = m ((c.tc : Thread Cert.Norm1Ideal.nD Cert.Norm1Ideal.τ).loc Cert.Norm1Ideal.main_arg7))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v37) = v0 c
          ∧ r.2.mem ((c.tc : Thread Cert.Norm1RefIdeal.nD Cert.Norm1RefIdeal.τ).loc Cert.Norm1RefIdeal.main_v44) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4)
          ∧ r.2.mem ((c.tc : Thread Cert.Norm1RefIdeal.nD Cert.Norm1RefIdeal.τ).loc Cert.Norm1RefIdeal.main_arg5) = m' ((c.tc : Thread Cert.Norm1RefIdeal.nD Cert.Norm1RefIdeal.τ).loc Cert.Norm1RefIdeal.main_arg5)
          ∧ r.2.mem ((c.tc : Thread Cert.Norm1RefIdeal.nD Cert.Norm1RefIdeal.τ).loc Cert.Norm1RefIdeal.main_arg6) = m' ((c.tc : Thread Cert.Norm1RefIdeal.nD Cert.Norm1RefIdeal.τ).loc Cert.Norm1RefIdeal.main_arg6)
          ∧ r.2.mem ((c.tc : Thread Cert.Norm1RefIdeal.nD Cert.Norm1RefIdeal.τ).loc Cert.Norm1RefIdeal.main_arg7) = m' ((c.tc : Thread Cert.Norm1RefIdeal.nD Cert.Norm1RefIdeal.τ).loc Cert.Norm1RefIdeal.main_arg7))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)) →
    ∃ (v0 : (c : Dev Cert.QkIdeal.nD) → Buf (Elt Ideal) ((c.tc : Thread Cert.QkIdeal.nD Cert.QkIdeal.τ).loc Cert.QkIdeal.main_v3)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v3) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v47) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2))

def preserves_Vv_VvIdeal : Prop :=
  True

def algebraic_VvIdeal_VvRefIdeal [hVvIdeal : Cert.VvIdeal.Facts] [hVvRefIdeal : Cert.VvRefIdeal.Facts] : Prop :=
  ∀ (m : (ℓ : Loc Cert.VvIdeal.nD Cert.VvIdeal.τ Cert.VvIdeal.sig) → Buf (Elt Ideal) ℓ) (g : Dev Cert.VvIdeal.nD → PrngReg)
    (m' : (ℓ : Loc Cert.VvRefIdeal.nD Cert.VvRefIdeal.τ Cert.VvRefIdeal.sig) → Buf (Elt Ideal) ℓ) (g' : Dev Cert.VvRefIdeal.nD → PrngReg), Pre_VvIdeal m →
    (∀ c : Dev Cert.VvIdeal.nD,
      m' ((c.tc : Thread Cert.VvRefIdeal.nD Cert.VvRefIdeal.τ).loc Cert.VvRefIdeal.main_arg0) = m ((c.tc : Thread Cert.VvIdeal.nD Cert.VvIdeal.τ).loc Cert.VvIdeal.main_arg0)
      ∧ m' ((c.tc : Thread Cert.VvRefIdeal.nD Cert.VvRefIdeal.τ).loc Cert.VvRefIdeal.main_arg1) = m ((c.tc : Thread Cert.VvIdeal.nD Cert.VvIdeal.τ).loc Cert.VvIdeal.main_arg1)
      ∧ m' ((c.tc : Thread Cert.VvRefIdeal.nD Cert.VvRefIdeal.τ).loc Cert.VvRefIdeal.main_arg2) = m ((c.tc : Thread Cert.VvIdeal.nD Cert.VvIdeal.τ).loc Cert.VvIdeal.main_arg2)) →
    ∃ (v0 : (c : Dev Cert.VvIdeal.nD) → Buf (Elt Ideal) ((c.tc : Thread Cert.VvIdeal.nD Cert.VvIdeal.τ).loc Cert.VvIdeal.main_v3)),
      θ_run (Cert.VvIdeal.defs (F := Ideal)) (onTc (τ := Cert.VvIdeal.τ) (Cert.VvIdeal.main (F := Ideal))) ⟨m, fun _ => 0, g⟩ (fun r => ∀ c : Dev Cert.VvIdeal.nD,
          r.2.mem ((c.tc : Thread Cert.VvIdeal.nD Cert.VvIdeal.τ).loc Cert.VvIdeal.main_v3) = v0 c
          ∧ r.2.mem ((c.tc : Thread Cert.VvIdeal.nD Cert.VvIdeal.τ).loc Cert.VvIdeal.main_arg0) = m ((c.tc : Thread Cert.VvIdeal.nD Cert.VvIdeal.τ).loc Cert.VvIdeal.main_arg0)
          ∧ r.2.mem ((c.tc : Thread Cert.VvIdeal.nD Cert.VvIdeal.τ).loc Cert.VvIdeal.main_arg1) = m ((c.tc : Thread Cert.VvIdeal.nD Cert.VvIdeal.τ).loc Cert.VvIdeal.main_arg1)
          ∧ r.2.mem ((c.tc : Thread Cert.VvIdeal.nD Cert.VvIdeal.τ).loc Cert.VvIdeal.main_arg2) = m ((c.tc : Thread Cert.VvIdeal.nD Cert.VvIdeal.τ).loc Cert.VvIdeal.main_arg2))
      ∧ θ_run (Cert.VvRefIdeal.defs (F := Ideal)) (onTc (τ := Cert.VvRefIdeal.τ) (Cert.VvRefIdeal.main (F := Ideal))) ⟨m', fun _ => 0, g'⟩ (fun r => ∀ c : Dev Cert.VvRefIdeal.nD,
          r.2.mem ((c.tc : Thread Cert.VvRefIdeal.nD Cert.VvRefIdeal.τ).loc Cert.VvRefIdeal.main_v37) = v0 c
          ∧ r.2.mem ((c.tc : Thread Cert.VvRefIdeal.nD Cert.VvRefIdeal.τ).loc Cert.VvRefIdeal.main_arg0) = m' ((c.tc : Thread Cert.VvRefIdeal.nD Cert.VvRefIdeal.τ).loc Cert.VvRefIdeal.main_arg0)
          ∧ r.2.mem ((c.tc : Thread Cert.VvRefIdeal.nD Cert.VvRefIdeal.τ).loc Cert.VvRefIdeal.main_arg1) = m' ((c.tc : Thread Cert.VvRefIdeal.nD Cert.VvRefIdeal.τ).loc Cert.VvRefIdeal.main_arg1)
          ∧ r.2.mem ((c.tc : Thread Cert.VvRefIdeal.nD Cert.VvRefIdeal.τ).loc Cert.VvRefIdeal.main_arg2) = m' ((c.tc : Thread Cert.VvRefIdeal.nD Cert.VvRefIdeal.τ).loc Cert.VvRefIdeal.main_arg2))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v6) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2))

def preserves_SmallProj_SmallProjIdeal : Prop :=
  True

def algebraic_SmallProjIdeal_SmallProjRefIdeal [hSmallProjIdeal : Cert.SmallProjIdeal.Facts] [hSmallProjRefIdeal : Cert.SmallProjRefIdeal.Facts] : Prop :=
  ∀ (m : (ℓ : Loc Cert.SmallProjIdeal.nD Cert.SmallProjIdeal.τ Cert.SmallProjIdeal.sig) → Buf (Elt Ideal) ℓ) (g : Dev Cert.SmallProjIdeal.nD → PrngReg)
    (m' : (ℓ : Loc Cert.SmallProjRefIdeal.nD Cert.SmallProjRefIdeal.τ Cert.SmallProjRefIdeal.sig) → Buf (Elt Ideal) ℓ) (g' : Dev Cert.SmallProjRefIdeal.nD → PrngReg), Pre_SmallProjIdeal m →
    (∀ c : Dev Cert.SmallProjIdeal.nD,
      m' ((c.tc : Thread Cert.SmallProjRefIdeal.nD Cert.SmallProjRefIdeal.τ).loc Cert.SmallProjRefIdeal.main_arg0) = m ((c.tc : Thread Cert.SmallProjIdeal.nD Cert.SmallProjIdeal.τ).loc Cert.SmallProjIdeal.main_arg0)
      ∧ m' ((c.tc : Thread Cert.SmallProjRefIdeal.nD Cert.SmallProjRefIdeal.τ).loc Cert.SmallProjRefIdeal.main_arg1) = m ((c.tc : Thread Cert.SmallProjIdeal.nD Cert.SmallProjIdeal.τ).loc Cert.SmallProjIdeal.main_arg1)) →
    ∃ (v0 : (c : Dev Cert.SmallProjIdeal.nD) → Buf (Elt Ideal) ((c.tc : Thread Cert.SmallProjIdeal.nD Cert.SmallProjIdeal.τ).loc Cert.SmallProjIdeal.main_v2)),
      θ_run (Cert.SmallProjIdeal.defs (F := Ideal)) (onTc (τ := Cert.SmallProjIdeal.τ) (Cert.SmallProjIdeal.main (F := Ideal))) ⟨m, fun _ => 0, g⟩ (fun r => ∀ c : Dev Cert.SmallProjIdeal.nD,
          r.2.mem ((c.tc : Thread Cert.SmallProjIdeal.nD Cert.SmallProjIdeal.τ).loc Cert.SmallProjIdeal.main_v2) = v0 c
          ∧ r.2.mem ((c.tc : Thread Cert.SmallProjIdeal.nD Cert.SmallProjIdeal.τ).loc Cert.SmallProjIdeal.main_arg0) = m ((c.tc : Thread Cert.SmallProjIdeal.nD Cert.SmallProjIdeal.τ).loc Cert.SmallProjIdeal.main_arg0)
          ∧ r.2.mem ((c.tc : Thread Cert.SmallProjIdeal.nD Cert.SmallProjIdeal.τ).loc Cert.SmallProjIdeal.main_arg1) = m ((c.tc : Thread Cert.SmallProjIdeal.nD Cert.SmallProjIdeal.τ).loc Cert.SmallProjIdeal.main_arg1))
      ∧ θ_run (Cert.SmallProjRefIdeal.defs (F := Ideal)) (onTc (τ := Cert.SmallProjRefIdeal.τ) (Cert.SmallProjRefIdeal.main (F := Ideal))) ⟨m', fun _ => 0, g'⟩ (fun r => ∀ c : Dev Cert.SmallProjRefIdeal.nD,
          r.2.mem ((c.tc : Thread Cert.SmallProjRefIdeal.nD Cert.SmallProjRefIdeal.τ).loc Cert.SmallProjRefIdeal.main_v8) = v0 c
          ∧ r.2.mem ((c.tc : Thread Cert.SmallProjRefIdeal.nD Cert.SmallProjRefIdeal.τ).loc Cert.SmallProjRefIdeal.main_arg0) = m' ((c.tc : Thread Cert.SmallProjRefIdeal.nD Cert.SmallProjRefIdeal.τ).loc Cert.SmallProjRefIdeal.main_arg0)
          ∧ r.2.mem ((c.tc : Thread Cert.SmallProjRefIdeal.nD Cert.SmallProjRefIdeal.τ).loc Cert.SmallProjRefIdeal.main_arg1) = m' ((c.tc : Thread Cert.SmallProjRefIdeal.nD Cert.SmallProjRefIdeal.τ).loc Cert.SmallProjRefIdeal.main_arg1))

def preserves_Gates_GatesIdeal : Prop :=
  True

def Claim : Prop :=
  ∃ (hFox : Cert.Fox.Facts) (hFoxIdeal : Cert.FoxIdeal.Facts) (hFoxRefIdeal : Cert.FoxRefIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hFoxProj : Cert.FoxProj.Facts) (hFoxProjIdeal : Cert.FoxProjIdeal.Facts) (hFoxProjRefIdeal : Cert.FoxProjRefIdeal.Facts) (hGateProj : Cert.GateProj.Facts) (hGateProjIdeal : Cert.GateProjIdeal.Facts) (hGateProjRefIdeal : Cert.GateProjRefIdeal.Facts) (hZProj : Cert.ZProj.Facts) (hZProjIdeal : Cert.ZProjIdeal.Facts) (hZProjRefIdeal : Cert.ZProjRefIdeal.Facts) (hMerge : Cert.Merge.Facts) (hMergeIdeal : Cert.MergeIdeal.Facts) (hMergeRefIdeal : Cert.MergeRefIdeal.Facts) (hConva : Cert.Conva.Facts) (hConvaIdeal : Cert.ConvaIdeal.Facts) (hConvaRefIdeal : Cert.ConvaRefIdeal.Facts) (hNorm1 : Cert.Norm1.Facts) (hNorm1Ideal : Cert.Norm1Ideal.Facts) (hNorm1RefIdeal : Cert.Norm1RefIdeal.Facts) (hQk : Cert.Qk.Facts) (hQkIdeal : Cert.QkIdeal.Facts) (hQkRefIdeal : Cert.QkRefIdeal.Facts) (hVv : Cert.Vv.Facts) (hVvIdeal : Cert.VvIdeal.Facts) (hVvRefIdeal : Cert.VvRefIdeal.Facts) (hModulate : Cert.Modulate.Facts) (hModulateIdeal : Cert.ModulateIdeal.Facts) (hModulateRefIdeal : Cert.ModulateRefIdeal.Facts) (hSmallProj : Cert.SmallProj.Facts) (hSmallProjIdeal : Cert.SmallProjIdeal.Facts) (hSmallProjRefIdeal : Cert.SmallProjRefIdeal.Facts) (hGates : Cert.Gates.Facts) (hGatesIdeal : Cert.GatesIdeal.Facts) (hGatesRefIdeal : Cert.GatesRefIdeal.Facts) (hPre_fox_finite : Cert.Pre_fox_finite.Facts),
    quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_FoxProj (hFoxProj := hFoxProj)
    ∧ quiescent_FoxProjIdeal (hFoxProjIdeal := hFoxProjIdeal)
    ∧ quiescent_FoxProjRefIdeal (hFoxProjRefIdeal := hFoxProjRefIdeal)
    ∧ quiescent_GateProj (hGateProj := hGateProj)
    ∧ quiescent_GateProjIdeal (hGateProjIdeal := hGateProjIdeal)
    ∧ quiescent_GateProjRefIdeal (hGateProjRefIdeal := hGateProjRefIdeal)
    ∧ quiescent_ZProj (hZProj := hZProj)
    ∧ quiescent_ZProjIdeal (hZProjIdeal := hZProjIdeal)
    ∧ quiescent_ZProjRefIdeal (hZProjRefIdeal := hZProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Conva (hConva := hConva)
    ∧ quiescent_ConvaIdeal (hConvaIdeal := hConvaIdeal)
    ∧ quiescent_ConvaRefIdeal (hConvaRefIdeal := hConvaRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Qk (hQk := hQk)
    ∧ quiescent_QkIdeal (hQkIdeal := hQkIdeal)
    ∧ quiescent_QkRefIdeal (hQkRefIdeal := hQkRefIdeal)
    ∧ quiescent_Vv (hVv := hVv)
    ∧ quiescent_VvIdeal (hVvIdeal := hVvIdeal)
    ∧ quiescent_VvRefIdeal (hVvRefIdeal := hVvRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_SmallProj (hSmallProj := hSmallProj)
    ∧ quiescent_SmallProjIdeal (hSmallProjIdeal := hSmallProjIdeal)
    ∧ quiescent_SmallProjRefIdeal (hSmallProjRefIdeal := hSmallProjRefIdeal)
    ∧ quiescent_Gates (hGates := hGates)
    ∧ quiescent_GatesIdeal (hGatesIdeal := hGatesIdeal)
    ∧ quiescent_GatesRefIdeal (hGatesRefIdeal := hGatesRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_FoxProj_FoxProjIdeal
    ∧ algebraic_FoxProjIdeal_FoxProjRefIdeal (hFoxProjIdeal := hFoxProjIdeal) (hFoxProjRefIdeal := hFoxProjRefIdeal)
    ∧ preserves_GateProj_GateProjIdeal
    ∧ algebraic_GateProjIdeal_GateProjRefIdeal (hGateProjIdeal := hGateProjIdeal) (hGateProjRefIdeal := hGateProjRefIdeal)
    ∧ preserves_ZProj_ZProjIdeal
    ∧ algebraic_ZProjIdeal_ZProjRefIdeal (hZProjIdeal := hZProjIdeal) (hZProjRefIdeal := hZProjRefIdeal)
    ∧ preserves_Merge_MergeIdeal
    ∧ algebraic_MergeIdeal_MergeRefIdeal (hMergeIdeal := hMergeIdeal) (hMergeRefIdeal := hMergeRefIdeal)
    ∧ preserves_Conva_ConvaIdeal
    ∧ algebraic_ConvaIdeal_ConvaRefIdeal (hConvaIdeal := hConvaIdeal) (hConvaRefIdeal := hConvaRefIdeal)
    ∧ preserves_Norm1_Norm1Ideal
    ∧ algebraic_Norm1Ideal_Norm1RefIdeal (hNorm1Ideal := hNorm1Ideal) (hNorm1RefIdeal := hNorm1RefIdeal)
    ∧ preserves_Qk_QkIdeal
    ∧ algebraic_QkIdeal_QkRefIdeal (hQkIdeal := hQkIdeal) (hQkRefIdeal := hQkRefIdeal)
    ∧ preserves_Vv_VvIdeal
    ∧ algebraic_VvIdeal_VvRefIdeal (hVvIdeal := hVvIdeal) (hVvRefIdeal := hVvRefIdeal)
    ∧ preserves_Modulate_ModulateIdeal
    ∧ algebraic_ModulateIdeal_ModulateRefIdeal (hModulateIdeal := hModulateIdeal) (hModulateRefIdeal := hModulateRefIdeal)
    ∧ preserves_SmallProj_SmallProjIdeal
    ∧ algebraic_SmallProjIdeal_SmallProjRefIdeal (hSmallProjIdeal := hSmallProjIdeal) (hSmallProjRefIdeal := hSmallProjRefIdeal)
    ∧ preserves_Gates_GatesIdeal
-- ==== Pre_fox_finite.lean ====
abbrev S4x2048x6144 : Shape := ⟨3, ![4, 2048, 6144]⟩
abbrev S4x2048x128 : Shape := ⟨3, ![4, 2048, 128]⟩
abbrev S2x2048x2048 : Shape := ⟨3, ![2, 2048, 2048]⟩
abbrev S4x2048x4096 : Shape := ⟨3, ![4, 2048, 4096]⟩
abbrev S_ : Shape := ⟨0, ![]⟩
abbrev S4x2048x16 : Shape := ⟨3, ![4, 2048, 16]⟩

class Facts : Prop where
  slices_S4x2048x6144_S4x2048x4096_0_0_0 : S4x2048x6144.Slices ![0, 0, 0] S4x2048x4096
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  slices_S4x2048x128_S4x2048x16_0_0_64 : S4x2048x128.Slices ![0, 0, 64] S4x2048x16
  bcast_S_S4x2048x16 : S_.BroadcastsInDim S4x2048x16 (![] : Fin 0 → Fin S4x2048x16.rank)
  reducesTo_S4x2048x16_S_d0_1_2 : S4x2048x16.ReducesTo [0, 1, 2] S_

variable [Facts]

def fn {F : FTy → Type} [FloatOps F] (main_arg0 : FVec F S4x2048x6144 .bf16) (main_arg1 : FVec F S4x2048x128 .f32) (main_arg2 : FVec F S2x2048x2048 .f32) : IVec S_ 1 :=
  let main_v0 : FVec F S4x2048x4096 .bf16 := (extractStridedSlice S4x2048x4096 ![0, 0, 0] · slices_S4x2048x6144_S4x2048x4096_0_0_0) main_arg0
  let main_v1 : FVec F S4x2048x4096 .bf16 := Host.absf main_v0
  let main_cst : FVec F S_ .bf16 := constant S_ .bf16 0x7F80#16
  let main_v2 : FVec F S4x2048x4096 .bf16 := broadcastInDim S4x2048x4096 ![] bcast_S_S4x2048x4096 main_cst
  let main_v3 : IVec S4x2048x4096 1 := cmpf .olt main_v1 main_v2
  let main_c : IVec S_ 1 := constantI S_ 1 1#1
  let main_v4 : IVec S_ 1 := (fun x v => Host.reduce IntOp.andi x v reducesTo_S4x2048x4096_S_d0_1_2 h_S_) main_v3 main_c
  let main_v5 : FVec F S4x2048x16 .f32 := (extractStridedSlice S4x2048x16 ![0, 0, 64] · slices_S4x2048x128_S4x2048x16_0_0_64) main_arg1
  let main_v6 : FVec F S4x2048x16 .f32 := Host.absf main_v5
  let main_cst_0 : FVec F S_ .f32 := constant S_ .f32 0x7F800000#32
  let main_v7 : FVec F S4x2048x16 .f32 := broadcastInDim S4x2048x16 ![] bcast_S_S4x2048x16 main_cst_0
  let main_v8 : IVec S4x2048x16 1 := cmpf .olt main_v6 main_v7
  let main_c_1 : IVec S_ 1 := constantI S_ 1 1#1
  let main_v9 : IVec S_ 1 := (fun x v => Host.reduce IntOp.andi x v reducesTo_S4x2048x16_S_d0_1_2 h_S_) main_v8 main_c_1
  let main_v10 : IVec S_ 1 := andi main_v4 main_v9
  main_v10
-- ==== Fox.lean ====
abbrev S4x2048x6144 : Shape := ⟨3, ![4, 2048, 6144]⟩
abbrev S4x2048x128 : Shape := ⟨3, ![4, 2048, 128]⟩
abbrev S2x2048x2048 : Shape := ⟨3, ![2, 2048, 2048]⟩
abbrev S4x128x2048 : Shape := ⟨3, ![4, 128, 2048]⟩
abbrev S4x2048x2048 : Shape := ⟨3, ![4, 2048, 2048]⟩
abbrev S1x2048x2048 : Shape := ⟨3, ![1, 2048, 2048]⟩
abbrev S1x2048x256 : Shape := ⟨3, ![1, 2048, 256]⟩
abbrev S1x2048x128 : Shape := ⟨3, ![1, 2048, 128]⟩
abbrev S1x128x2048 : Shape := ⟨3, ![1, 128, 2048]⟩
abbrev S1x64x2048 : Shape := ⟨3, ![1, 64, 2048]⟩
abbrev S2048x128 : Shape := ⟨2, ![2048, 128]⟩
abbrev S256x256 : Shape := ⟨2, ![256, 256]⟩
abbrev S2048 : Shape := ⟨1, ![2048]⟩
abbrev S2048x1 : Shape := ⟨2, ![2048, 1]⟩
abbrev S1x1x2048 : Shape := ⟨3, ![1, 1, 2048]⟩
abbrev S1x2048 : Shape := ⟨2, ![1, 2048]⟩
abbrev S1x256x128 : Shape := ⟨3, ![1, 256, 128]⟩
abbrev S256x128 : Shape := ⟨2, ![256, 128]⟩
abbrev S1x256 : Shape := ⟨2, ![1, 256]⟩
abbrev S256x1 : Shape := ⟨2, ![256, 1]⟩
abbrev S256 : Shape := ⟨1, ![256]⟩
abbrev S1x512x128 : Shape := ⟨3, ![1, 512, 128]⟩
abbrev S512x128 : Shape := ⟨2, ![512, 128]⟩
abbrev S256x512 : Shape := ⟨2, ![256, 512]⟩
abbrev S1x512 : Shape := ⟨2, ![1, 512]⟩
abbrev S1x768x128 : Shape := ⟨3, ![1, 768, 128]⟩
abbrev S768x128 : Shape := ⟨2, ![768, 128]⟩
abbrev S256x768 : Shape := ⟨2, ![256, 768]⟩
abbrev S1x768 : Shape := ⟨2, ![1, 768]⟩
abbrev S1x1024x128 : Shape := ⟨3, ![1, 1024, 128]⟩
abbrev S1024x128 : Shape := ⟨2, ![1024, 128]⟩
abbrev S256x1024 : Shape := ⟨2, ![256, 1024]⟩
abbrev S1x1024 : Shape := ⟨2, ![1, 1024]⟩
abbrev S1x1280x128 : Shape := ⟨3, ![1, 1280, 128]⟩
abbrev S1280x128 : Shape := ⟨2, ![1280, 128]⟩
abbrev S256x1280 : Shape := ⟨2, ![256, 1280]⟩
abbrev S1x1280 : Shape := ⟨2, ![1, 1280]⟩
abbrev S1x1536x128 : Shape := ⟨3, ![1, 1536, 128]⟩
abbrev S1536x128 : Shape := ⟨2, ![1536, 128]⟩
abbrev S256x1536 : Shape := ⟨2, ![256, 1536]⟩
abbrev S1x1536 : Shape := ⟨2, ![1, 1536]⟩
abbrev S1x1792x128 : Shape := ⟨3, ![1, 1792, 128]⟩
abbrev S1792x128 : Shape := ⟨2, ![1792, 128]⟩
abbrev S256x1792 : Shape := ⟨2, ![256, 1792]⟩
abbrev S1x1792 : Shape := ⟨2, ![1, 1792]⟩
abbrev S64x2048 : Shape := ⟨2, ![64, 2048]⟩

abbrev nBuf : Space → Nat
  | .hbm => 6
  | .vmem => 16
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x128, .f32⟩
  | .hbm, ⟨2, _⟩ => ⟨S2x2048x2048, .f32⟩
  | .hbm, ⟨3, _⟩ => ⟨S4x128x2048, .f32⟩
  | .hbm, ⟨4, _⟩ => ⟨S4x2048x2048, .bf16⟩
  | .hbm, ⟨5, _⟩ => ⟨S1x2048x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .f32⟩
  | .local _ .vmem, ⟨7, _⟩ => ⟨S1x2048x128, .f32⟩
  | .local _ .vmem, ⟨8, _⟩ => ⟨S1x128x2048, .f32⟩
  | .local _ .vmem, ⟨9, _⟩ => ⟨S1x128x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x2048x256, .bf16⟩
  | .local _ .vmem, ⟨13, _⟩ => ⟨S1x2048x256, .bf16⟩
  | .local _ .vmem, ⟨14, _⟩ => ⟨S1x64x2048, .bf16⟩
  | .local _ .vmem, ⟨15, _⟩ => ⟨S1x64x2048, .bf16⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_off1 (i : grid0.Coords) (c0_i32 : BitVec 32) : Fin 3 → Nat :=
  let c0_4 : Index := 0#32
  let c64_i32 : BitVec 32 := 64#32
  let arg1 : BitVec 32 := BitVec.ofNat 32 (i 1).val
  let c2_i32 : BitVec 32 := 2#32
  let v4 : BitVec 32 := Scalar.muli arg1 c2_i32
  let v5 : BitVec 32 := Scalar.addi c64_i32 v4
  let v6 : BitVec 32 := Scalar.addi v5 c0_i32
  let v17 : Index := Scalar.indexCast v6
  let c0_5 : Index := 0#32
  ![0, v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FoxIdeal.lean ====
variable {F : FTy → Type} [FloatOps F] [Named F]
def κ : String → Option EReal := fun
  | "c1" => some (((Real.log 2)⁻¹ * (Real.sqrt 128)⁻¹ : ℝ) : EReal)
  | "log2e" => some (((Real.log 2)⁻¹ : ℝ) : EReal)
  | "mask" => some ⊥
  | _ => none
-- ==== FoxRefIdeal.lean ====
abbrev S4x2048x6144 : Shape := ⟨3, ![4, 2048, 6144]⟩
abbrev S4x2048x128 : Shape := ⟨3, ![4, 2048, 128]⟩
abbrev S2x2048x2048 : Shape := ⟨3, ![2, 2048, 2048]⟩
abbrev S4x2048x2048 : Shape := ⟨3, ![4, 2048, 2048]⟩
abbrev S4x2048x16x128 : Shape := ⟨4, ![4, 2048, 16, 128]⟩
abbrev S4x16x2048x128 : Shape := ⟨4, ![4, 16, 2048, 128]⟩
abbrev S4x2048x16 : Shape := ⟨3, ![4, 2048, 16]⟩
abbrev S4x16x2048 : Shape := ⟨3, ![4, 16, 2048]⟩
abbrev S_ : Shape := ⟨0, ![]⟩
abbrev S4x16x2048x2048 : Shape := ⟨4, ![4, 16, 2048, 2048]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x128, .f32⟩
  | .hbm, ⟨2, _⟩ => ⟨S2x2048x2048, .f32⟩
  | .hbm, ⟨3, _⟩ => ⟨S4x2048x6144, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x16x128, .f32⟩
  | .hbm, ⟨8, _⟩ => ⟨S4x16x2048x128, .f32⟩
  | .hbm, ⟨9, _⟩ => ⟨S4x2048x16x128, .f32⟩
  | .hbm, ⟨10, _⟩ => ⟨S4x16x2048x128, .f32⟩
  | .hbm, ⟨11, _⟩ => ⟨S4x2048x16x128, .f32⟩
  | .hbm, ⟨12, _⟩ => ⟨S4x16x2048x128, .f32⟩
  | .hbm, ⟨13, _⟩ => ⟨S4x2048x16, .f32⟩
  | .hbm, ⟨14, _⟩ => ⟨S4x16x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x16x2048x2048, .f32⟩
  | .hbm, ⟨20, _⟩ => ⟨S4x16x2048x2048, .f32⟩
  | .hbm, ⟨21, _⟩ => ⟨S4x16x2048x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x1x2048, .f32⟩
  | .hbm, ⟨26, _⟩ => ⟨S4x16x2048x2048, .f32⟩
  | .hbm, ⟨27, _⟩ => ⟨S4x16x2048x2048, .f32⟩
  | .hbm, ⟨28, _⟩ => ⟨S2048, .i32⟩
  | .hbm, ⟨29, _⟩ => ⟨S2048x1, .i32⟩
  | .hbm, ⟨30, _⟩ => ⟨S2048, .i32⟩
  | .hbm, ⟨31, _⟩ => ⟨S1x2048, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S4x16x2048x2048, .i1⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S_, .f32⟩
  | .hbm, ⟨43, _⟩ => ⟨S4x16x2048, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x2048, .f32⟩
  | .hbm, ⟨49, _⟩ => ⟨S_, .f32⟩
  | .hbm, ⟨50, _⟩ => ⟨S4x16x2048, .f32⟩
  | .hbm, ⟨51, _⟩ => ⟨S4x16x2048x1, .f32⟩
  | .hbm, ⟨52, _⟩ => ⟨S4x16x2048x2048, .f32⟩
  | .hbm, ⟨53, _⟩ => ⟨S4x16x2048x2048, .f32⟩
  | .hbm, ⟨54, _⟩ => ⟨S4x16x2048x128, .f32⟩
  | .hbm, ⟨55, _⟩ => ⟨S4x2048x16x128, .f32⟩
  | .hbm, ⟨56, _⟩ => ⟨S4x2048x2048, .f32⟩
  | .hbm, ⟨57, _⟩ => ⟨S4x2048x2048, .bf16⟩
  | .hbm, ⟨58, _⟩ => ⟨S1x2048x2048, .f32⟩
  | .hbm, ⟨59, _⟩ => ⟨S1x2048x2048, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Ffn1.lean ====
abbrev S4x2048x2048 : Shape := ⟨3, ![4, 2048, 2048]⟩
abbrev S2x2048x8192 : Shape := ⟨3, ![2, 2048, 8192]⟩
abbrev S8192x2048 : Shape := ⟨2, ![8192, 2048]⟩
abbrev S8192x8192 : Shape := ⟨2, ![8192, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x8192, .f32⟩
  | .hbm, ⟨2, _⟩ => ⟨S8192x2048, .bf16⟩
  | .hbm, ⟨3, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Ffn1RefIdeal.lean ====
abbrev S4x2048x2048 : Shape := ⟨3, ![4, 2048, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S_ : Shape := ⟨0, ![]⟩
abbrev S8192x8192 : Shape := ⟨2, ![8192, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x8192, .f32⟩
  | .hbm, ⟨2, _⟩ => ⟨S4x2048x2048, .f32⟩
  | .hbm, ⟨3, _⟩ => ⟨S1x2048x8192, .f32⟩
  | .hbm, ⟨4, _⟩ => ⟨S2048x8192, .f32⟩
  | .hbm, ⟨5, _⟩ => ⟨S4x2048x8192, .f32⟩
  | .hbm, ⟨6, _⟩ => ⟨S_, .f32⟩
  | .hbm, ⟨7, _⟩ => ⟨S4x2048x8192, .f32⟩
  | .hbm, ⟨8, _⟩ => ⟨S4x2048x8192, .f32⟩
  | .hbm, ⟨9, _⟩ => ⟨S4x2048x8192, .f32⟩
  | .hbm, ⟨10, _⟩ => ⟨S4x2048x8192, .bf16⟩
  | .hbm, ⟨11, _⟩ => ⟨S8192x8192, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ffn2.lean ====
abbrev S8192x8192 : Shape := ⟨2, ![8192, 8192]⟩
abbrev S1x8192x2048 : Shape := ⟨3, ![1, 8192, 2048]⟩
abbrev S4x2048x2048 : Shape := ⟨3, ![4, 2048, 2048]⟩
abbrev S4x1x2048 : Shape := ⟨3, ![4, 1, 2048]⟩
abbrev S2x2048 : Shape := ⟨2, ![2, 2048]⟩
abbrev S1x2048 : Shape := ⟨2, ![1, 2048]⟩
abbrev S2048 : Shape := ⟨1, ![2048]⟩
abbrev S4x2048x8192 : Shape := ⟨3, ![4, 2048, 8192]⟩
abbrev S1x256x8192 : Shape := ⟨3, ![1, 256, 8192]⟩
abbrev S1x256x2048 : Shape := ⟨3, ![1, 256, 2048]⟩
abbrev S1x1x2048 : Shape := ⟨3, ![1, 1, 2048]⟩
abbrev S256x2048 : Shape := ⟨2, ![256, 2048]⟩
abbrev S256x8192 : Shape := ⟨2, ![256, 8192]⟩
abbrev S8192x2048 : Shape := ⟨2, ![8192, 2048]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S4x2048x2048, .f32⟩
  | .hbm, ⟨3, _⟩ => ⟨S4x1x2048, .f32⟩
  | .hbm, ⟨4, _⟩ => ⟨S2x2048, .f32⟩
  | .hbm, ⟨5, _⟩ => ⟨S2x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S4x2048x8192, .bf16⟩
  | .hbm, ⟨11, _⟩ => ⟨S1x2048, .f32⟩
  | .hbm, ⟨12, _⟩ => ⟨S1x2048, .f32⟩
  | .hbm, ⟨13, _⟩ => ⟨S4x2048x2048, .f32⟩
  | .local _ .vmem, ⟨0, _⟩ => ⟨S1x256x8192, .bf16⟩
  | .local _ .vmem, ⟨1, _⟩ => ⟨S1x256x8192, .bf16⟩
  | .local _ .vmem, ⟨2, _⟩ => ⟨S1x8192x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S1x256x2048, .f32⟩
  | .local _ .vmem, ⟨10, _⟩ => ⟨S1x256x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn2RefIdeal.lean ====
abbrev S8192x8192 : Shape := ⟨2, ![8192, 8192]⟩
abbrev S1x8192x2048 : Shape := ⟨3, ![1, 8192, 2048]⟩
abbrev S4x2048x2048 : Shape := ⟨3, ![4, 2048, 2048]⟩
abbrev S4x1x2048 : Shape := ⟨3, ![4, 1, 2048]⟩
abbrev S2x2048 : Shape := ⟨2, ![2, 2048]⟩
abbrev S4x2048x8192 : Shape := ⟨3, ![4, 2048, 8192]⟩
abbrev S_ : Shape := ⟨0, ![]⟩
abbrev S8192x2048 : Shape := ⟨2, ![8192, 2048]⟩
abbrev S1x2048 : Shape := ⟨2, ![1, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S4x2048x2048, .f32⟩
  | .hbm, ⟨3, _⟩ => ⟨S4x1x2048, .f32⟩
  | .hbm, ⟨4, _⟩ => ⟨S2x2048, .f32⟩
  | .hbm, ⟨5, _⟩ => ⟨S2x2048, .f32⟩
  | .hbm, ⟨6, _⟩ => ⟨S4x2048x8192, .bf16⟩
  | .hbm, ⟨7, _⟩ => ⟨S4x2048x8192, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S8192x2048, .bf16⟩
  | .hbm, ⟨12, _⟩ => ⟨S8192x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S1x1x2048, .f32⟩
  | .hbm, ⟨45, _⟩ => ⟨S4x2048x2048, .f32⟩
  | .hbm, ⟨46, _⟩ => ⟨S4x2048x2048, .f32⟩
  | .hbm, ⟨47, _⟩ => ⟨S1x1x2048, .f32⟩
  | .hbm, ⟨48, _⟩ => ⟨S4x2048x2048, .f32⟩
  | .hbm, ⟨49, _⟩ => ⟨S4x2048x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== FoxProj.lean ====
abbrev S4x2048x2048 : Shape := ⟨3, ![4, 2048, 2048]⟩
abbrev S2x2048x26704 : Shape := ⟨3, ![2, 2048, 26704]⟩
abbrev S8192x2048 : Shape := ⟨2, ![8192, 2048]⟩
abbrev S2x26704x2048 : Shape := ⟨3, ![2, 26704, 2048]⟩
abbrev S8192x6144 : Shape := ⟨2, ![8192, 6144]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S8192x2048, .bf16⟩
  | .hbm, ⟨3, _⟩ => ⟨S2x26704x2048, .f32⟩
  | .hbm, ⟨4, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def k0_mult1 (i : grid0.Coords) : BitVec 32 :=
  let c14400_i32 : BitVec 32 := 14400#32
  let arg0 : BitVec 32 := BitVec.ofNat 32 (i 0).val
  let c1024_i32 : BitVec 32 := 1024#32
  let v0 : BitVec 32 := Scalar.muli arg0 c1024_i32
  let v1 : BitVec 32 := Scalar.addi c14400_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c14400_i32 : BitVec 32 := 14400#32
  let v1 : BitVec 32 := Scalar.addi c14400_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FoxProjRefIdeal.lean ====
abbrev S4x2048x2048 : Shape := ⟨3, ![4, 2048, 2048]⟩
abbrev S2x2048x26704 : Shape := ⟨3, ![2, 2048, 26704]⟩
abbrev S1x2048x26704 : Shape := ⟨3, ![1, 2048, 26704]⟩
abbrev S2048x26704 : Shape := ⟨2, ![2048, 26704]⟩
abbrev S4x2048x26704 : Shape := ⟨3, ![4, 2048, 26704]⟩
abbrev S4x2048x6144 : Shape := ⟨3, ![4, 2048, 6144]⟩
abbrev S8192x6144 : Shape := ⟨2, ![8192, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S4x2048x2048, .f32⟩
  | .hbm, ⟨3, _⟩ => ⟨S1x2048x26704, .f32⟩
  | .hbm, ⟨4, _⟩ => ⟨S2048x26704, .f32⟩
  | .hbm, ⟨5, _⟩ => ⟨S4x2048x26704, .f32⟩
  | .hbm, ⟨6, _⟩ => ⟨S4x2048x6144, .f32⟩
  | .hbm, ⟨7, _⟩ => ⟨S4x2048x6144, .bf16⟩
  | .hbm, ⟨8, _⟩ => ⟨S8192x6144, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== GateProj.lean ====
abbrev S4x2048x2048 : Shape := ⟨3, ![4, 2048, 2048]⟩
abbrev S2x2048x26704 : Shape := ⟨3, ![2, 2048, 26704]⟩
abbrev S8192x2048 : Shape := ⟨2, ![8192, 2048]⟩
abbrev S2x26704x2048 : Shape := ⟨3, ![2, 26704, 2048]⟩
abbrev S8192x6144 : Shape := ⟨2, ![8192, 6144]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S8192x2048, .bf16⟩
  | .hbm, ⟨3, _⟩ => ⟨S2x26704x2048, .f32⟩
  | .hbm, ⟨4, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def k0_mult1 (i : grid0.Coords) : BitVec 32 :=
  let c20560_i32 : BitVec 32 := 20560#32
  let arg0 : BitVec 32 := BitVec.ofNat 32 (i 0).val
  let c1024_i32 : BitVec 32 := 1024#32
  let v0 : BitVec 32 := Scalar.muli arg0 c1024_i32
  let v1 : BitVec 32 := Scalar.addi c20560_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c20560_i32 : BitVec 32 := 20560#32
  let v1 : BitVec 32 := Scalar.addi c20560_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateProjRefIdeal.lean ====
abbrev S4x2048x2048 : Shape := ⟨3, ![4, 2048, 2048]⟩
abbrev S2x2048x26704 : Shape := ⟨3, ![2, 2048, 26704]⟩
abbrev S1x2048x26704 : Shape := ⟨3, ![1, 2048, 26704]⟩
abbrev S2048x26704 : Shape := ⟨2, ![2048, 26704]⟩
abbrev S4x2048x26704 : Shape := ⟨3, ![4, 2048, 26704]⟩
abbrev S4x2048x6144 : Shape := ⟨3, ![4, 2048, 6144]⟩
abbrev S8192x6144 : Shape := ⟨2, ![8192, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S4x2048x2048, .f32⟩
  | .hbm, ⟨3, _⟩ => ⟨S1x2048x26704, .f32⟩
  | .hbm, ⟨4, _⟩ => ⟨S2048x26704, .f32⟩
  | .hbm, ⟨5, _⟩ => ⟨S4x2048x26704, .f32⟩
  | .hbm, ⟨6, _⟩ => ⟨S4x2048x6144, .f32⟩
  | .hbm, ⟨7, _⟩ => ⟨S4x2048x6144, .bf16⟩
  | .hbm, ⟨8, _⟩ => ⟨S8192x6144, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== ZProj.lean ====
abbrev S4x2048x2048 : Shape := ⟨3, ![4, 2048, 2048]⟩
abbrev S2x2048x26704 : Shape := ⟨3, ![2, 2048, 26704]⟩
abbrev S8192x2048 : Shape := ⟨2, ![8192, 2048]⟩
abbrev S2x26704x2048 : Shape := ⟨3, ![2, 26704, 2048]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S8192x2048, .bf16⟩
  | .hbm, ⟨3, _⟩ => ⟨S2x26704x2048, .f32⟩
  | .hbm, ⟨4, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let c12288_i32 : BitVec 32 := 12288#32
  let arg0 : BitVec 32 := BitVec.ofNat 32 (i 0).val
  let c1024_i32 : BitVec 32 := 1024#32
  let v0 : BitVec 32 := Scalar.muli arg0 c1024_i32
  let v1 : BitVec 32 := Scalar.addi c12288_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c12288_i32 : BitVec 32 := 12288#32
  let v1 : BitVec 32 := Scalar.addi c12288_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZProjRefIdeal.lean ====
abbrev S4x2048x2048 : Shape := ⟨3, ![4, 2048, 2048]⟩
abbrev S2x2048x26704 : Shape := ⟨3, ![2, 2048, 26704]⟩
abbrev S1x2048x26704 : Shape := ⟨3, ![1, 2048, 26704]⟩
abbrev S2048x26704 : Shape := ⟨2, ![2048, 26704]⟩
abbrev S4x2048x26704 : Shape := ⟨3, ![4, 2048, 26704]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S4x2048x2048, .f32⟩
  | .hbm, ⟨3, _⟩ => ⟨S1x2048x26704, .f32⟩
  | .hbm, ⟨4, _⟩ => ⟨S2048x26704, .f32⟩
  | .hbm, ⟨5, _⟩ => ⟨S4x2048x26704, .f32⟩
  | .hbm, ⟨6, _⟩ => ⟨S4x2048x2048, .f32⟩
  | .hbm, ⟨7, _⟩ => ⟨S4x2048x2048, .bf16⟩
  | .hbm, ⟨8, _⟩ => ⟨S8192x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Merge.lean ====
abbrev S4x2048x2048 : Shape := ⟨3, ![4, 2048, 2048]⟩
abbrev S8192x6144 : Shape := ⟨2, ![8192, 6144]⟩
abbrev S2x2048x2048 : Shape := ⟨3, ![2, 2048, 2048]⟩
abbrev S2x8192x2048 : Shape := ⟨3, ![2, 8192, 2048]⟩
abbrev S8192x2048 : Shape := ⟨2, ![8192, 2048]⟩
abbrev S1x8192x2048 : Shape := ⟨3, ![1, 8192, 2048]⟩
abbrev S256x2048 : Shape := ⟨2, ![256, 2048]⟩
abbrev S256x1024 : Shape := ⟨2, ![256, 1024]⟩
abbrev S1x2048x1024 : Shape := ⟨3, ![1, 2048, 1024]⟩
abbrev S1x128x2048 : Shape := ⟨3, ![1, 128, 2048]⟩
abbrev S2048x1024 : Shape := ⟨2, ![2048, 1024]⟩
abbrev S128x2048 : Shape := ⟨2, ![128, 2048]⟩

abbrev nBuf : Space → Nat
  | .hbm => 13
  | .vmem => 27
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S4x2048x2048, .bf16⟩
  | .hbm, ⟨3, _⟩ => ⟨S8192x6144, .bf16⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x8192x2048, .f32⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S8192x2048, .bf16⟩
  | .hbm, ⟨12, _⟩ => ⟨S1x8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x2048x1024, .f32⟩
  | .local _ .vmem, ⟨13, _⟩ => ⟨S1x2048x1024, .f32⟩
  | .local _ .vmem, ⟨14, _⟩ => ⟨S1x2048x1024, .f32⟩
  | .local _ .vmem, ⟨15, _⟩ => ⟨S1x2048x1024, .f32⟩
  | .local _ .vmem, ⟨16, _⟩ => ⟨S1x2048x1024, .f32⟩
  | .local _ .vmem, ⟨17, _⟩ => ⟨S1x2048x1024, .f32⟩
  | .local _ .vmem, ⟨18, _⟩ => ⟨S1x128x2048, .f32⟩
  | .local _ .vmem, ⟨19, _⟩ => ⟨S1x128x2048, .f32⟩
  | .local _ .vmem, ⟨20, _⟩ => ⟨S256x1024, .bf16⟩
  | .local _ .vmem, ⟨21, _⟩ => ⟨S256x1024, .bf16⟩
  | .local _ .vmem, ⟨22, _⟩ => ⟨S1x128x2048, .bf16⟩
  | .local _ .vmem, ⟨23, _⟩ => ⟨S1x128x2048, .bf16⟩
  | .local _ .vmem, ⟨24, _⟩ => ⟨S2048x1024, .bf16⟩
  | .local _ .vmem, ⟨25, _⟩ => ⟨S2048x1024, .bf16⟩
  | .local _ .vmem, ⟨26, _⟩ => ⟨S2048x1024, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S4x2048x2048 : Shape := ⟨3, ![4, 2048, 2048]⟩
abbrev S8192x6144 : Shape := ⟨2, ![8192, 6144]⟩
abbrev S2x2048x2048 : Shape := ⟨3, ![2, 2048, 2048]⟩
abbrev S2x8192x2048 : Shape := ⟨3, ![2, 8192, 2048]⟩
abbrev S4x2048x6144 : Shape := ⟨3, ![4, 2048, 6144]⟩
abbrev S_ : Shape := ⟨0, ![]⟩
abbrev S1x2048x2048 : Shape := ⟨3, ![1, 2048, 2048]⟩
abbrev S2048x2048 : Shape := ⟨2, ![2048, 2048]⟩
abbrev S8192x2048 : Shape := ⟨2, ![8192, 2048]⟩
abbrev S1x8192x2048 : Shape := ⟨3, ![1, 8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S4x2048x2048, .bf16⟩
  | .hbm, ⟨3, _⟩ => ⟨S8192x6144, .bf16⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x8192x2048, .f32⟩
  | .hbm, ⟨8, _⟩ => ⟨S8192x6144, .f32⟩
  | .hbm, ⟨9, _⟩ => ⟨S4x2048x6144, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S1x2048x2048, .f32⟩
  | .hbm, ⟨23, _⟩ => ⟨S2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S1x2048x2048, .f32⟩
  | .hbm, ⟨36, _⟩ => ⟨S2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S1x2048x2048, .f32⟩
  | .hbm, ⟨50, _⟩ => ⟨S2048x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S4x2048x2048, .bf16⟩
  | .hbm, ⟨55, _⟩ => ⟨S8192x2048, .bf16⟩
  | .hbm, ⟨56, _⟩ => ⟨S1x8192x2048, .f32⟩
  | .hbm, ⟨57, _⟩ => ⟨S1x8192x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Conva.lean ====
abbrev S4x2048x2048 : Shape := ⟨3, ![4, 2048, 2048]⟩
abbrev S2x2048x26704 : Shape := ⟨3, ![2, 2048, 26704]⟩
abbrev S2x3x2048 : Shape := ⟨3, ![2, 3, 2048]⟩
abbrev S2x26704x2048 : Shape := ⟨3, ![2, 26704, 2048]⟩
abbrev S1x3x2048 : Shape := ⟨3, ![1, 3, 2048]⟩
abbrev S3x2048 : Shape := ⟨2, ![3, 2048]⟩
abbrev S1x2048x2048 : Shape := ⟨3, ![1, 2048, 2048]⟩
abbrev S1x256x2048 : Shape := ⟨3, ![1, 256, 2048]⟩
abbrev S3x256 : Shape := ⟨2, ![3, 256]⟩
abbrev S1x2048x256 : Shape := ⟨3, ![1, 2048, 256]⟩
abbrev S768x2048 : Shape := ⟨2, ![768, 2048]⟩
abbrev S256x2048 : Shape := ⟨2, ![256, 2048]⟩
abbrev S256x768 : Shape := ⟨2, ![256, 768]⟩
abbrev S8x256 : Shape := ⟨2, ![8, 256]⟩
abbrev S256x256 : Shape := ⟨2, ![256, 256]⟩
abbrev S1x256 : Shape := ⟨2, ![1, 256]⟩
abbrev S248x256 : Shape := ⟨2, ![248, 256]⟩
abbrev S1x256x256 : Shape := ⟨3, ![1, 256, 256]⟩

abbrev nBuf : Space → Nat
  | .hbm => 7
  | .vmem => 13
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S2x3x2048, .f32⟩
  | .hbm, ⟨3, _⟩ => ⟨S2x26704x2048, .f32⟩
  | .hbm, ⟨4, _⟩ => ⟨S1x3x2048, .f32⟩
  | .hbm, ⟨5, _⟩ => ⟨S3x2048, .f32⟩
  | .hbm, ⟨6, _⟩ => ⟨S4x2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S3x256, .f32⟩
  | .local _ .vmem, ⟨9, _⟩ => ⟨S3x256, .f32⟩
  | .local _ .vmem, ⟨10, _⟩ => ⟨S1x2048x256, .bf16⟩
  | .local _ .vmem, ⟨11, _⟩ => ⟨S1x2048x256, .bf16⟩
  | .local _ .vmem, ⟨12, _⟩ => ⟨S768x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c0_i32 : BitVec 32 := 0#32
  let arg0 : BitVec 32 := BitVec.ofNat 32 (i 0).val
  let c256_i32 : BitVec 32 := 256#32
  let v0 : BitVec 32 := Scalar.muli arg0 c256_i32
  let v1 : BitVec 32 := Scalar.addi c0_i32 v0
  v1
def k0_mult2 (i : grid0.Coords) : BitVec 32 :=
  let c2048_i32 : BitVec 32 := 2048#32
  let arg0 : BitVec 32 := BitVec.ofNat 32 (i 0).val
  let c256_i32 : BitVec 32 := 256#32
  let v0 : BitVec 32 := Scalar.muli arg0 c256_i32
  let v1 : BitVec 32 := Scalar.addi c2048_i32 v0
  v1
def k0_mult3 (i : grid0.Coords) : BitVec 32 :=
  let c4096_i32 : BitVec 32 := 4096#32
  let arg0 : BitVec 32 := BitVec.ofNat 32 (i 0).val
  let c256_i32 : BitVec 32 := 256#32
  let v0 : BitVec 32 := Scalar.muli arg0 c256_i32
  let v1 : BitVec 32 := Scalar.addi c4096_i32 v0
  v1
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c2048_i32 : BitVec 32 := 2048#32
  let v1 : BitVec 32 := Scalar.addi c2048_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c4096_i32 : BitVec 32 := 4096#32
  let v1 : BitVec 32 := Scalar.addi c4096_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvaRefIdeal.lean ====
abbrev S4x2048x2048 : Shape := ⟨3, ![4, 2048, 2048]⟩
abbrev S2x2048x26704 : Shape := ⟨3, ![2, 2048, 26704]⟩
abbrev S2x3x2048 : Shape := ⟨3, ![2, 3, 2048]⟩
abbrev S1x2048x26704 : Shape := ⟨3, ![1, 2048, 26704]⟩
abbrev S2048x26704 : Shape := ⟨2, ![2048, 26704]⟩
abbrev S4x2048x26704 : Shape := ⟨3, ![4, 2048, 26704]⟩
abbrev S1x3x2048 : Shape := ⟨3, ![1, 3, 2048]⟩
abbrev S3x2048 : Shape := ⟨2, ![3, 2048]⟩
abbrev S_ : Shape := ⟨0, ![]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S2x3x2048, .f32⟩
  | .hbm, ⟨3, _⟩ => ⟨S4x2048x2048, .f32⟩
  | .hbm, ⟨4, _⟩ => ⟨S1x2048x26704, .f32⟩
  | .hbm, ⟨5, _⟩ => ⟨S2048x26704, .f32⟩
  | .hbm, ⟨6, _⟩ => ⟨S4x2048x26704, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S1x3x2048, .f32⟩
  | .hbm, ⟨12, _⟩ => ⟨S3x2048, .f32⟩
  | .hbm, ⟨13, _⟩ => ⟨S_, .i32⟩
  | .hbm, ⟨14, _⟩ => ⟨S_, .f32⟩
  | .hbm, ⟨15, _⟩ => ⟨S4x2050x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Norm1.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S4x1x2048 : Shape := ⟨3, ![4, 1, 2048]⟩
abbrev S2x2048 : Shape := ⟨2, ![2, 2048]⟩
abbrev S1x2048 : Shape := ⟨2, ![1, 2048]⟩
abbrev S2048 : Shape := ⟨1, ![2048]⟩
abbrev S1x512x2048 : Shape := ⟨3, ![1, 512, 2048]⟩
abbrev S1x1x2048 : Shape := ⟨3, ![1, 1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S4x2048x2048, .f32⟩
  | .hbm, ⟨3, _⟩ => ⟨S4x1x2048, .f32⟩
  | .hbm, ⟨4, _⟩ => ⟨S2x2048, .f32⟩
  | .hbm, ⟨5, _⟩ => ⟨S2x2048, .f32⟩
  | .hbm, ⟨6, _⟩ => ⟨S4x1x2048, .f32⟩
  | .hbm, ⟨7, _⟩ => ⟨S4x1x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S4x2048x2048, .bf16⟩
  | .hbm, ⟨13, _⟩ => ⟨S1x2048, .f32⟩
  | .hbm, ⟨14, _⟩ => ⟨S1x2048, .f32⟩
  | .hbm, ⟨15, _⟩ => ⟨S4x2048x2048, .f32⟩
  | .hbm, ⟨16, _⟩ => ⟨S4x2048x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x512x2048, .f32⟩
  | .local _ .vmem, ⟨14, _⟩ => ⟨S1x512x2048, .f32⟩
  | .local _ .vmem, ⟨15, _⟩ => ⟨S1x512x2048, .bf16⟩
  | .local _ .vmem, ⟨16, _⟩ => ⟨S1x512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Norm1RefIdeal.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S4x1x2048 : Shape := ⟨3, ![4, 1, 2048]⟩
abbrev S2x2048 : Shape := ⟨2, ![2, 2048]⟩
abbrev S_ : Shape := ⟨0, ![]⟩
abbrev S2048x2048 : Shape := ⟨2, ![2048, 2048]⟩
abbrev S1x2048 : Shape := ⟨2, ![1, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S4x2048x2048, .f32⟩
  | .hbm, ⟨3, _⟩ => ⟨S4x1x2048, .f32⟩
  | .hbm, ⟨4, _⟩ => ⟨S2x2048, .f32⟩
  | .hbm, ⟨5, _⟩ => ⟨S2x2048, .f32⟩
  | .hbm, ⟨6, _⟩ => ⟨S4x1x2048, .f32⟩
  | .hbm, ⟨7, _⟩ => ⟨S4x1x2048, .f32⟩
  | .hbm, ⟨8, _⟩ => ⟨S4x2048x2048, .bf16⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S2048x2048, .bf16⟩
  | .hbm, ⟨14, _⟩ => ⟨S2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S1x1x2048, .f32⟩
  | .hbm, ⟨47, _⟩ => ⟨S4x2048x2048, .f32⟩
  | .hbm, ⟨48, _⟩ => ⟨S4x2048x2048, .f32⟩
  | .hbm, ⟨49, _⟩ => ⟨S1x1x2048, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x1x2048, .f32⟩
  | .hbm, ⟨54, _⟩ => ⟨S4x1x2048, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Qk.lean ====
abbrev S4x2048x2048 : Shape := ⟨3, ![4, 2048, 2048]⟩
abbrev S2x2048x26704 : Shape := ⟨3, ![2, 2048, 26704]⟩
abbrev S2x4x6144 : Shape := ⟨3, ![2, 4, 6144]⟩
abbrev S2x26704x2048 : Shape := ⟨3, ![2, 26704, 2048]⟩
abbrev S1x4x6144 : Shape := ⟨3, ![1, 4, 6144]⟩
abbrev S4x6144 : Shape := ⟨2, ![4, 6144]⟩
abbrev S4x2048x4096 : Shape := ⟨3, ![4, 2048, 4096]⟩
abbrev S1x2048x2048 : Shape := ⟨3, ![1, 2048, 2048]⟩
abbrev S1x1024x2048 : Shape := ⟨3, ![1, 1024, 2048]⟩
abbrev S4x1024 : Shape := ⟨2, ![4, 1024]⟩
abbrev S1x2048x1024 : Shape := ⟨3, ![1, 2048, 1024]⟩
abbrev S1024x2048 : Shape := ⟨2, ![1024, 2048]⟩
abbrev S2x264x1024 : Shape := ⟨3, ![2, 264, 1024]⟩
abbrev S1x256x2048 : Shape := ⟨3, ![1, 256, 2048]⟩
abbrev S256x2048 : Shape := ⟨2, ![256, 2048]⟩
abbrev S256x1024 : Shape := ⟨2, ![256, 1024]⟩
abbrev S1x256x1024 : Shape := ⟨3, ![1, 256, 1024]⟩
abbrev S8x1024 : Shape := ⟨2, ![8, 1024]⟩
abbrev S1x8x1024 : Shape := ⟨3, ![1, 8, 1024]⟩
abbrev S1x1024 : Shape := ⟨2, ![1, 1024]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S2x4x6144, .f32⟩
  | .hbm, ⟨3, _⟩ => ⟨S2x26704x2048, .f32⟩
  | .hbm, ⟨4, _⟩ => ⟨S1x4x6144, .f32⟩
  | .hbm, ⟨5, _⟩ => ⟨S4x6144, .f32⟩
  | .hbm, ⟨6, _⟩ => ⟨S4x2048x4096, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S4x1024, .f32⟩
  | .local _ .vmem, ⟨5, _⟩ => ⟨S4x1024, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1024x2048, .bf16⟩
  | .local _ .vmem, ⟨9, _⟩ => ⟨S2x264x1024, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c6144_i32 : BitVec 32 := 6144#32
  let arg0 : BitVec 32 := BitVec.ofNat 32 (i 0).val
  let c1024_i32 : BitVec 32 := 1024#32
  let v0 : BitVec 32 := Scalar.muli arg0 c1024_i32
  let v1 : BitVec 32 := Scalar.addi c6144_i32 v0
  v1
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c6144_i32 : BitVec 32 := 6144#32
  let v1 : BitVec 32 := Scalar.addi c6144_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkRefIdeal.lean ====
abbrev S4x2048x2048 : Shape := ⟨3, ![4, 2048, 2048]⟩
abbrev S2x2048x26704 : Shape := ⟨3, ![2, 2048, 26704]⟩
abbrev S2x4x6144 : Shape := ⟨3, ![2, 4, 6144]⟩
abbrev S1x2048x26704 : Shape := ⟨3, ![1, 2048, 26704]⟩
abbrev S2048x26704 : Shape := ⟨2, ![2048, 26704]⟩
abbrev S4x2048x26704 : Shape := ⟨3, ![4, 2048, 26704]⟩
abbrev S4x2048x4096 : Shape := ⟨3, ![4, 2048, 4096]⟩
abbrev S1x4x6144 : Shape := ⟨3, ![1, 4, 6144]⟩
abbrev S4x6144 : Shape := ⟨2, ![4, 6144]⟩
abbrev S4x4096 : Shape := ⟨2, ![4, 4096]⟩
abbrev S_ : Shape := ⟨0, ![]⟩
abbrev S4x2051x4096 : Shape := ⟨3, ![4, 2051, 4096]⟩
abbrev S1x4096 : Shape := ⟨2, ![1, 4096]⟩
abbrev S4096 : Shape := ⟨1, ![4096]⟩
abbrev S1x1x4096 : Shape := ⟨3, ![1, 1, 4096]⟩
abbrev S4x2048x32x128 : Shape := ⟨4, ![4, 2048, 32, 128]⟩
abbrev S4x2048x32 : Shape := ⟨3, ![4, 2048, 32]⟩
abbrev S4x2048x32x1 : Shape := ⟨4, ![4, 2048, 32, 1]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S2x4x6144, .f32⟩
  | .hbm, ⟨3, _⟩ => ⟨S4x2048x2048, .f32⟩
  | .hbm, ⟨4, _⟩ => ⟨S1x2048x26704, .f32⟩
  | .hbm, ⟨5, _⟩ => ⟨S2048x26704, .f32⟩
  | .hbm, ⟨6, _⟩ => ⟨S4x2048x26704, .f32⟩
  | .hbm, ⟨7, _⟩ => ⟨S4x2048x4096, .f32⟩
  | .hbm, ⟨8, _⟩ => ⟨S1x4x6144, .f32⟩
  | .hbm, ⟨9, _⟩ => ⟨S4x6144, .f32⟩
  | .hbm, ⟨10, _⟩ => ⟨S4x4096, .f32⟩
  | .hbm, ⟨11, _⟩ => ⟨S_, .i32⟩
  | .hbm, ⟨12, _⟩ => ⟨S_, .f32⟩
  | .hbm, ⟨13, _⟩ => ⟨S4x2051x4096, .f32⟩
  | .hbm, ⟨14, _⟩ => ⟨S4x2048x4096, .f32⟩
  | .hbm, ⟨15, _⟩ => ⟨S1x4096, .f32⟩
  | .hbm, ⟨16, _⟩ => ⟨S4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S1x4096, .f32⟩
  | .hbm, ⟨22, _⟩ => ⟨S4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S1x4096, .f32⟩
  | .hbm, ⟨29, _⟩ => ⟨S4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S1x4096, .f32⟩
  | .hbm, ⟨36, _⟩ => ⟨S4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S_, .f32⟩
  | .hbm, ⟨44, _⟩ => ⟨S4x2048x4096, .f32⟩
  | .hbm, ⟨45, _⟩ => ⟨S4x2048x4096, .f32⟩
  | .hbm, ⟨46, _⟩ => ⟨S_, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S4x2048x32x128, .f32⟩
  | .hbm, ⟨51, _⟩ => ⟨S4x2048x32x128, .f32⟩
  | .hbm, ⟨52, _⟩ => ⟨S_, .f32⟩
  | .hbm, ⟨53, _⟩ => ⟨S4x2048x32, .f32⟩
  | .hbm, ⟨54, _⟩ => ⟨S4x2048x32x1, .f32⟩
  | .hbm, ⟨55, _⟩ => ⟨S_, .f32⟩
  | .hbm, ⟨56, _⟩ => ⟨S4x2048x32x1, .f32⟩
  | .hbm, ⟨57, _⟩ => ⟨S4x2048x32x1, .f32⟩
  | .hbm, ⟨58, _⟩ => ⟨S4x2048x32x1, .f32⟩
  | .hbm, ⟨59, _⟩ => ⟨S4x2048x32x128, .f32⟩
  | .hbm, ⟨60, _⟩ => ⟨S4x2048x32x128, .f32⟩
  | .hbm, ⟨61, _⟩ => ⟨S4x2048x4096, .f32⟩
  | .hbm, ⟨62, _⟩ => ⟨S4x2048x4096, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_v40 : Ref sig .tc := ⟨.hbm, 54, rfl⟩
abbrev main_cst_0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Vv.lean ====
abbrev S4x2048x2048 : Shape := ⟨3, ![4, 2048, 2048]⟩
abbrev S2x2048x26704 : Shape := ⟨3, ![2, 2048, 26704]⟩
abbrev S2x4x6144 : Shape := ⟨3, ![2, 4, 6144]⟩
abbrev S2x26704x2048 : Shape := ⟨3, ![2, 26704, 2048]⟩
abbrev S1x4x6144 : Shape := ⟨3, ![1, 4, 6144]⟩
abbrev S4x6144 : Shape := ⟨2, ![4, 6144]⟩
abbrev S1x2048x2048 : Shape := ⟨3, ![1, 2048, 2048]⟩
abbrev S1x1024x2048 : Shape := ⟨3, ![1, 1024, 2048]⟩
abbrev S4x1024 : Shape := ⟨2, ![4, 1024]⟩
abbrev S1x2048x1024 : Shape := ⟨3, ![1, 2048, 1024]⟩
abbrev S1024x2048 : Shape := ⟨2, ![1024, 2048]⟩
abbrev S2x264x1024 : Shape := ⟨3, ![2, 264, 1024]⟩
abbrev S1x256x2048 : Shape := ⟨3, ![1, 256, 2048]⟩
abbrev S256x2048 : Shape := ⟨2, ![256, 2048]⟩
abbrev S256x1024 : Shape := ⟨2, ![256, 1024]⟩
abbrev S1x256x1024 : Shape := ⟨3, ![1, 256, 1024]⟩
abbrev S8x1024 : Shape := ⟨2, ![8, 1024]⟩
abbrev S1x8x1024 : Shape := ⟨3, ![1, 8, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S2x4x6144, .f32⟩
  | .hbm, ⟨3, _⟩ => ⟨S2x26704x2048, .f32⟩
  | .hbm, ⟨4, _⟩ => ⟨S1x4x6144, .f32⟩
  | .hbm, ⟨5, _⟩ => ⟨S4x6144, .f32⟩
  | .hbm, ⟨6, _⟩ => ⟨S4x2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S4x1024, .f32⟩
  | .local _ .vmem, ⟨5, _⟩ => ⟨S4x1024, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1024x2048, .bf16⟩
  | .local _ .vmem, ⟨9, _⟩ => ⟨S2x264x1024, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let c10240_i32 : BitVec 32 := 10240#32
  let arg0 : BitVec 32 := BitVec.ofNat 32 (i 0).val
  let c1024_i32 : BitVec 32 := 1024#32
  let v0 : BitVec 32 := Scalar.muli arg0 c1024_i32
  let v1 : BitVec 32 := Scalar.addi c10240_i32 v0
  v1
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c10240_i32 : BitVec 32 := 10240#32
  let v1 : BitVec 32 := Scalar.addi c10240_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== VvRefIdeal.lean ====
abbrev S4x2048x2048 : Shape := ⟨3, ![4, 2048, 2048]⟩
abbrev S2x2048x26704 : Shape := ⟨3, ![2, 2048, 26704]⟩
abbrev S2x4x6144 : Shape := ⟨3, ![2, 4, 6144]⟩
abbrev S1x2048x26704 : Shape := ⟨3, ![1, 2048, 26704]⟩
abbrev S2048x26704 : Shape := ⟨2, ![2048, 26704]⟩
abbrev S4x2048x26704 : Shape := ⟨3, ![4, 2048, 26704]⟩
abbrev S1x4x6144 : Shape := ⟨3, ![1, 4, 6144]⟩
abbrev S4x6144 : Shape := ⟨2, ![4, 6144]⟩
abbrev S4x2048 : Shape := ⟨2, ![4, 2048]⟩
abbrev S_ : Shape := ⟨0, ![]⟩
abbrev S4x2051x2048 : Shape := ⟨3, ![4, 2051, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S2x4x6144, .f32⟩
  | .hbm, ⟨3, _⟩ => ⟨S4x2048x2048, .f32⟩
  | .hbm, ⟨4, _⟩ => ⟨S1x2048x26704, .f32⟩
  | .hbm, ⟨5, _⟩ => ⟨S2048x26704, .f32⟩
  | .hbm, ⟨6, _⟩ => ⟨S4x2048x26704, .f32⟩
  | .hbm, ⟨7, _⟩ => ⟨S4x2048x2048, .f32⟩
  | .hbm, ⟨8, _⟩ => ⟨S1x4x6144, .f32⟩
  | .hbm, ⟨9, _⟩ => ⟨S4x6144, .f32⟩
  | .hbm, ⟨10, _⟩ => ⟨S4x2048, .f32⟩
  | .hbm, ⟨11, _⟩ => ⟨S_, .i32⟩
  | .hbm, ⟨12, _⟩ => ⟨S_, .f32⟩
  | .hbm, ⟨13, _⟩ => ⟨S4x2051x2048, .f32⟩
  | .hbm, ⟨14, _⟩ => ⟨S4x2048x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Modulate.lean ====
abbrev S4x2048x2048 : Shape := ⟨3, ![4, 2048, 2048]⟩
abbrev S4x1x2048 : Shape := ⟨3, ![4, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S4x1x2048, .f32⟩
  | .hbm, ⟨2, _⟩ => ⟨S4x1x2048, .f32⟩
  | .hbm, ⟨3, _⟩ => ⟨S4x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .bf16⟩
  | .local _ .vmem, ⟨7, _⟩ => ⟨S1x512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulateRefIdeal.lean ====
abbrev S4x2048x2048 : Shape := ⟨3, ![4, 2048, 2048]⟩
abbrev S4x1x2048 : Shape := ⟨3, ![4, 1, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1x2048, .f32⟩
  | .hbm, ⟨2, _⟩ => ⟨S4x1x2048, .f32⟩
  | .hbm, ⟨3, _⟩ => ⟨S_, .f32⟩
  | .hbm, ⟨4, _⟩ => ⟨S4x1x2048, .f32⟩
  | .hbm, ⟨5, _⟩ => ⟨S4x1x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SmallProj.lean ====
abbrev S4x2048x2048 : Shape := ⟨3, ![4, 2048, 2048]⟩
abbrev S2x2048x26704 : Shape := ⟨3, ![2, 2048, 26704]⟩
abbrev S8192x2048 : Shape := ⟨2, ![8192, 2048]⟩
abbrev S2x26704x2048 : Shape := ⟨3, ![2, 26704, 2048]⟩
abbrev S8192x128 : Shape := ⟨2, ![8192, 128]⟩
abbrev S2048x2048 : Shape := ⟨2, ![2048, 2048]⟩
abbrev S1x64x2048 : Shape := ⟨3, ![1, 64, 2048]⟩
abbrev S1x16x2048 : Shape := ⟨3, ![1, 16, 2048]⟩
abbrev S2048x128 : Shape := ⟨2, ![2048, 128]⟩
abbrev S128x2048 : Shape := ⟨2, ![128, 2048]⟩
abbrev S64x2048 : Shape := ⟨2, ![64, 2048]⟩
abbrev S16x2048 : Shape := ⟨2, ![16, 2048]⟩
abbrev S48x2048 : Shape := ⟨2, ![48, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S8192x2048, .bf16⟩
  | .hbm, ⟨3, _⟩ => ⟨S2x26704x2048, .f32⟩
  | .hbm, ⟨4, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S1x64x2048, .f32⟩
  | .local _ .vmem, ⟨3, _⟩ => ⟨S1x16x2048, .f32⟩
  | .local _ .vmem, ⟨4, _⟩ => ⟨S2048x128, .f32⟩
  | .local _ .vmem, ⟨5, _⟩ => ⟨S2048x128, .f32⟩
  | .local _ .vmem, ⟨6, _⟩ => ⟨S128x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c224_i32 : BitVec 32 := 224#32
  let c0_i32_0 : BitVec 32 := 0#32
  let c0_i32_1 : BitVec 32 := 0#32
  ![c0_i32.toNat, c224_i32.toNat, c0_i32_0.toNat]

def cc0_transform_2 (i : grid0.Coords) : Fin 3 → Nat :=
  let arg0 : BitVec 32 := BitVec.ofNat 32 (i 0).val
  let c0_i32 : BitVec 32 := 0#32
  let c1284_i32 : BitVec 32 := 1284#32
  let c0_i32_0 : BitVec 32 := 0#32
  let c0_i32_1 : BitVec 32 := 0#32
  ![c0_i32.toNat, c1284_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SmallProjRefIdeal.lean ====
abbrev S4x2048x2048 : Shape := ⟨3, ![4, 2048, 2048]⟩
abbrev S2x2048x26704 : Shape := ⟨3, ![2, 2048, 26704]⟩
abbrev S1x2048x26704 : Shape := ⟨3, ![1, 2048, 26704]⟩
abbrev S2048x26704 : Shape := ⟨2, ![2048, 26704]⟩
abbrev S4x2048x26704 : Shape := ⟨3, ![4, 2048, 26704]⟩
abbrev S4x2048x64 : Shape := ⟨3, ![4, 2048, 64]⟩
abbrev S4x2048x16 : Shape := ⟨3, ![4, 2048, 16]⟩
abbrev S_ : Shape := ⟨0, ![]⟩
abbrev S4x2048x48 : Shape := ⟨3, ![4, 2048, 48]⟩
abbrev S4x2048x128 : Shape := ⟨3, ![4, 2048, 128]⟩
abbrev S8192x128 : Shape := ⟨2, ![8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x26704, .f32⟩
  | .hbm, ⟨2, _⟩ => ⟨S4x2048x2048, .f32⟩
  | .hbm, ⟨3, _⟩ => ⟨S1x2048x26704, .f32⟩
  | .hbm, ⟨4, _⟩ => ⟨S2048x26704, .f32⟩
  | .hbm, ⟨5, _⟩ => ⟨S4x2048x26704, .f32⟩
  | .hbm, ⟨6, _⟩ => ⟨S4x2048x64, .f32⟩
  | .hbm, ⟨7, _⟩ => ⟨S4x2048x16, .f32⟩
  | .hbm, ⟨8, _⟩ => ⟨S_, .f32⟩
  | .hbm, ⟨9, _⟩ => ⟨S4x2048x48, .f32⟩
  | .hbm, ⟨10, _⟩ => ⟨S4x2048x128, .f32⟩
  | .hbm, ⟨11, _⟩ => ⟨S8192x128, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gates.lean ====
abbrev S4x2048x128 : Shape := ⟨3, ![4, 2048, 128]⟩
abbrev S16 : Shape := ⟨1, ![16]⟩
abbrev S_ : Shape := ⟨0, ![]⟩
abbrev S64 : Shape := ⟨1, ![64]⟩
abbrev S48 : Shape := ⟨1, ![48]⟩
abbrev S128 : Shape := ⟨1, ![128]⟩
abbrev S1x128 : Shape := ⟨2, ![1, 128]⟩
abbrev S4x128x2048 : Shape := ⟨3, ![4, 128, 2048]⟩
abbrev S1x1024x128 : Shape := ⟨3, ![1, 1024, 128]⟩
abbrev S1x128x1024 : Shape := ⟨3, ![1, 128, 1024]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x128, .f32⟩
  | .hbm, ⟨1, _⟩ => ⟨S16, .f32⟩
  | .hbm, ⟨2, _⟩ => ⟨S_, .f32⟩
  | .hbm, ⟨3, _⟩ => ⟨S64, .f32⟩
  | .hbm, ⟨4, _⟩ => ⟨S_, .f32⟩
  | .hbm, ⟨5, _⟩ => ⟨S48, .f32⟩
  | .hbm, ⟨6, _⟩ => ⟨S128, .f32⟩
  | .hbm, ⟨7, _⟩ => ⟨S1x128, .f32⟩
  | .hbm, ⟨8, _⟩ => ⟨S4x2048x128, .f32⟩
  | .hbm, ⟨9, _⟩ => ⟨S4x128x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x128, .f32⟩
  | .local _ .vmem, ⟨3, _⟩ => ⟨S1x1024x128, .f32⟩
  | .local _ .vmem, ⟨4, _⟩ => ⟨S1x1024x128, .f32⟩
  | .local _ .vmem, ⟨5, _⟩ => ⟨S1x128x1024, .f32⟩
  | .local _ .vmem, ⟨6, _⟩ => ⟨S1x128x1024, .f32⟩
  | .local _ .vmem, ⟨7, _⟩ => ⟨S1x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S4x2048x128 : Shape := ⟨3, ![4, 2048, 128]⟩
abbrev S16 : Shape := ⟨1, ![16]⟩
abbrev S4x2048x16 : Shape := ⟨3, ![4, 2048, 16]⟩
abbrev S1x1x16 : Shape := ⟨3, ![1, 1, 16]⟩
abbrev S_ : Shape := ⟨0, ![]⟩
abbrev S4x16x2048 : Shape := ⟨3, ![4, 16, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S16, .f32⟩
  | .hbm, ⟨2, _⟩ => ⟨S4x2048x16, .f32⟩
  | .hbm, ⟨3, _⟩ => ⟨S1x1x16, .f32⟩
  | .hbm, ⟨4, _⟩ => ⟨S4x2048x16, .f32⟩
  | .hbm, ⟨5, _⟩ => ⟨S4x2048x16, .f32⟩
  | .hbm, ⟨6, _⟩ => ⟨S4x2048x16, .f32⟩
  | .hbm, ⟨7, _⟩ => ⟨S_, .f32⟩
  | .hbm, ⟨8, _⟩ => ⟨S4x2048x16, .f32⟩
  | .hbm, ⟨9, _⟩ => ⟨S4x2048x16, .f32⟩
  | .hbm, ⟨10, _⟩ => ⟨S4x2048x16, .f32⟩
  | .hbm, ⟨11, _⟩ => ⟨S4x2048x16, .f32⟩
  | .hbm, ⟨12, _⟩ => ⟨S4x2048x16, .i1⟩
  | .hbm, ⟨13, _⟩ => ⟨S4x2048x16, .f32⟩
  | .hbm, ⟨14, _⟩ => ⟨S4x2048x16, .f32⟩
  | .hbm, ⟨15, _⟩ => ⟨S4x2048x16, .f32⟩
  | .hbm, ⟨16, _⟩ => ⟨S4x2048x16, .f32⟩
  | .hbm, ⟨17, _⟩ => ⟨S4x2048x16, .f32⟩
  | .hbm, ⟨18, _⟩ => ⟨S4x2048x16, .f32⟩
  | .hbm, ⟨19, _⟩ => ⟨S4x2048x16, .f32⟩
  | .hbm, ⟨20, _⟩ => ⟨S4x2048x16, .f32⟩
  | .hbm, ⟨21, _⟩ => ⟨S4x2048x16, .f32⟩
  | .hbm, ⟨22, _⟩ => ⟨S_, .f32⟩
  | .hbm, ⟨23, _⟩ => ⟨S_, .f32⟩
  | .hbm, ⟨24, _⟩ => ⟨S4x2048x16, .f32⟩
  | .hbm, ⟨25, _⟩ => ⟨S4x16x2048, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Proof.FoxMath.lean ====
/- The mathematics of one row of the attention with forgetting gates, over the extended reals: a softmax of finitely
   many scores, some of them masked, against values. Nothing here mentions a program. -/
module

public import Idealize.ShloMosaic.PureOps.Ideal
public import Idealize.ShloMosaic.PureOps.Ideal.Laws
public import Idealize.ShloMosaic.Lib.Pointwise

@[expose] public section

noncomputable section

namespace Cert.FoxMath

open Idealize.ShloMosaic
open scoped BigOperators

variable {ι : Type} [Fintype ι]

/-- Multiplying by a non-negative real goes through a finite sum of extended reals, whatever they are. -/
theorem sum_mul_coe (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A sum of reals, read as an extended real. -/
theorem coe_sum (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- Weighted values divided by the sum of the weights at the end: each weight divided on its own. -/
theorem div_sum (p : ι → ℝ) (v : ι → EReal) (P : ℝ) (hP : 0 < P) :
    Ideal.div (∑ j, (p j : EReal) * v j) (P : EReal) = ∑ j, ((p j / P : ℝ) : EReal) * v j := by
  rw [Ideal.div_coe hP.ne', sum_mul_coe _ _ _ (by positivity)]
  refine Finset.sum_congr rfl fun j _ => ?_
  rw [mul_right_comm, ← EReal.coe_mul, mul_one_div]

/-- A fold of maximum from `-∞` over scores none of which is `+∞` and one of which is not `-∞` is a real. -/
theorem fold_max_real (x : ι → EReal) (hx : ∀ j, x j ≠ ⊤) (j₀ : ι) (h₀ : x j₀ ≠ ⊥) :
    ∃ μ : ℝ, (Finset.univ : Finset ι).fold max ⊥ x = (μ : EReal) := by
  have hf : (Finset.univ : Finset ι).fold max ⊥ x = Finset.univ.sup x := rfl
  rw [hf]
  have h1 : Finset.univ.sup x ≠ ⊤ := by
    have : Finset.univ.sup x < ⊤ := (Finset.sup_lt_iff (by simp)).2 fun j _ => lt_top_iff_ne_top.2 (hx j)
    exact this.ne
  have h2 : Finset.univ.sup x ≠ ⊥ := by
    intro h
    have := Finset.le_sup (f := x) (Finset.mem_univ j₀)
    rw [h] at this
    exact h₀ (le_bot_iff.1 this)
  exact ⟨(Finset.univ.sup x).toReal, (EReal.coe_toReal h1 h2).symm⟩

theorem exp_bot : Ideal.exp ⊥ = 0 := rfl

theorem exp2_bot : Ideal.exp2 ⊥ = 0 := rfl

/-- The weight of position `j` in row `i`: the exponential of its score up to the row, zero after it. -/
def weight (s : Fin 2048 → ℝ) (i j : Fin 2048) : ℝ := if j ≤ i then Real.exp (s j) else 0

/-- One entry of the attention: the values under the weights of row `i`, scaled to sum to one. -/
def row (s : Fin 2048 → ℝ) (i : Fin 2048) (v : Fin 2048 → EReal) : EReal :=
  ∑ j, ((weight s i j / ∑ l, weight s i l : ℝ) : EReal) * v j

theorem weight_nonneg (s : Fin 2048 → ℝ) (i j : Fin 2048) : 0 ≤ weight s i j := by
  unfold weight; split <;> positivity

theorem weight_sum_pos (s : Fin 2048 → ℝ) (i : Fin 2048) : 0 < ∑ l, weight s i l := by
  refine Finset.sum_pos' (fun j _ => weight_nonneg s i j) ⟨i, Finset.mem_univ i, ?_⟩
  unfold weight; rw [if_pos (le_refl i)]; positivity

/-- A common positive factor of the weights cancels. -/
theorem scaled_div (s : Fin 2048 → ℝ) (i : Fin 2048) (α : ℝ) (hα : 0 < α) (j : Fin 2048) :
    (weight s i j * α) / (∑ l, weight s i l * α) = weight s i j / ∑ l, weight s i l := by
  rw [← Finset.sum_mul, mul_div_mul_right _ _ hα.ne']

/-- The softmax as it is written plainly: the scores of row `i` with the gate `g` of the row added, `-∞` after the row,
    the row's maximum subtracted, each weight divided by the sum, then the values summed. -/
theorem plain_row (s : Fin 2048 → ℝ) (g : ℝ) (i : Fin 2048) (v : Fin 2048 → EReal) (x : Fin 2048 → EReal)
    (hx : ∀ j, x j = if j ≤ i then ((s j + g : ℝ) : EReal) else ⊥) :
    (∑ j, Ideal.div (Ideal.exp (x j - max ⊥ ((Finset.univ : Finset (Fin 2048)).fold max ⊥ x)))
        (0 + ∑ l, Ideal.exp (x l - max ⊥ ((Finset.univ : Finset (Fin 2048)).fold max ⊥ x))) * v j) = row s i v := by
  obtain ⟨μ, hμ⟩ := fold_max_real x
    (fun j => by rw [hx]; split; exacts [EReal.coe_ne_top _, bot_ne_top]) i (by rw [hx, if_pos (le_refl i)]; exact EReal.coe_ne_bot _)
  rw [hμ, max_eq_right bot_le, zero_add]
  have he : ∀ j, Ideal.exp (x j - (μ : EReal)) = ((weight s i j * Real.exp (g - μ) : ℝ) : EReal) := by
    intro j
    rw [hx]; unfold weight
    split
    · rw [← EReal.coe_sub]
      show ((Real.exp (s j + g - μ) : ℝ) : EReal) = _
      rw [← Real.exp_add]; congr 2; ring
    · rw [EReal.bot_sub]; simp [exp_bot]
  simp only [he, ← coe_sum]
  unfold row
  refine Finset.sum_congr rfl fun j _ => ?_
  have hp : 0 < ∑ l, weight s i l * Real.exp (g - μ) := by
    rw [← Finset.sum_mul]; exact mul_pos (weight_sum_pos s i) (Real.exp_pos _)
  rw [Ideal.div_coe hp.ne', ← EReal.coe_mul, mul_one_div, scaled_div s i _ (Real.exp_pos _)]

/-- A sum over all positions of a row of block `n`, `n + 1`, … `n + 255`, of terms that vanish after the block: the block
    itself, then what is before it. -/
theorem sum_split {M : Type} [AddCommMonoid M] (n : ℕ) (hn : n + 256 ≤ 2048) (f : Fin 2048 → M)
    (h0 : ∀ j : Fin 2048, n + 256 ≤ j.val → f j = 0) :
    (∑ c : Fin 256, f ⟨n + c.val, by omega⟩) + ∑ c : Fin n, f ⟨c.val, by omega⟩ = ∑ j, f j := by
  have hF : ∀ m, m ≤ 2048 → (∑ c : Fin m, (fun k : ℕ => if h : k < 2048 then f ⟨k, h⟩ else 0) c.val)
      = ∑ k ∈ Finset.range m, (if h : k < 2048 then f ⟨k, h⟩ else 0) :=
    fun m _ => Fin.sum_univ_eq_sum_range (fun k : ℕ => if h : k < 2048 then f ⟨k, h⟩ else 0) m
  have e1 : (∑ c : Fin 256, f ⟨n + c.val, by omega⟩)
      = ∑ k ∈ Finset.range 256, (if h : n + k < 2048 then f ⟨n + k, h⟩ else 0) := by
    rw [← Fin.sum_univ_eq_sum_range (fun k => if h : n + k < 2048 then f ⟨n + k, h⟩ else 0) 256]
    refine Finset.sum_congr rfl fun c _ => ?_
    have hc : n + c.val < 2048 := by omega
    rw [dif_pos hc]
  have e2 : (∑ c : Fin n, f ⟨c.val, by omega⟩) = ∑ k ∈ Finset.range n, (if h : k < 2048 then f ⟨k, h⟩ else 0) := by
    rw [← hF n (by omega)]
    refine Finset.sum_congr rfl fun c _ => ?_
    have hc : c.val < 2048 := by omega
    show _ = dite _ _ _
    rw [dif_pos hc]
  have e3 : (∑ j, f j) = ∑ k ∈ Finset.range 2048, (if h : k < 2048 then f ⟨k, h⟩ else 0) := by
    rw [← hF 2048 (le_refl _)]
    refine Finset.sum_congr rfl fun c _ => ?_
    show _ = dite _ _ _
    rw [dif_pos c.isLt]
  have e4 : (∑ k ∈ Finset.range 2048, (if h : k < 2048 then f ⟨k, h⟩ else 0))
      = ∑ k ∈ Finset.range (n + 256), (if h : k < 2048 then f ⟨k, h⟩ else 0) := by
    symm
    refine Finset.sum_subset (fun k hk => ?_) fun k hk hk' => ?_
    · rw [Finset.mem_range] at *; omega
    · rw [Finset.mem_range] at *; rw [dif_pos hk]; exact h0 ⟨k, hk⟩ (by simpa using hk')
  rw [e1, e2, e3, e4, Finset.sum_range_add, add_comm]

/-- `2 ^ (x / log 2)` is `exp x`. -/
theorem rpow_two (x : ℝ) : Real.rpow 2 (x * (Real.log 2)⁻¹) = Real.exp x := by
  show (2 : ℝ) ^ (x * (Real.log 2)⁻¹) = _
  rw [Real.rpow_def_of_pos (by norm_num), mul_left_comm, mul_inv_cancel₀ (Real.log_pos (by norm_num)).ne', mul_one]

/-- The softmax as it is computed by blocks: row `n + r` of the block that starts at `n`, with the scores in units of `log 2`;
    the block's own scores (masked after the row) and the scores before the block; a maximum over both, to which the row's
    gate is added and from which it is taken again; the values divided by the sum of the weights at the end. -/
theorem block_row (s : Fin 2048 → ℝ) (n : ℕ) (hn : n + 256 ≤ 2048) (r : Fin 256) (q : ℝ) (v : Fin 2048 → EReal)
    (td : Fin 256 → EReal) (tf : Fin n → EReal)
    (htd : ∀ c, td c = if c ≤ r then ((s ⟨n + c.val, by omega⟩ * (Real.log 2)⁻¹ : ℝ) : EReal) else ⊥)
    (hto : ∀ c, tf c = ((s ⟨c.val, by omega⟩ * (Real.log 2)⁻¹ : ℝ) : EReal)) (sh : EReal)
    (hsh : sh = max ((Finset.univ : Finset (Fin 256)).fold max ⊥ td) ((Finset.univ : Finset (Fin n)).fold max ⊥ tf) + (q : EReal)
        - (q : EReal)) :
    Ideal.div ((∑ c, Ideal.exp2 (td c - sh) * v ⟨n + c.val, by omega⟩) + ∑ c, Ideal.exp2 (tf c - sh) * v ⟨c.val, by omega⟩)
        ((∑ c, Ideal.exp2 (td c - sh)) + ∑ c, Ideal.exp2 (tf c - sh))
      = row s ⟨n + r.val, by omega⟩ v := by
  obtain ⟨μd, hd⟩ := fold_max_real td (fun j => by rw [htd]; split; exacts [EReal.coe_ne_top _, bot_ne_top]) r
    (by rw [htd, if_pos (le_refl r)]; exact EReal.coe_ne_bot _)
  obtain ⟨σ, hσ⟩ : ∃ σ : ℝ, sh = (σ : EReal) := by
    have hm : ∃ μ : ℝ, max ((Finset.univ : Finset (Fin 256)).fold max ⊥ td)
        ((Finset.univ : Finset (Fin n)).fold max ⊥ tf) = (μ : EReal) := by
      rcases Nat.eq_zero_or_pos n with h | h
      · subst h; exact ⟨μd, by simp [hd]⟩
      · obtain ⟨μo, ho⟩ := fold_max_real tf (fun j => by rw [hto]; exact EReal.coe_ne_top _) ⟨0, h⟩
          (by rw [hto]; exact EReal.coe_ne_bot _)
        rw [hd, ho]; exact ⟨max μd μo, (Monotone.map_max (fun _ _ h => EReal.coe_le_coe_iff.2 h)).symm⟩
    obtain ⟨μ, hμ⟩ := hm
    exact ⟨μ + q - q, by rw [hsh, hμ, EReal.coe_sub, EReal.coe_add]⟩
  set i : Fin 2048 := ⟨n + r.val, by omega⟩ with hi
  set α : ℝ := Real.exp (-(σ * Real.log 2)) with hα
  have hl : Real.log 2 ≠ 0 := (Real.log_pos (by norm_num)).ne'
  have key : ∀ j, Ideal.exp2 (((s j * (Real.log 2)⁻¹ : ℝ) : EReal) - sh) = ((Real.exp (s j) * α : ℝ) : EReal) := by
    intro j
    rw [hσ, ← EReal.coe_sub]
    show ((Real.rpow 2 (s j * (Real.log 2)⁻¹ - σ) : ℝ) : EReal) = _
    have : s j * (Real.log 2)⁻¹ - σ = (s j + -(σ * Real.log 2)) * (Real.log 2)⁻¹ := by field_simp; ring
    rw [this, rpow_two, Real.exp_add]
  have kd : ∀ c : Fin 256, Ideal.exp2 (td c - sh) = ((weight s i ⟨n + c.val, by omega⟩ * α : ℝ) : EReal) := by
    intro c
    rw [htd]; unfold weight
    by_cases h : c ≤ r
    · rw [if_pos h, if_pos (by rw [hi, Fin.mk_le_mk]; have : c.val ≤ r.val := h; omega), key]
    · rw [if_neg h, if_neg (by rw [hi, Fin.mk_le_mk]; have : ¬ c.val ≤ r.val := h; omega), EReal.bot_sub]; simp [exp2_bot]
  have ko : ∀ c : Fin n, Ideal.exp2 (tf c - sh) = ((weight s i ⟨c.val, by omega⟩ * α : ℝ) : EReal) := by
    intro c
    rw [hto]; unfold weight
    rw [if_pos (by rw [hi, Fin.mk_le_mk]; omega), key]
  have hz : ∀ j : Fin 2048, n + 256 ≤ j.val → weight s i j = 0 := by
    intro j hj; unfold weight; rw [if_neg]; rw [hi, Fin.le_def]; simp only; omega
  simp only [kd, ko]
  rw [sum_split n hn (fun j => ((weight s i j * α : ℝ) : EReal) * v j) (fun j hj => by simp [hz j hj]),
    sum_split n hn (fun j => ((weight s i j * α : ℝ) : EReal)) (fun j hj => by simp [hz j hj]), ← coe_sum,
    div_sum _ _ _ (by rw [← Finset.sum_mul]; exact mul_pos (weight_sum_pos s i) (Real.exp_pos _))]
  unfold row
  exact Finset.sum_congr rfl fun j _ => by rw [scaled_div s i α (Real.exp_pos _)]

/-- The plain scores of one row: query against key, scaled, less the gate of the key. -/
def plain (Q : Fin 2048 → Fin 128 → ℝ) (K : Fin 2048 → Fin 128 → ℝ) (G : Fin 2048 → ℝ) (i j : Fin 2048) : ℝ :=
  (∑ d, Q i d * K j d) * (Real.sqrt 128)⁻¹ - G j

/-! ## The attention from the arrays -/

/-- The query of head `h` at position `s`, as reals. -/
def Q (X : (⟨3, ![4, 2048, 6144]⟩ : Shape).Idx → EReal) (b : Fin 4) (h : Fin 16) (s : Fin 2048) (d : Fin 128) : ℝ :=
  (X (ix3 b s ⟨128 * h.val + d.val, by omega⟩)).toReal

/-- The key of head `h` at position `s`, as reals. -/
def K (X : (⟨3, ![4, 2048, 6144]⟩ : Shape).Idx → EReal) (b : Fin 4) (h : Fin 16) (s : Fin 2048) (d : Fin 128) : ℝ :=
  (X (ix3 b s ⟨2048 + 128 * h.val + d.val, by omega⟩)).toReal

/-- The gate of head `h` accumulated up to position `s`, as a real. -/
def G (C : (⟨3, ![4, 2048, 128]⟩ : Shape).Idx → EReal) (b : Fin 4) (h : Fin 16) (s : Fin 2048) : ℝ :=
  (C (ix3 b s ⟨64 + h.val, by omega⟩)).toReal

/-- The attention of head `h` at position `s`, coordinate `d`. -/
def attn (X : (⟨3, ![4, 2048, 6144]⟩ : Shape).Idx → EReal) (C : (⟨3, ![4, 2048, 128]⟩ : Shape).Idx → EReal)
    (b : Fin 4) (h : Fin 16) (s : Fin 2048) (d : Fin 128) : EReal :=
  row (plain (Q X b h) (K X b h) (G C b h) s) s fun j => X (ix3 b j ⟨4096 + 128 * h.val + d.val, by omega⟩)

/-- The attention, heads side by side. -/
def attnArr (X : (⟨3, ![4, 2048, 6144]⟩ : Shape).Idx → EReal) (C : (⟨3, ![4, 2048, 128]⟩ : Shape).Idx → EReal) :
    (⟨3, ![4, 2048, 2048]⟩ : Shape).Idx → EReal := fun i =>
  attn X C (i 0) ⟨(i 2).val / 128, by have : (i 2).val < 2048 := (i 2).isLt; omega⟩ (i 1) ⟨(i 2).val % 128, Nat.mod_lt _ (by norm_num)⟩

/-- The queries, the keys and the heads' gates are reals. -/
structure Finite (X : (⟨3, ![4, 2048, 6144]⟩ : Shape).Idx → EReal) (C : (⟨3, ![4, 2048, 128]⟩ : Shape).Idx → EReal) : Prop where
  x : ∀ b s (j : Fin 6144), j.val < 4096 → X (ix3 b s j) ≠ ⊤ ∧ X (ix3 b s j) ≠ ⊥
  c : ∀ b s (l : Fin 128), 64 ≤ l.val → l.val < 80 → C (ix3 b s l) ≠ ⊤ ∧ C (ix3 b s l) ≠ ⊥

theorem Finite.q {X C} (hf : Finite X C) (b h s d) : X (ix3 b s ⟨128 * h.val + d.val, by omega⟩) = (Q X b h s d : EReal) :=
  (EReal.coe_toReal (hf.x b s _ (by show 128 * h.val + d.val < 4096; omega)).1 (hf.x b s _ (by show 128 * h.val + d.val < 4096; omega)).2).symm

theorem Finite.k {X C} (hf : Finite X C) (b h s d) : X (ix3 b s ⟨2048 + 128 * h.val + d.val, by omega⟩) = (K X b h s d : EReal) :=
  (EReal.coe_toReal (hf.x b s _ (by show 2048 + 128 * h.val + d.val < 4096; omega)).1
    (hf.x b s _ (by show 2048 + 128 * h.val + d.val < 4096; omega)).2).symm

theorem Finite.g {X C} (hf : Finite X C) (b h s) : C (ix3 b s ⟨64 + h.val, by omega⟩) = (G C b h s : EReal) :=
  (EReal.coe_toReal (hf.c b s _ (by show 64 ≤ 64 + h.val; omega) (by show 64 + h.val < 80; omega)).1
    (hf.c b s _ (by show 64 ≤ 64 + h.val; omega) (by show 64 + h.val < 80; omega)).2).symm

end Cert.FoxMath

end
-- ==== Proof.FoxBlock.lean ====
/- One stored block of the attention kernel, as a function of the blocks it reads, written once for every number of keys
   before the block; and what it is at an index over the extended reals. -/
module

public import proofs.«01_k».proof.Proof.Gen.FoxIdeal.Skeleton
public import Idealize.ShloMosaic.Lib.Pointwise.IndexVar
public import Idealize.ShloMosaic.PureOps.Ideal.Laws
public import Idealize.ShloMosaic.Lib.WordCmp
public import Idealize.ShloMosaic.Lib.Pipeline.ValueKit
public import proofs.«01_k».proof.Proof.FoxMath

@[expose] public section

set_option maxRecDepth 16384

noncomputable section

namespace Cert.FoxBlock

open Idealize.ShloMosaic Cert.FoxIdeal Cert.FoxIdeal.Gen
open Cert.FoxMath (plain)
open scoped BigOperators

/-- A block of scores: 256 queries against `n` keys. -/
abbrev SW (n : ℕ) : Shape := ⟨2, ![256, n]⟩
/-- `n` keys (or values). -/
abbrev SK (n : ℕ) : Shape := ⟨2, ![n, 128]⟩
/-- `n` keys as they are loaded. -/
abbrev SL (n : ℕ) : Shape := ⟨3, ![1, n, 128]⟩
/-- One row over `n` keys. -/
abbrev SR (n : ℕ) : Shape := ⟨2, ![1, n]⟩

/-- The shape facts that a block against `n` keys uses, with the two contractions read as sums. -/
structure Width (n : ℕ) where
  ds : DotDims S256x128 (SK n) (SW n)
  dp : DotDims (SW n) (SK n) S256x128
  row : (SR n).Broadcasts (SW n)
  col : S256x1.Broadcasts (SW n)
  red : (SW n).Reduces [1] S256
  cast : (SL n).ShapeCasts (SK n)
  cast_apply : ∀ (x : Vec Ideal (SL n) .bf16) (c : Fin n) (d : Fin 128),
    (shapeCast (SK n) x cast : FVec Ideal (SK n) .bf16) (ix2 c d) = x (ix3 0 c d)
  row_apply : ∀ (x : FVec Ideal (SR n) .f32) (r : Fin 256) (c : Fin n), broadcastTo (SW n) x row (ix2 r c) = x (ix2 0 c)
  ds_apply : ∀ (a : FVec Ideal S256x128 .bf16) (b : FVec Ideal (SK n) .bf16) (z : FVec Ideal (SW n) .f32) (r : Fin 256) (c : Fin n),
    matmul ds none a b z (ix2 r c) = z (ix2 r c) + ∑ k : Fin 128, a (ix2 r k) * b (ix2 c k)
  dp_apply : ∀ (a : FVec Ideal (SW n) .bf16) (b : FVec Ideal (SK n) .bf16) (z : FVec Ideal S256x128 .f32) (r : Fin 256) (d : Fin 128),
    matmul dp none a b z (ix2 r d) = z (ix2 r d) + ∑ k : Fin n, a (ix2 r k) * b (ix2 k d)

variable {F : FTy → Type} [FloatOps F] [Named F]

/-- The scores of a block in units of `log 2`: queries against keys, scaled, less the gates of the keys. -/
def scores {n : ℕ} (w : Width n) (o : ℕ) (hs : S1x2048.Slices ![0, o] (SR n)) (ck : FVec F S1x2048 .f32)
    (q : Vec F S1x256x128 .bf16) (k : Vec F (SL n) .bf16) : FVec F (SW n) .f32 :=
  subf (mulf (matmul w.ds none (shapeCast S256x128 q shapeCasts_S1x256x128_S256x128 : FVec F S256x128 .bf16)
      (shapeCast (SK n) k w.cast : FVec F (SK n) .bf16) (constant (SW n) .f32 0x00000000#32))
      (broadcast (SW n) (Named.named κ "c1" 0x3E0293EE#32)))
    (broadcastTo (SW n) (extractStridedSlice (SR n) ![0, o] ck hs) w.row)

/-- The block's own scores, masked above the diagonal. -/
def masked (x : FVec F (SW 256) .f32) : FVec F (SW 256) .f32 :=
  select k0_pay3 x (broadcast (SW 256) (Named.named κ "mask" 0xF149F2CA#32))

/-- The maximum of each row, as a column. -/
def rowMax {n : ℕ} (w : Width n) (x : FVec F (SW n) .f32) : FVec F S256x1 .f32 :=
  shapeCast S256x1 (multiReduction .maximumf [1] S256 x 0xFF800000#32 w.red (.inl rfl) rfl) shapeCasts_S256_S256x1

/-- The weights before they are scaled. -/
def weights {n : ℕ} (w : Width n) (x : FVec F (SW n) .f32) (sh : FVec F S256x1 .f32) : FVec F (SW n) .f32 :=
  exp2 (subf x (broadcastTo (SW n) sh w.col))

/-- The sum of each row of weights, as a column. -/
def rowSum {n : ℕ} (w : Width n) (p : FVec F (SW n) .f32) : FVec F S256x1 .f32 :=
  shapeCast S256x1 (multiReduction .add [1] S256 p 0x00000000#32 w.red (.inl rfl) rfl) shapeCasts_S256_S256x1

/-- Weights against values. -/
def mix {n : ℕ} (w : Width n) (p : FVec F (SW n) .f32) (v : Vec F (SL n) .bf16) : FVec F S256x128 .f32 :=
  matmul w.dp none (truncf .bf16 p bitsLt_bf16_f32) (shapeCast (SK n) v w.cast : FVec F (SK n) .bf16)
    (constant S256x128 .f32 0x00000000#32)

/-- What is stored, from the weighted values and the sum of the weights. -/
def quotient (acc : FVec F S256x128 .f32) (l : FVec F S256x1 .f32) : FVec F S1x256x128 .bf16 :=
  shapeCast S1x256x128 (truncf .bf16 (divf acc (broadcastTo S256x128 l broadcasts_S256x1_S256x128)) bitsLt_bf16_f32)
    shapeCasts_S256x128_S1x256x128

/-- The first block: only its own keys. -/
def first (w : Width 256) (cq : FVec F S256x1 .f32) (td : FVec F (SW 256) .f32) (v : Vec F (SL 256) .bf16) :
    FVec F S1x256x128 .bf16 :=
  let p := weights w td (subf (addf (rowMax w td) cq) cq)
  quotient (mix w p v) (rowSum w p)

/-- A later block: its own keys, then the `n` keys before it. -/
def later {n : ℕ} (w : Width 256) (u : Width n) (cq : FVec F S256x1 .f32) (td : FVec F (SW 256) .f32) (tf : FVec F (SW n) .f32)
    (v : Vec F (SL 256) .bf16) (v' : Vec F (SL n) .bf16) : FVec F S1x256x128 .bf16 :=
  let sh := subf (addf (maximumf (rowMax w td) (rowMax u tf)) cq) cq
  let p := weights w td sh
  let p' := weights u tf sh
  quotient (addf (mix w p v) (mix u p' v')) (addf (rowSum w p) (rowSum u p'))

/-! ## At an index -/

theorem ninf_val : (FloatOps.ofBits .f32 0xFF800000#32 : Ideal .f32) = ⊥ := by
  show Ideal.ofBits .f32 0xFF800000#32 = ⊥
  simp [Ideal.ofBits, Ideal.ieee]

theorem c1_val : (Named.named κ "c1" 0x3E0293EE#32 : Ideal .f32) = (((Real.log 2)⁻¹ * (Real.sqrt 128)⁻¹ : ℝ) : EReal) :=
  IdealRules.named_const.ideal_named_scalar _ _ _ _ rfl

theorem mask_val : (Named.named κ "mask" 0xF149F2CA#32 : Ideal .f32) = ⊥ :=
  IdealRules.named_const.ideal_named_scalar _ _ _ _ rfl

theorem log2e_val : (Named.named κ "log2e" 0x3FB8AA3B#32 : Ideal .f32) = (((Real.log 2)⁻¹ : ℝ) : EReal) :=
  IdealRules.named_const.ideal_named_scalar _ _ _ _ rfl

theorem q_apply (q : Vec Ideal S1x256x128 .bf16) (r : Fin 256) (d : Fin 128) :
    (shapeCast S256x128 q shapeCasts_S1x256x128_S256x128 : FVec Ideal S256x128 .bf16) (ix2 r d) = q (ix3 0 r d) := by
  pointwise

theorem scores_apply {n : ℕ} (w : Width n) (o : ℕ) (hs : S1x2048.Slices ![0, o] (SR n)) (ck : FVec Ideal S1x2048 .f32)
    (q : Vec Ideal S1x256x128 .bf16) (k : Vec Ideal (SL n) .bf16) (r : Fin 256) (c : Fin n) (ho : o + c.val < 2048) :
    scores w o hs ck q k (ix2 r c) = (∑ d : Fin 128, q (ix3 0 r d) * k (ix3 0 c d)) * (((Real.log 2)⁻¹ * (Real.sqrt 128)⁻¹ : ℝ) : EReal)
      - ck (ix2 0 ⟨o + c.val, ho⟩) := by
  have h1 := w.ds_apply (shapeCast S256x128 q shapeCasts_S1x256x128_S256x128 : FVec Ideal S256x128 .bf16)
      (shapeCast (SK n) k w.cast : FVec Ideal (SK n) .bf16) (constant (SW n) .f32 0x00000000#32) r c
  have h2 : broadcastTo (SW n) (extractStridedSlice (SR n) ![0, o] ck hs) w.row (ix2 r c) = ck (ix2 0 ⟨o + c.val, ho⟩) := by
    rw [w.row_apply]
    pointwise
  simp only [q_apply, w.cast_apply] at h1
  show FloatOps.subf (FloatOps.mulf _ (Named.named κ "c1" 0x3E0293EE#32)) _ = _
  rw [h2, h1, c1_val]
  have h0 : (constant (SW n) .f32 0x00000000#32 : FVec Ideal (SW n) .f32) (ix2 r c) = 0 := by pointwise
  rw [h0, zero_add]; rfl

theorem masked_apply (x : FVec Ideal (SW 256) .f32) (r c : Fin 256) :
    masked x (ix2 r c) = if c ≤ r then x (ix2 r c) else ⊥ := by
  pointwise [masked, k0_pay3]
  unfold Scalar.select
  rw [WordCmp.cmpi_sge_ofNat (by have := r.isLt; omega) (by have := c.isLt; omega), mask_val]
  by_cases h : c ≤ r
  · rw [if_pos h, if_pos (by simp [h])]
  · rw [if_neg h, if_neg (by simp [h])]

theorem rowMax_apply {n : ℕ} (w : Width n) (x : FVec Ideal (SW n) .f32) (r : Fin 256) :
    rowMax w x (ix2 r 0) = (Finset.univ : Finset (Fin n)).fold max ⊥ fun c => x (ix2 r c) := by
  pointwise [rowMax]
  rw [← Ideal.ofBits_def, ninf_val]

theorem rowSum_apply {n : ℕ} (w : Width n) (x : FVec Ideal (SW n) .f32) (r : Fin 256) :
    rowSum w x (ix2 r 0) = ∑ c : Fin n, x (ix2 r c) := by
  pointwise [rowSum]

theorem weights_apply {n : ℕ} (w : Width n) (x : FVec Ideal (SW n) .f32) (sh : FVec Ideal S256x1 .f32) (r : Fin 256) (c : Fin n) :
    weights w x sh (ix2 r c) = Ideal.exp2 (x (ix2 r c) - sh (ix2 r 0)) := by
  pointwise [weights]
  rfl

theorem mix_apply {n : ℕ} (w : Width n) (p : FVec Ideal (SW n) .f32) (v : Vec Ideal (SL n) .bf16) (r : Fin 256) (d : Fin 128) :
    mix w p v (ix2 r d) = ∑ c : Fin n, p (ix2 r c) * v (ix3 0 c d) := by
  have h1 := w.dp_apply (truncf .bf16 p bitsLt_bf16_f32) (shapeCast (SK n) v w.cast : FVec Ideal (SK n) .bf16)
    (constant S256x128 .f32 0x00000000#32) r d
  have h0 : (constant S256x128 .f32 0x00000000#32 : FVec Ideal S256x128 .f32) (ix2 r d) = 0 := by pointwise
  rw [h0, zero_add] at h1
  simp only [w.cast_apply] at h1
  exact h1

theorem quotient_apply (acc : FVec Ideal S256x128 .f32) (l : FVec Ideal S256x1 .f32) (r : Fin 256) (d : Fin 128) :
    quotient acc l (ix3 0 r d) = Ideal.div (acc (ix2 r d)) (l (ix2 r 0)) := by
  pointwise [quotient]
  try rfl

theorem addf_apply {s : Shape} (a b : FVec Ideal s .f32) (i : s.Idx) : addf a b i = (show EReal from a i) + (show EReal from b i) := rfl

theorem later_apply {n : ℕ} (w : Width 256) (u : Width n) (cq : FVec Ideal S256x1 .f32) (td : FVec Ideal (SW 256) .f32)
    (tf : FVec Ideal (SW n) .f32) (v : Vec Ideal (SL 256) .bf16) (v' : Vec Ideal (SL n) .bf16) (r : Fin 256) (d : Fin 128) (sh : EReal)
    (hsh : sh = max ((Finset.univ : Finset (Fin 256)).fold max ⊥ fun c => td (ix2 r c))
      ((Finset.univ : Finset (Fin n)).fold max ⊥ fun c => tf (ix2 r c)) + cq (ix2 r 0) - cq (ix2 r 0)) :
    later w u cq td tf v v' (ix3 0 r d)
      = Ideal.div ((∑ c, Ideal.exp2 (td (ix2 r c) - sh) * v (ix3 0 c d)) + ∑ c, Ideal.exp2 (tf (ix2 r c) - sh) * v' (ix3 0 c d))
        ((∑ c, Ideal.exp2 (td (ix2 r c) - sh)) + ∑ c, Ideal.exp2 (tf (ix2 r c) - sh)) := by
  have hs : (subf (addf (maximumf (rowMax w td) (rowMax u tf)) cq) cq : FVec Ideal S256x1 .f32) (ix2 r 0) = sh := by
    show max (rowMax w td (ix2 r 0)) (rowMax u tf (ix2 r 0)) + cq (ix2 r 0) - cq (ix2 r 0) = sh
    rw [rowMax_apply, rowMax_apply, hsh]
  unfold later
  rw [quotient_apply]
  simp only [addf_apply, mix_apply, rowSum_apply, weights_apply, hs]

theorem first_apply (w : Width 256) (cq : FVec Ideal S256x1 .f32) (td : FVec Ideal (SW 256) .f32)
    (v : Vec Ideal (SL 256) .bf16) (r : Fin 256) (d : Fin 128) (sh : EReal)
    (hsh : sh = ((Finset.univ : Finset (Fin 256)).fold max ⊥ fun c => td (ix2 r c)) + cq (ix2 r 0) - cq (ix2 r 0)) :
    first w cq td v (ix3 0 r d)
      = Ideal.div (∑ c, Ideal.exp2 (td (ix2 r c) - sh) * v (ix3 0 c d)) (∑ c, Ideal.exp2 (td (ix2 r c) - sh)) := by
  have hs : (subf (addf (rowMax w td) cq) cq : FVec Ideal S256x1 .f32) (ix2 r 0) = sh := by
    show rowMax w td (ix2 r 0) + cq (ix2 r 0) - cq (ix2 r 0) = sh
    rw [rowMax_apply, hsh]
  unfold first
  rw [quotient_apply]
  simp only [mix_apply, rowSum_apply, weights_apply, hs]

/-! ## From the whole blocks of queries, keys and values -/

theorem scores_real {n : ℕ} (w : Width n) (o : ℕ) (hs : S1x2048.Slices ![0, o] (SR n)) (ck : FVec Ideal S1x2048 .f32)
    (q : Vec Ideal S1x256x128 .bf16) (k : Vec Ideal (SL n) .bf16) (r : Fin 256) (c : Fin n) (ho : o + c.val < 2048)
    (Q K : Fin 2048 → Fin 128 → ℝ) (G : Fin 2048 → ℝ) (i : Fin 2048)
    (hq : ∀ d, q (ix3 0 r d) = (Q i d : EReal)) (hk : ∀ d, k (ix3 0 c d) = (K ⟨o + c.val, ho⟩ d : EReal))
    (hc : ∀ j, ck (ix2 0 j) = ((G j * (Real.log 2)⁻¹ : ℝ) : EReal)) :
    scores w o hs ck q k (ix2 r c) = ((plain Q K G i ⟨o + c.val, ho⟩ * (Real.log 2)⁻¹ : ℝ) : EReal) := by
  rw [scores_apply w o hs ck q k r c ho, hc]
  simp only [hq, hk, ← EReal.coe_mul]
  rw [← FoxMath.coe_sum, ← EReal.coe_mul, ← EReal.coe_sub]
  unfold plain
  congr 1; ring

theorem ld_apply {n : ℕ} (x : Vec Ideal S1x2048x256 .bf16) (o e : ℕ) (ho : o + n ≤ 2048) (he : e + 128 ≤ 256)
    (b : ∀ a, (![0, o, e] : Fin 3 → ℕ) a + (![1, n, 128] : Fin 3 → ℕ) a ≤ S1x2048x256.size a) (c : Fin n) (d : Fin 128) :
    (View.ld x (Rect.unit ![0, o, e] ![1, n, 128] b) : Vec Ideal (SL n) .bf16) (ix3 0 c d)
      = x (ix3 0 ⟨o + c.val, by omega⟩ ⟨e + d.val, by omega⟩) := by
  refine View.ld_unit_apply_of x _ _ b _ _ fun a => ?_
  match a with
  | ⟨0, _⟩ => rfl
  | ⟨1, _⟩ => rfl
  | ⟨2, _⟩ => rfl

/-- A later block at an index: the row of the plain softmax. -/
theorem later_row {n : ℕ} (w : Width 256) (u : Width n) (e : ℕ) (hn : n + 256 ≤ 2048) (he : e + 128 ≤ 256)
    (x0 x1 x2 : Vec Ideal S1x2048x256 .bf16) (cq2 : FVec Ideal S2048x1 .f32) (ck : FVec Ideal S1x2048 .f32)
    (b1 : ∀ a, (![0, n, e] : Fin 3 → ℕ) a + (![1, 256, 128] : Fin 3 → ℕ) a ≤ S1x2048x256.size a)
    (b2 : ∀ a, (![0, 0, e] : Fin 3 → ℕ) a + (![1, n, 128] : Fin 3 → ℕ) a ≤ S1x2048x256.size a)
    (hs : S1x2048.Slices ![0, n] (SR 256)) (hs' : S1x2048.Slices ![0, 0] (SR n)) (hq : S2048x1.Slices ![n, 0] S256x1)
    (Q K : Fin 2048 → Fin 128 → ℝ) (G g : Fin 2048 → ℝ)
    (h0 : ∀ s (d : Fin 128), x0 (ix3 0 s ⟨e + d.val, by omega⟩) = (Q s d : EReal))
    (h1 : ∀ s (d : Fin 128), x1 (ix3 0 s ⟨e + d.val, by omega⟩) = (K s d : EReal))
    (hc : ∀ j, ck (ix2 0 j) = ((G j * (Real.log 2)⁻¹ : ℝ) : EReal)) (hg : ∀ s, cq2 (ix2 s 0) = (g s : EReal))
    (r : Fin 256) (d : Fin 128) :
    later w u (extractStridedSlice S256x1 ![n, 0] cq2 hq)
        (masked (scores w n hs ck (View.ld x0 (Rect.unit ![0, n, e] ![1, 256, 128] b1)) (View.ld x1 (Rect.unit ![0, n, e] ![1, 256, 128] b1))))
        (scores u 0 hs' ck (View.ld x0 (Rect.unit ![0, n, e] ![1, 256, 128] b1)) (View.ld x1 (Rect.unit ![0, 0, e] ![1, n, 128] b2)))
        (View.ld x2 (Rect.unit ![0, n, e] ![1, 256, 128] b1)) (View.ld x2 (Rect.unit ![0, 0, e] ![1, n, 128] b2)) (ix3 0 r d)
      = FoxMath.row (plain Q K G ⟨n + r.val, by omega⟩) ⟨n + r.val, by omega⟩ (fun j => x2 (ix3 0 j ⟨e + d.val, by omega⟩)) := by
  have hgr : (extractStridedSlice S256x1 ![n, 0] cq2 hq : FVec Ideal S256x1 .f32) (ix2 r 0) = (g ⟨n + r.val, by omega⟩ : EReal) := by
    rw [← hg]; pointwise
  rw [later_apply w u _ _ _ _ _ r d _ rfl]
  simp only [ld_apply x2 n e hn he b1, ld_apply x2 0 e (by omega) he b2, hgr]
  have h := FoxMath.block_row (plain Q K G ⟨n + r.val, by omega⟩) n hn r (g ⟨n + r.val, by omega⟩)
    (fun j => x2 (ix3 0 j ⟨e + d.val, by omega⟩))
    (fun c => masked (scores w n hs ck (View.ld x0 (Rect.unit ![0, n, e] ![1, 256, 128] b1)) (View.ld x1 (Rect.unit ![0, n, e] ![1, 256, 128] b1))) (ix2 r c))
    (fun c => scores u 0 hs' ck (View.ld x0 (Rect.unit ![0, n, e] ![1, 256, 128] b1)) (View.ld x1 (Rect.unit ![0, 0, e] ![1, n, 128] b2)) (ix2 r c))
    (fun c => by
      rw [masked_apply]
      refine if_congr Iff.rfl ?_ rfl
      exact scores_real w n hs ck _ _ r c (by omega) Q K G _ (fun d => (ld_apply x0 n e hn he b1 r d).trans (h0 _ d))
        (fun d => (ld_apply x1 n e hn he b1 c d).trans (h1 _ d)) hc)
    (fun c => by
      have := scores_real u 0 hs' ck _ _ r c (by omega) Q K G _ (fun d => (ld_apply x0 n e hn he b1 r d).trans (h0 _ d))
        (fun d => (ld_apply x1 0 e (by omega) he b2 c d).trans (h1 _ d)) hc
      simp only [Nat.zero_add] at this
      exact this) _ rfl
  simp only [Nat.zero_add]
  exact h

/-- The first block at an index: the row of the plain softmax. -/
theorem first_row (w : Width 256) (e : ℕ) (he : e + 128 ≤ 256)
    (x0 x1 x2 : Vec Ideal S1x2048x256 .bf16) (cq2 : FVec Ideal S2048x1 .f32) (ck : FVec Ideal S1x2048 .f32)
    (b1 : ∀ a, (![0, 0, e] : Fin 3 → ℕ) a + (![1, 256, 128] : Fin 3 → ℕ) a ≤ S1x2048x256.size a)
    (hs : S1x2048.Slices ![0, 0] (SR 256)) (hq : S2048x1.Slices ![0, 0] S256x1)
    (Q K : Fin 2048 → Fin 128 → ℝ) (G g : Fin 2048 → ℝ)
    (h0 : ∀ s (d : Fin 128), x0 (ix3 0 s ⟨e + d.val, by omega⟩) = (Q s d : EReal))
    (h1 : ∀ s (d : Fin 128), x1 (ix3 0 s ⟨e + d.val, by omega⟩) = (K s d : EReal))
    (hc : ∀ j, ck (ix2 0 j) = ((G j * (Real.log 2)⁻¹ : ℝ) : EReal)) (hg : ∀ s, cq2 (ix2 s 0) = (g s : EReal))
    (r : Fin 256) (d : Fin 128) :
    first w (extractStridedSlice S256x1 ![0, 0] cq2 hq)
        (masked (scores w 0 hs ck (View.ld x0 (Rect.unit ![0, 0, e] ![1, 256, 128] b1)) (View.ld x1 (Rect.unit ![0, 0, e] ![1, 256, 128] b1))))
        (View.ld x2 (Rect.unit ![0, 0, e] ![1, 256, 128] b1)) (ix3 0 r d)
      = FoxMath.row (plain Q K G ⟨r.val, by omega⟩) ⟨r.val, by omega⟩ (fun j => x2 (ix3 0 j ⟨e + d.val, by omega⟩)) := by
  have hgr : (extractStridedSlice S256x1 ![0, 0] cq2 hq : FVec Ideal S256x1 .f32) (ix2 r 0) = (g ⟨0 + r.val, by omega⟩ : EReal) := by
    rw [← hg]; pointwise
  rw [first_apply w _ _ _ r d _ rfl]
  simp only [ld_apply x2 0 e (by omega) he b1, hgr]
  have h := FoxMath.block_row (plain Q K G ⟨0 + r.val, by omega⟩) 0 (by omega) r (g ⟨0 + r.val, by omega⟩)
    (fun j => x2 (ix3 0 j ⟨e + d.val, by omega⟩))
    (fun c => masked (scores w 0 hs ck (View.ld x0 (Rect.unit ![0, 0, e] ![1, 256, 128] b1)) (View.ld x1 (Rect.unit ![0, 0, e] ![1, 256, 128] b1))) (ix2 r c))
    (fun c => c.elim0)
    (fun c => by
      rw [masked_apply]
      refine if_congr Iff.rfl ?_ rfl
      exact scores_real w 0 hs ck _ _ r c (by omega) Q K G _ (fun d => (ld_apply x0 0 e (by omega) he b1 r d).trans (h0 _ d))
        (fun d => (ld_apply x1 0 e (by omega) he b1 c d).trans (h1 _ d)) hc)
    (fun c => c.elim0) _ rfl
  simp only [Finset.univ_eq_empty, Finset.sum_empty, add_zero, Finset.fold_empty, max_eq_left bot_le] at h
  simp only [Nat.zero_add] at h ⊢
  exact h

/-- The shape facts against 256 keys. -/
def w256 : Width 256 where
  ds := dot_S256x128_S256x128_S256x256_1_1_0_0_n_n
  dp := dot_S256x256_S256x128_S256x128_1_0_0_1_n_n
  row := broadcasts_S1x256_S256x256
  col := broadcasts_S256x1_S256x256
  red := reduces_S256x256_S256
  cast := shapeCasts_S1x256x128_S256x128
  cast_apply := fun x c d => by pointwise
  row_apply := fun x r c => by pointwise
  ds_apply := fun a b z r c => by pointwise
  dp_apply := fun a b z r d => by pointwise

/-- The shape facts against 512 keys. -/
def w512 : Width 512 where
  ds := dot_S256x128_S512x128_S256x512_1_1_0_0_n_n
  dp := dot_S256x512_S512x128_S256x128_1_0_0_1_n_n
  row := broadcasts_S1x512_S256x512
  col := broadcasts_S256x1_S256x512
  red := reduces_S256x512_S256
  cast := shapeCasts_S1x512x128_S512x128
  cast_apply := fun x c d => by pointwise
  row_apply := fun x r c => by pointwise
  ds_apply := fun a b z r c => by pointwise
  dp_apply := fun a b z r d => by pointwise

/-- The shape facts against 768 keys. -/
def w768 : Width 768 where
  ds := dot_S256x128_S768x128_S256x768_1_1_0_0_n_n
  dp := dot_S256x768_S768x128_S256x128_1_0_0_1_n_n
  row := broadcasts_S1x768_S256x768
  col := broadcasts_S256x1_S256x768
  red := reduces_S256x768_S256
  cast := shapeCasts_S1x768x128_S768x128
  cast_apply := fun x c d => by pointwise
  row_apply := fun x r c => by pointwise
  ds_apply := fun a b z r c => by pointwise
  dp_apply := fun a b z r d => by pointwise

/-- The shape facts against 1024 keys. -/
def w1024 : Width 1024 where
  ds := dot_S256x128_S1024x128_S256x1024_1_1_0_0_n_n
  dp := dot_S256x1024_S1024x128_S256x128_1_0_0_1_n_n
  row := broadcasts_S1x1024_S256x1024
  col := broadcasts_S256x1_S256x1024
  red := reduces_S256x1024_S256
  cast := shapeCasts_S1x1024x128_S1024x128
  cast_apply := fun x c d => by pointwise
  row_apply := fun x r c => by pointwise
  ds_apply := fun a b z r c => by pointwise
  dp_apply := fun a b z r d => by pointwise

/-- The shape facts against 1280 keys. -/
def w1280 : Width 1280 where
  ds := dot_S256x128_S1280x128_S256x1280_1_1_0_0_n_n
  dp := dot_S256x1280_S1280x128_S256x128_1_0_0_1_n_n
  row := broadcasts_S1x1280_S256x1280
  col := broadcasts_S256x1_S256x1280
  red := reduces_S256x1280_S256
  cast := shapeCasts_S1x1280x128_S1280x128
  cast_apply := fun x c d => by pointwise
  row_apply := fun x r c => by pointwise
  ds_apply := fun a b z r c => by pointwise
  dp_apply := fun a b z r d => by pointwise

/-- The shape facts against 1536 keys. -/
def w1536 : Width 1536 where
  ds := dot_S256x128_S1536x128_S256x1536_1_1_0_0_n_n
  dp := dot_S256x1536_S1536x128_S256x128_1_0_0_1_n_n
  row := broadcasts_S1x1536_S256x1536
  col := broadcasts_S256x1_S256x1536
  red := reduces_S256x1536_S256
  cast := shapeCasts_S1x1536x128_S1536x128
  cast_apply := fun x c d => by pointwise
  row_apply := fun x r c => by pointwise
  ds_apply := fun a b z r c => by pointwise
  dp_apply := fun a b z r d => by pointwise

/-- The shape facts against 1792 keys. -/
def w1792 : Width 1792 where
  ds := dot_S256x128_S1792x128_S256x1792_1_1_0_0_n_n
  dp := dot_S256x1792_S1792x128_S256x128_1_0_0_1_n_n
  row := broadcasts_S1x1792_S256x1792
  col := broadcasts_S256x1_S256x1792
  red := reduces_S256x1792_S256
  cast := shapeCasts_S1x1792x128_S1792x128
  cast_apply := fun x c d => by pointwise
  row_apply := fun x r c => by pointwise
  ds_apply := fun a b z r c => by pointwise
  dp_apply := fun a b z r d => by pointwise

end Cert.FoxBlock

end
-- ==== Proof.FoxValue.lean ====
/- The attention kernel's results over the extended reals: the array of heads is the plain attention, the copied
   weight is the weight. -/
module
public import proofs.«01_k».proof.Proof.Gen.FoxIdeal.Value
public import proofs.«01_k».proof.Proof.FoxBlock
public import Idealize.ShloMosaic.Lib.Pipeline.ValueKit
@[expose] public section
set_option maxRecDepth 16384
noncomputable section

open Idealize.ShloMosaic Idealize.ShloMosaic.TcCoe Idealize.SL.Sem
open Idealize.ShloMosaic.Pipeline (Dat)
namespace Cert.FoxIdeal.Value
open Cert.FoxIdeal Cert.FoxIdeal.Gen
variable (m : (ℓ : Loc nD τ sig) → Buf (Elt Ideal) ℓ)
/-- The blocks of every window. -/
theorem idx : ∀ t : Fin cfg0.N, t.val / 8 < 4 ∧ win0_0.index t = ![t.val / 8, 0, t.val % 8] ∧ win0_1.index t = ![t.val / 8, 0, 8 + t.val % 8]
    ∧ win0_2.index t = ![t.val / 8, 0, 16 + t.val % 8] ∧ win0_3.index t = ![t.val / 8, 0, 0] ∧ win0_4.index t = ![t.val / 8, 0, 0]
    ∧ win0_5.index t = ![0, t.val, 0] ∧ win0_6.index t = ![t.val / 8, 0, t.val % 8] ∧ win0_7.index t = ![0, t.val, 0] :=
  (by decide +kernel : ∀ t : Fin grid0.N, _)

/-- The row of the gates that a grid point loads. -/
theorem off0 : ∀ t : Fin cfg0.N, k0_off1 (grid0.coords t) 0#32 = ![0, 64 + 2 * (t.val % 8), 0] ∧ k0_off1 (grid0.coords t) 1#32 = ![0, 64 + 2 * (t.val % 8) + 1, 0] :=
  (by decide +kernel : ∀ t : Fin grid0.N, _)

/-- The lane of the gate that a grid point selects. -/
theorem word0 : ∀ t : Fin cfg0.N, Scalar.addi (Scalar.addi 64#32 (Scalar.muli (BitVec.ofNat 32 (grid0.coords t 1).val) 2#32)) 0#32 = BitVec.ofNat 32 (64 + 2 * (t.val % 8)) ∧ Scalar.addi (Scalar.addi 64#32 (Scalar.muli (BitVec.ofNat 32 (grid0.coords t 1).val) 2#32)) 1#32 = BitVec.ofNat 32 (64 + 2 * (t.val % 8) + 1) :=
  (by decide +kernel : ∀ t : Fin grid0.N, _)

abbrev X (c : Dev nD) : S4x2048x6144.Idx → EReal := m ((c : Thread nD τ).loc main_arg0)
abbrev C (c : Dev nD) : S4x2048x128.Idx → EReal := m ((c : Thread nD τ).loc main_arg1)

abbrev bat (t : Fin cfg0.N) : Fin 4 := ⟨t.val / 8, (idx t).1⟩
abbrev hd (t : Fin cfg0.N) (e : ℕ) (he : e < 2) : Fin 16 := ⟨2 * (t.val % 8) + e, by omega⟩

theorem blk0 (c : Dev nD) (t : Fin cfg0.N) (s : Fin 2048) (j : Fin 256) :
    iblk m c 0 t (ix3 0 s j) = X m c (ix3 (bat t) s ⟨256 * (t.val % 8) + j.val, by omega⟩) := by
  blk_point [iblk, V, idx t]

theorem blk1 (c : Dev nD) (t : Fin cfg0.N) (s : Fin 2048) (j : Fin 256) :
    iblk m c 1 t (ix3 0 s j) = X m c (ix3 (bat t) s ⟨2048 + 256 * (t.val % 8) + j.val, by omega⟩) := by
  blk_point [iblk, V, idx t]

theorem blk2 (c : Dev nD) (t : Fin cfg0.N) (s : Fin 2048) (j : Fin 256) :
    iblk m c 2 t (ix3 0 s j) = X m c (ix3 (bat t) s ⟨4096 + 256 * (t.val % 8) + j.val, by omega⟩) := by
  blk_point [iblk, V, idx t]

theorem blk3 (c : Dev nD) (t : Fin cfg0.N) (s : Fin 2048) (j : Fin 128) :
    iblk m c 3 t (ix3 0 s j) = C m c (ix3 (bat t) s j) := by
  blk_point [iblk, V, idx t]

theorem blk4 (c : Dev nD) (t : Fin cfg0.N) (s : Fin 2048) (j : Fin 128) :
    iblk m c 4 t (ix3 0 j s) = C m c (ix3 (bat t) s j) := by
  blk_point [iblk, V, idx t]

section
variable (c : Dev nD) (hf : FoxMath.Finite (X m c) (C m c)) (t : Fin cfg0.N)
include hf

theorem q_real (E e : ℕ) (he : e < 2) (hE : E = 128 * e) (s : Fin 2048) (d : Fin 128) :
    iblk m c 0 t (ix3 0 s ⟨E + d.val, by omega⟩) = (FoxMath.Q (X m c) (bat t) (hd t e he) s d : EReal) := by
  rw [blk0, ← hf.q]
  congr 2; apply Fin.ext; simp only; omega

theorem k_real (E e : ℕ) (he : e < 2) (hE : E = 128 * e) (s : Fin 2048) (d : Fin 128) :
    iblk m c 1 t (ix3 0 s ⟨E + d.val, by omega⟩) = (FoxMath.K (X m c) (bat t) (hd t e he) s d : EReal) := by
  rw [blk1, ← hf.k]
  congr 2; apply Fin.ext; simp only; omega

/-- The gate of the query: the sum over the lanes of the one lane selected. -/
theorem lane_sum (w : BitVec 32) (e : ℕ) (he : e < 2) (hw : w = BitVec.ofNat 32 (64 + 2 * (t.val % 8) + e)) (s : Fin 2048) :
    (∑ l : Fin 128, Scalar.select (IntOp.cmpi .eq (BitVec.ofNat 32 l.val) w) (show EReal from iblk m c 3 t (ix3 0 s l)) (0 : EReal))
      = (FoxMath.G (C m c) (bat t) (hd t e he) s : EReal) := by
  rw [Finset.sum_eq_single (⟨64 + 2 * (t.val % 8) + e, by omega⟩ : Fin 128)]
  · unfold Scalar.select
    rw [hw, if_pos (by simp [IntOp.cmpi]), blk3, ← hf.g]
    show C m c (ix3 _ _ _) = _
    congr 2; apply Fin.ext; simp only; omega
  · intro l _ hl
    unfold Scalar.select
    rw [hw, WordCmp.cmpi_eq_ofNat (by have := l.isLt; omega) (by omega), if_neg]
    have : l.val ≠ 64 + 2 * (t.val % 8) + e := fun h => hl (Fin.ext h)
    simp [this]
  · intro h; exact absurd (Finset.mem_univ _) h

theorem cq0 (s : Fin 2048) : (k0_pay4 (grid0.coords t) (iblk m c 3 t) : FVec Ideal S2048x1 .f32) (ix2 s 0)
    = ((FoxMath.G (C m c) (bat t) (hd t 0 (by omega)) s * (Real.log 2)⁻¹ : ℝ) : EReal) := by
  pointwise [k0_pay4]
  rw [FoxBlock.log2e_val, lane_sum m c hf t _ 0 (by omega) (word0 t).1, EReal.coe_mul]

theorem cq1 (s : Fin 2048) : (k0_pay7 (iota Kind.tc S2048x128 32 [1] iota_S2048x128_d1_w32)
      (Scalar.muli (BitVec.ofNat 32 ↑(grid0.coords t 1)) 2#32) (64#32) (iblk m c 3 t) : FVec Ideal S2048x1 .f32) (ix2 s 0)
    = ((FoxMath.G (C m c) (bat t) (hd t 1 (by omega)) s * (Real.log 2)⁻¹ : ℝ) : EReal) := by
  pointwise [k0_pay7]
  rw [FoxBlock.log2e_val, lane_sum m c hf t _ 1 (by omega) (word0 t).2, EReal.coe_mul]

theorem ck_real (o : Fin 3 → ℕ) (e : ℕ) (he : e < 2) (ho : o = ![0, 64 + 2 * (t.val % 8) + e, 0])
    (b : ∀ a, o a + (![1, 1, 2048] : Fin 3 → ℕ) a ≤ S1x128x2048.size a) (j : Fin 2048) :
    (View.ld (iblk m c 4 t) (Rect.unit o ![1, 1, 2048] b) : Vec Ideal S1x1x2048 .f32) (ix3 0 0 j)
      = (FoxMath.G (C m c) (bat t) (hd t e he) j : EReal) := by
  subst ho
  rw [← hf.g]
  refine (View.ld_unit_apply_of (iblk m c 4 t) _ _ b _ (ix3 0 ⟨64 + 2 * (t.val % 8) + e, by omega⟩ j) fun a => ?_).trans ?_
  · match a with
    | ⟨0, _⟩ => rfl
    | ⟨1, _⟩ => rfl
    | ⟨2, _⟩ => exact (Nat.zero_add _).symm
  · rw [blk4]; congr 2; apply Fin.ext; simp only; omega

theorem ck0 (j : Fin 2048) : (k0_pay5 (View.ld (iblk m c 4 t) (Rect.unit (k0_off1 (grid0.coords t) 0#32) ![1, 1, 2048]
      (k0_off1_inb (grid0.coords t) 0))) : FVec Ideal S1x2048 .f32) (ix2 0 j)
    = ((FoxMath.G (C m c) (bat t) (hd t 0 (by omega)) j * (Real.log 2)⁻¹ : ℝ) : EReal) := by
  have h := ck_real m c hf t _ 0 (by omega) (off0 t).1 (k0_off1_inb (grid0.coords t) 0) j
  generalize View.ld (iblk m c 4 t) _ = v at h
  pointwise [k0_pay5]
  rw [FoxBlock.log2e_val, EReal.coe_mul, ← h]

theorem ck1 (j : Fin 2048) : (k0_pay8 (View.ld (iblk m c 4 t) (Rect.unit (k0_off1 (grid0.coords t) 1#32) ![1, 1, 2048]
      (k0_off1_inb (grid0.coords t) 1))) : FVec Ideal S1x2048 .f32) (ix2 0 j)
    = ((FoxMath.G (C m c) (bat t) (hd t 1 (by omega)) j * (Real.log 2)⁻¹ : ℝ) : EReal) := by
  have h := ck_real m c hf t _ 1 (by omega) (off0 t).2 (k0_off1_inb (grid0.coords t) 1) j
  generalize View.ld (iblk m c 4 t) _ = v at h
  pointwise [k0_pay8]
  rw [FoxBlock.log2e_val, EReal.coe_mul, ← h]

omit hf in
/-- What a block's row must be, from where it lands in the array. -/
theorem target (y : ((cfg0.win 6).xblock (cfg0.grid.coords t)).Idx) (E e : ℕ) (he : e < 2) (hE : E = 128 * e) (s : Fin 2048) (d : Fin 128)
    (h1 : (y 1).val = s.val) (h2 : (y 2).val = E + d.val) :
    FoxMath.row (FoxMath.plain (FoxMath.Q (X m c) (bat t) (hd t e he)) (FoxMath.K (X m c) (bat t) (hd t e he))
        (FoxMath.G (C m c) (bat t) (hd t e he)) s) s (fun j => iblk m c 2 t (ix3 0 j ⟨E + d.val, by omega⟩))
      = FoxMath.attnArr (X m c) (C m c) (((View.whole main_v1_0).slice (win0_6.rect t)).emb y) := by
  have e0 : ((((View.whole main_v1_0).slice (win0_6.rect t)).emb y) 0).val = t.val / 8 := by
    have hy : (y 0).val < 1 := (y 0).isLt
    blk_simp [idx t] <;> try omega
  have e1 : ((((View.whole main_v1_0).slice (win0_6.rect t)).emb y) 1).val = s.val := by
    blk_simp [idx t] <;> try omega
  have e2 : ((((View.whole main_v1_0).slice (win0_6.rect t)).emb y) 2).val = 256 * (t.val % 8) + 128 * e + d.val := by
    blk_simp [idx t] <;> try omega
  generalize ((View.whole main_v1_0).slice (win0_6.rect t)).emb y = i at e0 e1 e2
  have hb : (i 0 : Fin 4) = bat t := Fin.ext e0
  have hs : (i 1 : Fin 2048) = s := Fin.ext e1
  unfold FoxMath.attnArr
  have hh : (⟨(i 2).val / 128, by have : (i 2).val < 2048 := (i 2).isLt; omega⟩ : Fin 16) = hd t e he :=
    Fin.ext (by show (i 2).val / 128 = _; rw [e2]; simp only; omega)
  have hdd : (⟨(i 2).val % 128, Nat.mod_lt _ (by norm_num)⟩ : Fin 128) = d :=
    Fin.ext (by show (i 2).val % 128 = _; rw [e2]; omega)
  rw [hh, hdd]
  show _ = FoxMath.attn (X m c) (C m c) (i 0) (hd t e he) (i 1) d
  erw [hb, hs]
  unfold FoxMath.attn
  congr 1
  funext j
  rw [blk2]
  congr 2; apply Fin.ext; simp only; omega

omit hf in
theorem x_eq (x : S1x256x128.Idx) : x = ix3 0 (x 1) (x 2) := by
  funext a
  match a with
  | ⟨0, _⟩ => exact Fin.ext (by have : (x 0).val < 1 := (x 0).isLt; show (x 0).val = 0; omega)
  | ⟨1, _⟩ => rfl
  | ⟨2, _⟩ => rfl

end

set_option maxRecDepth 200000 in
/-- The array of heads after the run. -/
theorem final6 (c : Dev nD) (hf : FoxMath.Finite (X m c) (C m c)) :
    (dats m 0 c).arrAt 6 (cfgs 0).N = FoxMath.attnArr (X m c) (C m c) := by
  refine (dats m 0 c).arrAt_eq_of_covers 6 _ (by decide +kernel) fun t hfl y => ?_
  blk_simp
  rw [after0_6]
  simp only [outsAt0]
  frame_out
  canon_tiles x h
  all_goals rw [x_eq x]
  case piece0 =>
    exact (FoxBlock.later_row FoxBlock.w256 FoxBlock.w1792 128 (by omega) (by omega) (iblk m c 0 t) (iblk m c 1 t) (iblk m c 2 t)
      _ _ _ _ slices_S1x2048_o0_1792_S1x256 slices_S1x2048_o0_0_S1x1792 slices_S2048x1_o1792_0_S256x1 _ _ _ _
      (q_real m c hf t 128 1 (by omega) rfl) (k_real m c hf t 128 1 (by omega) rfl) (ck1 m c hf t) (cq1 m c hf t) (x 1) (x 2)).trans
      (target m c t y 128 1 (by omega) rfl _ _ (by rw [h1]) (by rw [h2]))
  case piece1 =>
    exact (FoxBlock.later_row FoxBlock.w256 FoxBlock.w1792 0 (by omega) (by omega) (iblk m c 0 t) (iblk m c 1 t) (iblk m c 2 t)
      _ _ _ _ slices_S1x2048_o0_1792_S1x256 slices_S1x2048_o0_0_S1x1792 slices_S2048x1_o1792_0_S256x1 _ _ _ _
      (q_real m c hf t 0 0 (by omega) rfl) (k_real m c hf t 0 0 (by omega) rfl) (ck0 m c hf t) (cq0 m c hf t) (x 1) (x 2)).trans
      (target m c t y 0 0 (by omega) rfl _ _ (by rw [h1]) (by rw [h2, Nat.zero_add]))
  case piece2 =>
    open_payloads
    exact (FoxBlock.later_row FoxBlock.w256 FoxBlock.w1536 128 (by omega) (by omega) (iblk m c 0 t) (iblk m c 1 t) (iblk m c 2 t)
      _ _ _ _ slices_S1x2048_o0_1536_S1x256 slices_S1x2048_o0_0_S1x1536 slices_S2048x1_o1536_0_S256x1 _ _ _ _
      (q_real m c hf t 128 1 (by omega) rfl) (k_real m c hf t 128 1 (by omega) rfl) (ck1 m c hf t) (cq1 m c hf t) (x 1) (x 2)).trans
      (target m c t y 128 1 (by omega) rfl _ _ (by rw [h1]) (by rw [h2]))
  case piece3 =>
    exact (FoxBlock.later_row FoxBlock.w256 FoxBlock.w1536 0 (by omega) (by omega) (iblk m c 0 t) (iblk m c 1 t) (iblk m c 2 t)
      _ _ _ _ slices_S1x2048_o0_1536_S1x256 slices_S1x2048_o0_0_S1x1536 slices_S2048x1_o1536_0_S256x1 _ _ _ _
      (q_real m c hf t 0 0 (by omega) rfl) (k_real m c hf t 0 0 (by omega) rfl) (ck0 m c hf t) (cq0 m c hf t) (x 1) (x 2)).trans
      (target m c t y 0 0 (by omega) rfl _ _ (by rw [h1]) (by rw [h2, Nat.zero_add]))
  case piece4 =>
    exact (FoxBlock.later_row FoxBlock.w256 FoxBlock.w1280 128 (by omega) (by omega) (iblk m c 0 t) (iblk m c 1 t) (iblk m c 2 t)
      _ _ _ _ slices_S1x2048_o0_1280_S1x256 slices_S1x2048_o0_0_S1x1280 slices_S2048x1_o1280_0_S256x1 _ _ _ _
      (q_real m c hf t 128 1 (by omega) rfl) (k_real m c hf t 128 1 (by omega) rfl) (ck1 m c hf t) (cq1 m c hf t) (x 1) (x 2)).trans
      (target m c t y 128 1 (by omega) rfl _ _ (by rw [h1]) (by rw [h2]))
  case piece5 =>
    exact (FoxBlock.later_row FoxBlock.w256 FoxBlock.w1280 0 (by omega) (by omega) (iblk m c 0 t) (iblk m c 1 t) (iblk m c 2 t)
      _ _ _ _ slices_S1x2048_o0_1280_S1x256 slices_S1x2048_o0_0_S1x1280 slices_S2048x1_o1280_0_S256x1 _ _ _ _
      (q_real m c hf t 0 0 (by omega) rfl) (k_real m c hf t 0 0 (by omega) rfl) (ck0 m c hf t) (cq0 m c hf t) (x 1) (x 2)).trans
      (target m c t y 0 0 (by omega) rfl _ _ (by rw [h1]) (by rw [h2, Nat.zero_add]))
  case piece6 =>
    exact (FoxBlock.later_row FoxBlock.w256 FoxBlock.w1024 128 (by omega) (by omega) (iblk m c 0 t) (iblk m c 1 t) (iblk m c 2 t)
      _ _ _ _ slices_S1x2048_o0_1024_S1x256 slices_S1x2048_o0_0_S1x1024 slices_S2048x1_o1024_0_S256x1 _ _ _ _
      (q_real m c hf t 128 1 (by omega) rfl) (k_real m c hf t 128 1 (by omega) rfl) (ck1 m c hf t) (cq1 m c hf t) (x 1) (x 2)).trans
      (target m c t y 128 1 (by omega) rfl _ _ (by rw [h1]) (by rw [h2]))
  case piece7 =>
    exact (FoxBlock.later_row FoxBlock.w256 FoxBlock.w1024 0 (by omega) (by omega) (iblk m c 0 t) (iblk m c 1 t) (iblk m c 2 t)
      _ _ _ _ slices_S1x2048_o0_1024_S1x256 slices_S1x2048_o0_0_S1x1024 slices_S2048x1_o1024_0_S256x1 _ _ _ _
      (q_real m c hf t 0 0 (by omega) rfl) (k_real m c hf t 0 0 (by omega) rfl) (ck0 m c hf t) (cq0 m c hf t) (x 1) (x 2)).trans
      (target m c t y 0 0 (by omega) rfl _ _ (by rw [h1]) (by rw [h2, Nat.zero_add]))
  case piece8 =>
    exact (FoxBlock.later_row FoxBlock.w256 FoxBlock.w768 128 (by omega) (by omega) (iblk m c 0 t) (iblk m c 1 t) (iblk m c 2 t)
      _ _ _ _ slices_S1x2048_o0_768_S1x256 slices_S1x2048_o0_0_S1x768 slices_S2048x1_o768_0_S256x1 _ _ _ _
      (q_real m c hf t 128 1 (by omega) rfl) (k_real m c hf t 128 1 (by omega) rfl) (ck1 m c hf t) (cq1 m c hf t) (x 1) (x 2)).trans
      (target m c t y 128 1 (by omega) rfl _ _ (by rw [h1]) (by rw [h2]))
  case piece9 =>
    exact (FoxBlock.later_row FoxBlock.w256 FoxBlock.w768 0 (by omega) (by omega) (iblk m c 0 t) (iblk m c 1 t) (iblk m c 2 t)
      _ _ _ _ slices_S1x2048_o0_768_S1x256 slices_S1x2048_o0_0_S1x768 slices_S2048x1_o768_0_S256x1 _ _ _ _
      (q_real m c hf t 0 0 (by omega) rfl) (k_real m c hf t 0 0 (by omega) rfl) (ck0 m c hf t) (cq0 m c hf t) (x 1) (x 2)).trans
      (target m c t y 0 0 (by omega) rfl _ _ (by rw [h1]) (by rw [h2, Nat.zero_add]))
  case piece10 =>
    exact (FoxBlock.later_row FoxBlock.w256 FoxBlock.w512 128 (by omega) (by omega) (iblk m c 0 t) (iblk m c 1 t) (iblk m c 2 t)
      _ _ _ _ slices_S1x2048_o0_512_S1x256 slices_S1x2048_o0_0_S1x512 slices_S2048x1_o512_0_S256x1 _ _ _ _
      (q_real m c hf t 128 1 (by omega) rfl) (k_real m c hf t 128 1 (by omega) rfl) (ck1 m c hf t) (cq1 m c hf t) (x 1) (x 2)).trans
      (target m c t y 128 1 (by omega) rfl _ _ (by rw [h1]) (by rw [h2]))
  case piece11 =>
    exact (FoxBlock.later_row FoxBlock.w256 FoxBlock.w512 0 (by omega) (by omega) (iblk m c 0 t) (iblk m c 1 t) (iblk m c 2 t)
      _ _ _ _ slices_S1x2048_o0_512_S1x256 slices_S1x2048_o0_0_S1x512 slices_S2048x1_o512_0_S256x1 _ _ _ _
      (q_real m c hf t 0 0 (by omega) rfl) (k_real m c hf t 0 0 (by omega) rfl) (ck0 m c hf t) (cq0 m c hf t) (x 1) (x 2)).trans
      (target m c t y 0 0 (by omega) rfl _ _ (by rw [h1]) (by rw [h2, Nat.zero_add]))
  case piece12 =>
    exact (FoxBlock.later_row FoxBlock.w256 FoxBlock.w256 128 (by omega) (by omega) (iblk m c 0 t) (iblk m c 1 t) (iblk m c 2 t)
      _ _ _ _ slices_S1x2048_o0_256_S1x256 slices_S1x2048_o0_0_S1x256 slices_S2048x1_o256_0_S256x1 _ _ _ _
      (q_real m c hf t 128 1 (by omega) rfl) (k_real m c hf t 128 1 (by omega) rfl) (ck1 m c hf t) (cq1 m c hf t) (x 1) (x 2)).trans
      (target m c t y 128 1 (by omega) rfl _ _ (by rw [h1]) (by rw [h2]))
  case piece13 =>
    exact (FoxBlock.later_row FoxBlock.w256 FoxBlock.w256 0 (by omega) (by omega) (iblk m c 0 t) (iblk m c 1 t) (iblk m c 2 t)
      _ _ _ _ slices_S1x2048_o0_256_S1x256 slices_S1x2048_o0_0_S1x256 slices_S2048x1_o256_0_S256x1 _ _ _ _
      (q_real m c hf t 0 0 (by omega) rfl) (k_real m c hf t 0 0 (by omega) rfl) (ck0 m c hf t) (cq0 m c hf t) (x 1) (x 2)).trans
      (target m c t y 0 0 (by omega) rfl _ _ (by rw [h1]) (by rw [h2, Nat.zero_add]))
  case piece14 =>
    exact (FoxBlock.first_row FoxBlock.w256 128 (by omega) (iblk m c 0 t) (iblk m c 1 t) (iblk m c 2 t) _ _ _ _ _ _ _ _ _
      (q_real m c hf t 128 1 (by omega) rfl) (k_real m c hf t 128 1 (by omega) rfl) (ck1 m c hf t) (cq1 m c hf t) (x 1) (x 2)).trans
      (target m c t y 128 1 (by omega) rfl _ _ (by rw [h1]) (by rw [h2]))
  case piece15 =>
    exact (FoxBlock.first_row FoxBlock.w256 0 (by omega) (iblk m c 0 t) (iblk m c 1 t) (iblk m c 2 t) _ _ _ _ slices_S2048x1_o0_0_S256x1 _ _ _ _
      (q_real m c hf t 0 0 (by omega) rfl) (k_real m c hf t 0 0 (by omega) rfl) (ck0 m c hf t) (cq0 m c hf t) (x 1) (x 2)).trans
      (target m c t y 0 0 (by omega) rfl _ _ (by rw [h1]) (by rw [h2, Nat.zero_add]))

theorem cpy (c : Dev nD) (t : Fin cfg0.N) (x : S1x64x2048.Idx) (i : S1x2048x2048.Idx)
    (e1 : (i 1).val = 64 * t.val + (x 1).val) (e2 : (i 2).val = (x 2).val) :
    k0_pay2 (iblk m c 5 t) x = (m ((c : Thread nD τ).loc main_arg2) : S2x2048x2048.Idx → EReal) (ix3 0 (i 1) (i 2)) := by
  obtain ⟨a, b, d, rfl⟩ : ∃ a b d, x = ix3 a b d := ⟨x 0, x 1, x 2, by funext a; match a with | ⟨0, _⟩ => rfl | ⟨1, _⟩ => rfl | ⟨2, _⟩ => rfl⟩
  pointwise [k0_pay2]
  replace e1 : (i 1).val = 64 * t.val + b.val := e1
  replace e2 : (i 2).val = d.val := e2
  have : (0 : Fin 1) = a := Subsingleton.elim _ _
  subst this
  blk_point [iblk, V, idx t] <;> omega

/-- The copied weight after the run. -/
theorem final7 (c : Dev nD) : (dats m 0 c).arrAt 7 (cfgs 0).N
    = fun i => (m ((c : Thread nD τ).loc main_arg2) : S2x2048x2048.Idx → EReal) (ix3 0 (i 1) (i 2)) := by
  refine (dats m 0 c).arrAt_eq_of_covers 7 _ (by decide +kernel) fun t hfl y => ?_
  blk_simp
  rw [after0_7]
  simp only [outsAt0]
  frame_out
  exact cpy m c t y _ (by blk_simp [idx t] <;> omega) (by blk_simp [idx t])

end Cert.FoxIdeal.Value

end
-- ==== Proof.FoxRef.lean ====
/- The reference's results over the extended reals: every operation read at an index, down to the plain attention of a
   row. -/
module
public import proofs.«01_k».proof.Proof.Gen.FoxRefIdeal.Read
public import proofs.«01_k».proof.Proof.FoxMath
public import Idealize.ShloMosaic.Lib.Pipeline.ValueKit
public import Idealize.ShloMosaic.Lib.WordCmp
@[expose] public section
set_option maxRecDepth 16384
noncomputable section

open Idealize.ShloMosaic Idealize.ShloMosaic.TcCoe Idealize.SL.Sem
namespace Cert.FoxRefIdeal.Read
open Cert.FoxRefIdeal Cert.FoxRefIdeal.Gen

variable (X : S4x2048x6144.Idx → EReal) (C : S4x2048x128.Idx → EReal)

/-- The queries, the keys and the values by batch, head, position and lane. -/
theorem q_at (b : Fin 4) (h : Fin 16) (s : Fin 2048) (d : Fin 128) :
    val_main_v5 (F := Ideal) X (ix4 b h s d) = X (ix3 b s ⟨128 * h.val + d.val, by omega⟩) := by
  rw [val_main_v5_apply, val_main_v4_apply, val_main_v1_apply, val_main_v0_apply]
  refine congrArg X (funext fun a => Fin.ext ?_)
  match a with
  | ⟨0, _⟩ => show (((b.val * 2048 + s.val) * 16 + h.val) * 128 + d.val) / 4194304 = b.val; omega
  | ⟨1, _⟩ => show (((b.val * 2048 + s.val) * 16 + h.val) * 128 + d.val) / 2048 % 2048 = s.val; omega
  | ⟨2, _⟩ => show (((b.val * 2048 + s.val) * 16 + h.val) * 128 + d.val) % 2048 = 128 * h.val + d.val; omega

theorem k_at (b : Fin 4) (h : Fin 16) (s : Fin 2048) (d : Fin 128) :
    val_main_v7 (F := Ideal) X (ix4 b h s d) = X (ix3 b s ⟨2048 + 128 * h.val + d.val, by omega⟩) := by
  rw [val_main_v7_apply, val_main_v6_apply, val_main_v2_apply, val_main_v0_apply]
  refine congrArg X (funext fun a => Fin.ext ?_)
  match a with
  | ⟨0, _⟩ => show (((b.val * 2048 + s.val) * 16 + h.val) * 128 + d.val) / 4194304 = b.val; omega
  | ⟨1, _⟩ => show (((b.val * 2048 + s.val) * 16 + h.val) * 128 + d.val) / 2048 % 2048 = s.val; omega
  | ⟨2, _⟩ => show 2048 + (((b.val * 2048 + s.val) * 16 + h.val) * 128 + d.val) % 2048 = 2048 + 128 * h.val + d.val; omega

theorem v_at (b : Fin 4) (h : Fin 16) (s : Fin 2048) (d : Fin 128) :
    val_main_v9 (F := Ideal) X (ix4 b h s d) = X (ix3 b s ⟨4096 + 128 * h.val + d.val, by omega⟩) := by
  rw [val_main_v9_apply, val_main_v8_apply, val_main_v3_apply, val_main_v0_apply]
  refine congrArg X (funext fun a => Fin.ext ?_)
  match a with
  | ⟨0, _⟩ => show (((b.val * 2048 + s.val) * 16 + h.val) * 128 + d.val) / 4194304 = b.val; omega
  | ⟨1, _⟩ => show (((b.val * 2048 + s.val) * 16 + h.val) * 128 + d.val) / 2048 % 2048 = s.val; omega
  | ⟨2, _⟩ => show 4096 + (((b.val * 2048 + s.val) * 16 + h.val) * 128 + d.val) % 2048 = 4096 + 128 * h.val + d.val; omega

theorem g_at (b : Fin 4) (h : Fin 16) (s : Fin 2048) :
    val_main_v11 (F := Ideal) C (ix3 b h s) = C (ix3 b s ⟨64 + h.val, by omega⟩) := by
  rw [val_main_v11_apply, val_main_v10_apply]
  refine congrArg C (funext fun a => Fin.ext ?_)
  match a with
  | ⟨0, _⟩ => rfl
  | ⟨1, _⟩ => rfl
  | ⟨2, _⟩ => rfl

theorem scale_at (i : S_.Idx) : val_main_v13 (F := Ideal) i = (((Real.sqrt 128)⁻¹ : ℝ) : EReal) := by
  have h1 : (FloatOps.ofBits .f32 0x3F800000#32 : Ideal .f32) = ((1 : ℝ) : EReal) := by
    show Ideal.ofBits .f32 0x3F800000#32 = _
    simp [Ideal.ofBits, Ideal.ieee]
    rw [← EReal.coe_mul]; norm_num
  have h2 : (FloatOps.ofBits .f32 0x43000000#32 : Ideal .f32) = ((128 : ℝ) : EReal) := by
    show Ideal.ofBits .f32 0x43000000#32 = _
    simp [Ideal.ofBits, Ideal.ieee]
    rw [← EReal.coe_mul]; norm_num
  rw [val_main_v13_apply, val_main_v12_apply, val_main_cst_apply, val_main_cst_0_apply, h1, h2]
  show Ideal.div ((1 : ℝ) : EReal) (if (128 : ℝ) < 0 then ⊥ else ((Real.sqrt 128 : ℝ) : EReal)) = _
  rw [if_neg (by norm_num), Ideal.div_coe (by positivity) _, one_div, EReal.coe_one, one_mul]

theorem ninf : (FloatOps.ofBits .f32 0xFF800000#32 : Ideal .f32) = ⊥ := by
  show Ideal.ofBits .f32 0xFF800000#32 = ⊥
  simp [Ideal.ofBits, Ideal.ieee]

/-- The masked scores. -/
theorem score_at (hf : FoxMath.Finite X C) (b : Fin 4) (h : Fin 16) (i j : Fin 2048) :
    val_main_v30 (F := Ideal) X C (ix4 b h i j) = if j ≤ i then
      ((FoxMath.plain (FoxMath.Q X b h) (FoxMath.K X b h) (FoxMath.G C b h) i j + FoxMath.G C b h i : ℝ) : EReal) else ⊥ := by
  rw [val_main_v30_apply, val_main_call0_v1_apply, val_main_v29_apply, val_main_v27_apply, val_main_v28_apply, val_main_v24_apply,
    val_main_v26_apply, val_main_v23_apply, val_main_v25_apply, val_main_call0_v2_apply, val_main_call0_v0_apply, val_main_cst_1_apply, ninf]
  show Scalar.select (IntOp.cmpi .sge (BitVec.ofNat 32 i.val) (BitVec.ofNat 32 j.val)) _ _ = _
  unfold Scalar.select
  rw [WordCmp.cmpi_sge_ofNat (by omega) (by omega)]
  by_cases hj : j ≤ i
  · rw [if_pos hj, if_pos (by simp [hj])]
    rw [val_main_v22_apply, val_main_v19_apply, val_main_v16_apply, val_main_v15_apply, scale_at, val_main_v14_apply, val_main_v18_apply,
      val_main_v17_apply, val_main_v21_apply, val_main_v20_apply]
    have hl : ∀ k : Fin 128, lidx_main_v14 (ix4 b h i j) k = ix4 b h i k := fun k => by
      funext a; match a with | ⟨0, _⟩ => rfl | ⟨1, _⟩ => rfl | ⟨2, _⟩ => rfl | ⟨3, _⟩ => rfl
    have hr : ∀ k : Fin 128, ridx_main_v14 (ix4 b h i j) k = ix4 b h j k := fun k => by
      funext a; match a with | ⟨0, _⟩ => rfl | ⟨1, _⟩ => rfl | ⟨2, _⟩ => rfl | ⟨3, _⟩ => rfl
    have e1 : idx_main_v17 (idx_main_v18 (ix4 b h i j)) = ix3 b h i := by
      funext a; match a with | ⟨0, _⟩ => rfl | ⟨1, _⟩ => rfl | ⟨2, _⟩ => rfl
    have e2 : idx_main_v20 (idx_main_v21 (ix4 b h i j)) = ix3 b h j := by
      funext a; match a with | ⟨0, _⟩ => rfl | ⟨1, _⟩ => rfl | ⟨2, _⟩ => rfl
    rw [e1, e2, g_at, g_at]
    simp only [hl, hr, q_at, k_at, hf.q, hf.k, hf.g]
    show ((∑ k, (FoxMath.Q X b h i k : EReal) * (FoxMath.K X b h j k : EReal)) * _ + _) - _ = _
    unfold FoxMath.plain
    simp only [← EReal.coe_mul, ← FoxMath.coe_sum, ← EReal.coe_add, ← EReal.coe_sub]
    congr 1; ring
  · rw [if_neg hj, if_neg (by simp [hj])]

theorem fold_at (b : Fin 4) (h : Fin 16) (i : Fin 2048) :
    val_main_v31 (F := Ideal) X C (ix3 b h i) = (Finset.univ : Finset (Fin 2048)).fold max ⊥ fun j => val_main_v30 (F := Ideal) X C (ix4 b h i j) := by
  unfold val_main_v31
  generalize val_main_v30 (F := Ideal) X C = y
  have hr : S4x16x2048x2048.Reduces [3] S4x16x2048 := by decide
  refine (Host.reduce_eq_fold_single (s := S4x16x2048x2048) (a := 3) _ y _ _ hr _ _).trans ?_
  rw [val_main_cst_2_apply, ninf]
  have e : (y ∘ hr.lift (ix3 b h i)) = fun j : Fin 2048 => y (ix4 b h i j) := by
    funext j
    refine congrArg y (funext fun a => ?_)
    match a with | ⟨0, _⟩ => rfl | ⟨1, _⟩ => rfl | ⟨2, _⟩ => rfl | ⟨3, _⟩ => rfl
  rw [e]
  rfl

/-- The weights before the division. -/
theorem exp_at (b : Fin 4) (h : Fin 16) (i j : Fin 2048) :
    val_main_v37 (F := Ideal) X C (ix4 b h i j) = Ideal.exp (val_main_v30 (F := Ideal) X C (ix4 b h i j)
      - max ⊥ ((Finset.univ : Finset (Fin 2048)).fold max ⊥ fun j => val_main_v30 (F := Ideal) X C (ix4 b h i j))) := by
  rw [val_main_v37_apply, val_main_v36_apply, val_main_v35_apply, val_main_v34_apply, val_main_v33_apply, val_main_v32_apply, val_main_cst_3_apply, ninf]
  have e : idx_main_v34 (idx_main_v35 (ix4 b h i j)) = ix3 b h i := by
    funext a; match a with | ⟨0, _⟩ => rfl | ⟨1, _⟩ => rfl | ⟨2, _⟩ => rfl
  rw [e, fold_at]
  rfl

theorem heads_at (hf : FoxMath.Finite X C) (b : Fin 4) (h : Fin 16) (i : Fin 2048) (d : Fin 128) :
    val_main_v42 (F := Ideal) X C (ix4 b h i d) = FoxMath.attn X C b h i d := by
  rw [val_main_v42_apply]
  refine Eq.trans ?_ (FoxMath.plain_row _ (FoxMath.G C b h i) i (fun j => X (ix3 b j ⟨4096 + 128 * h.val + d.val, by omega⟩)) _ (score_at X C hf b h i))
  refine Finset.sum_congr rfl fun j _ => ?_
  have hl : lidx_main_v42 (ix4 b h i d) j = ix4 b h i j := by
    funext a; match a with | ⟨0, _⟩ => rfl | ⟨1, _⟩ => rfl | ⟨2, _⟩ => rfl | ⟨3, _⟩ => rfl
  have hr : ridx_main_v42 (ix4 b h i d) j = ix4 b h j d := by
    funext a; match a with | ⟨0, _⟩ => rfl | ⟨1, _⟩ => rfl | ⟨2, _⟩ => rfl | ⟨3, _⟩ => rfl
  rw [hl, hr, v_at, val_main_v41_apply, val_main_v40_apply, val_main_v39_apply, val_main_v38_apply, exp_at, val_main_cst_4_apply]
  have e : ∀ l : Fin 2048, idx_main_v38 (idx_main_v39 (idx_main_v40 (ix4 b h i j))) l = ix4 b h i l := fun l => by
    funext a; match a with | ⟨0, _⟩ => rfl | ⟨1, _⟩ => rfl | ⟨2, _⟩ => rfl | ⟨3, _⟩ => rfl
  simp only [e, exp_at]
  have h0 : (FloatOps.ofBits .f32 0x00000000#32 : Ideal .f32) = (0 : EReal) := Ideal.ofBits_zero_f32
  rw [h0]
  rfl

/-- The array of heads of the reference. -/
theorem final45 (hf : FoxMath.Finite X C) : val_main_v45 (F := Ideal) X C = FoxMath.attnArr X C := by
  funext i
  have h2 : (i 2).val < 2048 := (i 2).isLt
  rw [val_main_v45_apply, val_main_v44_apply, val_main_v43_apply]
  refine Eq.trans ?_ (heads_at X C hf (i 0) ⟨(i 2).val / 128, by omega⟩ (i 1) ⟨(i 2).val % 128, Nat.mod_lt _ (by norm_num)⟩)
  refine congrArg (val_main_v42 (F := Ideal) X C) (funext fun a => Fin.ext ?_)
  have h0 : (i 0).val < 4 := (i 0).isLt
  have h1 : (i 1).val < 2048 := (i 1).isLt
  match a with
  | ⟨0, _⟩ => show (((i 0).val * 2048 + (i 1).val) * 2048 + (i 2).val) / 4194304 = (i 0).val; omega
  | ⟨1, _⟩ => show (((i 0).val * 2048 + (i 1).val) * 2048 + (i 2).val) / 128 % 16 = (i 2).val / 128; omega
  | ⟨2, _⟩ => show (((i 0).val * 2048 + (i 1).val) * 2048 + (i 2).val) / 2048 % 2048 = (i 1).val; omega
  | ⟨3, _⟩ => show (((i 0).val * 2048 + (i 1).val) * 2048 + (i 2).val) % 128 = (i 2).val % 128; omega

theorem final47 (W : S2x2048x2048.Idx → EReal) : val_main_v47 (F := Ideal) W = fun i => W (ix3 0 (i 1) (i 2)) := by
  funext i
  rw [val_main_v47_apply, val_main_v46_apply]
  refine congrArg W (funext fun a => Fin.ext ?_)
  have h0 : (i 0).val < 1 := (i 0).isLt
  match a with
  | ⟨0, _⟩ => show (i 0).val = 0; omega
  | ⟨1, _⟩ => rfl
  | ⟨2, _⟩ => rfl

end Cert.FoxRefIdeal.Read

end
-- ==== Proof.FoxPre.lean ====
/- What the precondition says of the arrays: the queries, the keys and the gates are finite. -/
module
public import proofs.«01_k».proof.Defs
public import proofs.«01_k».proof.Proof.Gen.Pre_fox_finite
public import proofs.«01_k».proof.Proof.FoxMath
public import Idealize.ShloMosaic.Lib.Pipeline.ValueKit
public import Idealize.ShloMosaic.Lib.ReduceAll
@[expose] public section
set_option maxRecDepth 16384
noncomputable section

open Idealize.ShloMosaic Idealize.ShloMosaic.TcCoe Idealize.SL.Sem
namespace Cert.Pre_fox_finite
open Cert.Pre_fox_finite

instance : Facts := Cert.Pre_fox_finite.Gen.facts

theorem below_top (x : EReal) (h : max x (-x) < ⊤) : x ≠ ⊤ ∧ x ≠ ⊥ := by
  refine ⟨fun e => ?_, fun e => ?_⟩ <;> subst e <;> simp at h

theorem below_top_bf16 (x : EReal) (h : FloatOps.cmpf (F := Ideal) (φ := .bf16) .olt (FloatOps.hostAbsf (F := Ideal) (φ := .bf16) x) (FloatOps.ofBits .bf16 0x7F80#16) = 1#1) :
    x ≠ ⊤ ∧ x ≠ ⊥ := by
  have e : (FloatOps.ofBits .bf16 0x7F80#16 : Ideal .bf16) = ⊤ := by
    show Ideal.ofBits .bf16 0x7F80#16 = ⊤
    simp [Ideal.ofBits, Ideal.ieee]
  rw [e] at h
  exact below_top x (by
    have h' : BitVec.ofBool (decide (max x (-x) < ⊤)) = 1#1 := h
    by_contra hn
    rw [decide_eq_false hn] at h'
    exact absurd h' (by decide))

theorem below_top_f32 (x : EReal) (h : FloatOps.cmpf (F := Ideal) (φ := .f32) .olt (FloatOps.hostAbsf (F := Ideal) (φ := .f32) x) (FloatOps.ofBits .f32 0x7F800000#32) = 1#1) :
    x ≠ ⊤ ∧ x ≠ ⊥ := by
  have e : (FloatOps.ofBits .f32 0x7F800000#32 : Ideal .f32) = ⊤ := by
    show Ideal.ofBits .f32 0x7F800000#32 = ⊤
    simp [Ideal.ofBits, Ideal.ieee]
  rw [e] at h
  exact below_top x (by
    have h' : BitVec.ofBool (decide (max x (-x) < ⊤)) = 1#1 := h
    by_contra hn
    rw [decide_eq_false hn] at h'
    exact absurd h' (by decide))

theorem finite (X : S4x2048x6144.Idx → EReal) (C : S4x2048x128.Idx → EReal) (W : S2x2048x2048.Idx → EReal)
    (h : Cert.Pre_fox_finite.fn (F := Ideal) X C W = fun _ => 1#1) : FoxMath.Finite X C := by
  have h1 := congrFun h (Shape.Idx.first Facts.h_S_)
  simp only [Cert.Pre_fox_finite.fn] at h1
  have h2 := (IntOp.andi_eq_one.mp h1)
  have : Subsingleton S_.Idx := ⟨fun a b => funext fun k => k.elim0⟩
  refine ⟨fun b s j hj => ?_, fun b s l h0 h1 => ?_⟩
  · have := Host.reduce_andi_all _ _ _ _ _ h2.1 (ix3 b s ⟨j.val, hj⟩)
    have := below_top_bf16 _ this
    have e : extractStridedSlice S4x2048x4096 ![0, 0, 0] X Facts.slices_S4x2048x6144_S4x2048x4096_0_0_0 (ix3 b s ⟨j.val, hj⟩) = X (ix3 b s j) :=
      extractStridedSlice_apply _ _ _ _ (ix3 b s j) fun a => match a with
        | ⟨0, _⟩ => (Nat.zero_add _).symm
        | ⟨1, _⟩ => (Nat.zero_add _).symm
        | ⟨2, _⟩ => (Nat.zero_add _).symm
    rwa [e] at this
  · have := Host.reduce_andi_all _ _ _ _ _ h2.2 (ix3 b s ⟨l.val - 64, by omega⟩)
    have := below_top_f32 _ this
    have e : extractStridedSlice S4x2048x16 ![0, 0, 64] C Facts.slices_S4x2048x128_S4x2048x16_0_0_64 (ix3 b s ⟨l.val - 64, by omega⟩) = C (ix3 b s l) :=
      extractStridedSlice_apply _ _ _ _ (ix3 b s l) fun a => match a with
        | ⟨0, _⟩ => (Nat.zero_add _).symm
        | ⟨1, _⟩ => (Nat.zero_add _).symm
        | ⟨2, _⟩ => by show l.val = 64 + (l.val - 64); omega
    rwa [e] at this

end Cert.Pre_fox_finite

end
-- ==== Proof.Carry.lean ====
/- A value that the first point of every run of `p` grid points sets and the others keep. -/
module
public import Mathlib.Data.Nat.Init
public import Mathlib.Tactic.Common
@[expose] public section

namespace Cert

/-- If every `p`-th point sets a value to `G` of the run's number and the other points keep it, then it is `G` of the run's
    number at all of them. -/
theorem carry {α : Type} {N p : ℕ} (f : (n : ℕ) → n < N → α) (G : ℕ → α)
    (set : ∀ n (h : n < N), n % p = 0 → f n h = G (n / p))
    (keep : ∀ n (h : n + 1 < N), ¬(n + 1) % p = 0 → f (n + 1) h = f n (Nat.lt_of_succ_lt h)) :
    ∀ n (h : n < N), f n h = G (n / p) := by
  intro n
  induction n with
  | zero => exact fun h => set 0 h (Nat.zero_mod p)
  | succ n ih =>
    intro h
    by_cases e : (n + 1) % p = 0
    · exact set _ h e
    · rw [keep n h e, ih, Nat.succ_div_of_not_dvd fun d => e (Nat.mod_eq_zero_of_dvd d)]

/-- Points of one run have one number. -/
theorem run_number {n p : ℕ} (h : ¬n % p = 0) : (n - 1) / p = n / p := by
  obtain ⟨k, rfl⟩ : ∃ k, n = k + 1 := Nat.exists_eq_succ_of_ne_zero (by rintro rfl; exact h (Nat.zero_mod p))
  exact (Nat.succ_div_of_not_dvd fun d => h (Nat.mod_eq_zero_of_dvd d)).symm

end Cert
-- ==== Proof.Ffn1Value.lean ====
/- The first feed-forward product: the kernel's array and the reference's array over the extended reals. -/
module
public import proofs.«01_k».proof.Proof.Gen.Ffn1Ideal.Value
public import proofs.«01_k».proof.Proof.Gen.Ffn1RefIdeal.Read
public import Idealize.ShloMosaic.Lib.Pipeline.ValueKit
public import Idealize.ShloMosaic.Lib.Pipeline.ReadBack
public import Idealize.ShloMosaic.PureOps.Ideal.Laws
public import proofs.«01_k».proof.Proof.Carry
@[expose] public section
set_option maxRecDepth 16384
noncomputable section

open Idealize.ShloMosaic Idealize.ShloMosaic.TcCoe Idealize.SL.Sem
open Idealize.ShloMosaic.Pipeline (Dat)
namespace Cert.Ffn1Ideal.Value
open Cert.Ffn1Ideal Cert.Ffn1Ideal.Gen
open scoped BigOperators

/-- The squared rectified product of all tokens' rows, batch after batch, with the first layer's weight. -/
def hidden (X : S4x2048x2048.Idx → EReal) (W : S2x2048x8192.Idx → EReal) (i : S8192x8192.Idx) : EReal :=
  let p : EReal := max (∑ k : Fin 2048, X (ix3 (⟨(i 0).val / 2048, by have := (i 0).isLt; change _ < 8192 at this; omega⟩ : Fin 4) (⟨(i 0).val % 2048, by omega⟩ : Fin 2048) k)
    * W (ix3 (0 : Fin 2) k (i 1))) 0
  p * p

variable (m : (ℓ : Loc nD τ sig) → Buf (Elt Ideal) ℓ)

abbrev X (c : Dev nD) : S4x2048x2048.Idx → EReal := m ((c : Thread nD τ).loc main_arg0)
abbrev W (c : Dev nD) : S2x2048x8192.Idx → EReal := m ((c : Thread nD τ).loc main_arg1)

/-- The blocks of every window. -/
theorem idx : ∀ t : Fin cfg0.N, t.val < 32 ∧ win0_0.index t = ![t.val % 4, 0] ∧ win0_1.index t = ![0, 0, t.val / 4]
    ∧ win0_2.index t = ![t.val % 4, t.val / 4] :=
  (by decide +kernel : ∀ t : Fin grid0.N, _)

/-- The weight's columns that the points of run `j` use. -/
def cols (c : Dev nD) (j : ℕ) : Vec Ideal S2048x1024 .bf16 := fun x =>
  W m c (ix3 (0 : Fin 2) (x 0) (⟨(1024 * j + (x 1).val) % 8192, by omega⟩ : Fin 8192))

theorem pay1 (c : Dev nD) (t : Fin cfg0.N) : k0_pay1 (iblk m c 1 t) = cols m c (t.val / 4) := by
  funext x
  have := (idx t).1
  pointwise [k0_pay1, cols]
  blk_point [iblk, V, idx t]

/-- The kept weight block after every point. -/
theorem kept (c : Dev nD) : ∀ (n : ℕ) (hn : n < cfg0.N), (outsAt0 m c n hn).2 = cols m c (n / 4) := by
  refine carry (fun n hn => (outsAt0 m c n hn).2) _ (fun n hn h => ?_) fun n hn h => ?_
  · show (outsAt0 m c n hn).2 = _
    rw [outsAt0_A m c ⟨n, hn⟩ h]
    frame_out
    exact pay1 m c ⟨n, hn⟩
  · show (outsAt0 m c (n + 1) hn).2 = _
    rw [outsAt0_B m c ⟨n + 1, hn⟩ h]
    frame_out
    rfl

/-- What every point stores. -/
theorem stored (c : Dev nD) (t : Fin cfg0.N) : (outsAt0 m c t.val t.isLt).1 = k0_pay2 (iblk m c 0 t) (cols m c (t.val / 4)) := by
  by_cases h : t.val % 4 = 0
  · rw [outsAt0_A m c t h]
    frame_out
    rw [pay1]
  · rw [outsAt0_B m c t h]
    frame_out
    rw [read_unread_whole, kept, run_number h]

theorem point (c : Dev nD) (t : Fin cfg0.N) (y : S2048x1024.Idx) (i : S8192x8192.Idx) (e0 : (i 0).val = 2048 * (t.val % 4) + (y 0).val)
    (e1 : (i 1).val = 1024 * (t.val / 4) + (y 1).val) :
    k0_pay2 (iblk m c 0 t) (cols m c (t.val / 4)) y = hidden (X m c) (W m c) i := by
  pointwise [k0_pay2, cols, hidden]
  blk_point [iblk, V, idx t]

theorem final (c : Dev nD) : (dats m 0 c).arrAt 2 (cfgs 0).N = hidden (X m c) (W m c) := by
  refine (dats m 0 c).arrAt_eq_of_covers 2 _ (by decide +kernel) fun t hfl y => ?_
  blk_simp
  rw [after0_2, stored]
  exact point m c t _ _ (by blk_simp [idx t] <;> omega) (by blk_simp [idx t] <;> omega)

end Cert.Ffn1Ideal.Value

namespace Cert.Ffn1RefIdeal.Read
open Cert.Ffn1RefIdeal Cert.Ffn1RefIdeal.Gen

theorem final (x0 : FVec Ideal S4x2048x2048 .bf16) (x1 : FVec Ideal S2x2048x8192 .f32) :
    val_main_v7 (F := Ideal) x0 x1 = Cert.Ffn1Ideal.Value.hidden x0 x1 := by
  funext i
  pointwise [val_main_v7, val_main_v6, val_main_v5, val_main_v4, val_main_v3, val_main_v2, val_main_v1, val_main_v0, val_main_call0_v0, val_main_call0_cst, Cert.Ffn1Ideal.Value.hidden]

end Cert.Ffn1RefIdeal.Read
end
-- ==== Proof.Ffn2Value.lean ====
/- The second feed-forward product with its residual and norm: the kernel's array is the reference's array over the extended
   reals. -/
module
public import proofs.«01_k».proof.Proof.Gen.Ffn2Ideal.Value
public import proofs.«01_k».proof.Proof.Gen.Ffn2RefIdeal.Read
public import Idealize.ShloMosaic.Lib.Pipeline.ValueKit
public import Idealize.ShloMosaic.PureOps.Ideal.Laws
@[expose] public section
set_option maxRecDepth 16384
noncomputable section

open Idealize.ShloMosaic Idealize.ShloMosaic.TcCoe Idealize.SL.Sem
open Idealize.ShloMosaic.Pipeline (Dat)
namespace Cert.Ffn2Ideal.Value
open Cert.Ffn2Ideal Cert.Ffn2Ideal.Gen
open Cert.Ffn2RefIdeal.Read

variable (m : (ℓ : Loc nD τ sig) → Buf (Elt Ideal) ℓ)

/-- The blocks of every window. -/
theorem idx : ∀ t : Fin cfg0.N, t.val < 32 ∧ win0_0.index t = ![t.val / 8, t.val % 8, 0] ∧ win0_1.index t = ![0, 0, 0]
    ∧ win0_2.index t = ![t.val / 8, t.val % 8, 0] ∧ win0_3.index t = ![t.val / 8, 0, 0] ∧ win0_4.index t = ![0, 0]
    ∧ win0_5.index t = ![0, 0] ∧ win0_6.index t = ![t.val / 8, t.val % 8, 0] :=
  (by decide +kernel : ∀ t : Fin grid0.N, _)

/-- The reference's array over the kernel's arguments. -/
abbrev target (c : Dev nD) : S4x2048x2048.Idx → EReal :=
  val_main_v37 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

set_option maxHeartbeats 1600000 in
theorem point (c : Dev nD) (t : Fin cfg0.N) (y : S1x256x2048.Idx) (i : S4x2048x2048.Idx) (e0 : (i 0).val = t.val / 8)
    (e1 : (i 1).val = 256 * (t.val % 8) + (y 1).val) (e2 : (i 2).val = (y 2).val) :
    k0_pay1 (k0_pay2 (iblk m c 5 t)) (k0_pay3 (iblk m c 2 t) (iblk m c 3 t) (iblk m c 0 t) (iblk m c 1 t)) (k0_pay4 (iblk m c 4 t)) y = target m c i := by
  pointwise [k0_pay1, k0_pay2, k0_pay3, k0_pay4, target, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4]
  blk_point [iblk, V, idx t]

/-- The result after the run. -/
theorem final (c : Dev nD) : (dats m 0 c).arrAt 6 (cfgs 0).N = target m c := by
  refine (dats m 0 c).arrAt_eq_of_covers 6 _ (by decide +kernel) fun t hfl y => ?_
  blk_simp
  rw [after0_6]
  frame_out
  exact point m c t _ _ (by blk_simp [idx t] <;> omega) (by blk_simp [idx t] <;> omega) (by blk_simp [idx t] <;> omega)

end Cert.Ffn2Ideal.Value
end
-- ==== Proof.Proj.lean ====
/- A projection of the input: what three calls of one kernel and their references compute. -/
module
public import Idealize.ShloMosaic.Lib.Pipeline.ValueKit
public import Idealize.ShloMosaic.Lib.Pipeline.ReadBack
public import Idealize.ShloMosaic.PureOps.Ideal.Laws
public import proofs.«01_k».proof.Proof.Carry
@[expose] public section
noncomputable section
open Idealize.ShloMosaic
open scoped BigOperators
namespace Cert.Proj

/-- The product of all tokens' rows, batch after batch, with the `n` columns of the first layer's weight that start at `o`. -/
def proj (n o : ℕ) (X : (⟨3, ![4, 2048, 2048]⟩ : Shape).Idx → EReal) (W : (⟨3, ![2, 2048, 26704]⟩ : Shape).Idx → EReal)
    (i : (⟨2, ![8192, n]⟩ : Shape).Idx) : EReal :=
  ∑ k : Fin 2048, X (ix3 (⟨(i 0).val / 2048, by have := (i 0).isLt; change _ < 8192 at this; omega⟩ : Fin 4)
      (⟨(i 0).val % 2048, by omega⟩ : Fin 2048) k)
    * W (ix3 (0 : Fin 2) k (⟨(o + (i 1).val) % 26704, by omega⟩ : Fin 26704))

end Cert.Proj
end
-- ==== Proof.FoxProjValue.lean ====
/- The attention's queries, keys and values: the kernel's and the reference's array over the extended reals. -/
module
public import proofs.«01_k».proof.Proof.Gen.FoxProjIdeal.Value
public import proofs.«01_k».proof.Proof.Gen.FoxProjRefIdeal.Read
public import proofs.«01_k».proof.Proof.Proj
@[expose] public section
set_option maxRecDepth 16384
noncomputable section

open Idealize.ShloMosaic Idealize.ShloMosaic.TcCoe Idealize.SL.Sem
open Idealize.ShloMosaic.Pipeline (Dat)
namespace Cert.FoxProjIdeal.Value
open Cert.FoxProjIdeal Cert.FoxProjIdeal.Gen

variable (m : (ℓ : Loc nD τ sig) → Buf (Elt Ideal) ℓ)

/-- The blocks of every window; the weight's in elements. -/
theorem idx : ∀ t : Fin cfg0.N, t.val / 4 < 6 ∧ win0_0.index t = ![t.val % 4, 0] ∧ win0_1.index t = ![0, 14400 + 1024 * (t.val / 4), 0]
    ∧ win0_2.index t = ![t.val % 4, t.val / 4] :=
  (by decide +kernel : ∀ t : Fin grid0.N, _)

theorem emb1 (t : Fin cfg0.N) (x : S1x1024x2048.Idx) (a : Fin 3) :
    (((View.whole main_v1).slice (win0_1.rect t)).emb x a).val = win0_1.index t a + 1 * (x a).val := rfl

/-- The rows of the transposed weight that the points of run `j` use. -/
def rows (c : Dev nD) (j : ℕ) : Vec Ideal S1024x2048 .bf16 := fun x =>
  (m ((c : Thread nD τ).loc main_arg1) : S2x2048x26704.Idx → EReal) (ix3 (0 : Fin 2) (x 1) (⟨(14400 + 1024 * j + (x 0).val) % 26704, by omega⟩ : Fin 26704))

theorem pay1 (c : Dev nD) (t : Fin cfg0.N) : k0_pay1 (iblk m c 1 t) = rows m c (t.val / 4) := by
  funext x
  have := (idx t).1
  pointwise [k0_pay1, rows]
  blk_point [iblk, V, idx t]
  · rw [emb1, (idx t).2.2.1]; rfl
  · rw [emb1, (idx t).2.2.1]; show 0 + 1 * (x 1).val = _; omega
  · rw [emb1, (idx t).2.2.1]; show 14400 + 1024 * (t.val / 4) + 1 * (x 0).val = _; omega

/-- The kept rows after every point. -/
theorem kept (c : Dev nD) : ∀ (n : ℕ) (hn : n < cfg0.N), (outsAt0 m c n hn).2 = rows m c (n / 4) := by
  refine carry (fun n hn => (outsAt0 m c n hn).2) _ (fun n hn h => ?_) fun n hn h => ?_
  · show (outsAt0 m c n hn).2 = _
    rw [outsAt0_A m c ⟨n, hn⟩ h]
    frame_out
    exact pay1 m c ⟨n, hn⟩
  · show (outsAt0 m c (n + 1) hn).2 = _
    rw [outsAt0_B m c ⟨n + 1, hn⟩ h]
    frame_out
    rfl

/-- What every point stores. -/
theorem stored (c : Dev nD) (t : Fin cfg0.N) : (outsAt0 m c t.val t.isLt).1 = k0_pay2 (iblk m c 0 t) (rows m c (t.val / 4)) := by
  by_cases h : t.val % 4 = 0
  · rw [outsAt0_A m c t h]
    frame_out
    rw [pay1]
  · rw [outsAt0_B m c t h]
    frame_out
    rw [read_unread_whole, kept, run_number h]

abbrev target (c : Dev nD) : S8192x6144.Idx → EReal :=
  Proj.proj 6144 14400 (m ((c : Thread nD τ).loc main_arg0)) (m ((c : Thread nD τ).loc main_arg1))

theorem point (c : Dev nD) (t : Fin cfg0.N) (y : S2048x1024.Idx) (i : S8192x6144.Idx) (e0 : (i 0).val = 2048 * (t.val % 4) + (y 0).val)
    (e1 : (i 1).val = 1024 * (t.val / 4) + (y 1).val) :
    k0_pay2 (iblk m c 0 t) (rows m c (t.val / 4)) y = target m c i := by
  pointwise [k0_pay2, rows, target, Proj.proj]
  blk_point [iblk, V, idx t]

/-- The projection's array after the run. -/
theorem final (c : Dev nD) : (dats m 0 c).arrAt 2 (cfgs 0).N = target m c := by
  refine (dats m 0 c).arrAt_eq_of_covers 2 _ (by decide +kernel) fun t hfl y => ?_
  blk_simp
  rw [after0_2, stored]
  exact point m c t _ _ (by blk_simp [idx t] <;> omega) (by blk_simp [idx t] <;> omega)

end Cert.FoxProjIdeal.Value

namespace Cert.FoxProjRefIdeal.Read
open Cert.FoxProjRefIdeal Cert.FoxProjRefIdeal.Gen

theorem final (x0 : FVec Ideal S4x2048x2048 .bf16) (x1 : FVec Ideal S2x2048x26704 .f32) :
    val_main_v6 (F := Ideal) x0 x1 = Proj.proj 6144 14400 x0 x1 := by
  funext i
  pointwise [val_main_v6, val_main_v5, val_main_v4, val_main_v3, val_main_v2, val_main_v1, val_main_v0, Proj.proj]
  blk_point

end Cert.FoxProjRefIdeal.Read
end
-- ==== Proof.GateProjValue.lean ====
/- The logits of the merge's gates: the kernel's and the reference's array over the extended reals. -/
module
public import proofs.«01_k».proof.Proof.Gen.GateProjIdeal.Value
public import proofs.«01_k».proof.Proof.Gen.GateProjRefIdeal.Read
public import proofs.«01_k».proof.Proof.Proj
@[expose] public section
set_option maxRecDepth 16384
noncomputable section

open Idealize.ShloMosaic Idealize.ShloMosaic.TcCoe Idealize.SL.Sem
open Idealize.ShloMosaic.Pipeline (Dat)
namespace Cert.GateProjIdeal.Value
open Cert.GateProjIdeal Cert.GateProjIdeal.Gen

variable (m : (ℓ : Loc nD τ sig) → Buf (Elt Ideal) ℓ)

/-- The blocks of every window; the weight's in elements. -/
theorem idx : ∀ t : Fin cfg0.N, t.val / 4 < 6 ∧ win0_0.index t = ![t.val % 4, 0] ∧ win0_1.index t = ![0, 20560 + 1024 * (t.val / 4), 0]
    ∧ win0_2.index t = ![t.val % 4, t.val / 4] :=
  (by decide +kernel : ∀ t : Fin grid0.N, _)

theorem emb1 (t : Fin cfg0.N) (x : S1x1024x2048.Idx) (a : Fin 3) :
    (((View.whole main_v1).slice (win0_1.rect t)).emb x a).val = win0_1.index t a + 1 * (x a).val := rfl

/-- The rows of the transposed weight that the points of run `j` use. -/
def rows (c : Dev nD) (j : ℕ) : Vec Ideal S1024x2048 .bf16 := fun x =>
  (m ((c : Thread nD τ).loc main_arg1) : S2x2048x26704.Idx → EReal) (ix3 (0 : Fin 2) (x 1) (⟨(20560 + 1024 * j + (x 0).val) % 26704, by omega⟩ : Fin 26704))

theorem pay1 (c : Dev nD) (t : Fin cfg0.N) : k0_pay1 (iblk m c 1 t) = rows m c (t.val / 4) := by
  funext x
  have := (idx t).1
  pointwise [k0_pay1, rows]
  blk_point [iblk, V, idx t]
  · rw [emb1, (idx t).2.2.1]; rfl
  · rw [emb1, (idx t).2.2.1]; show 0 + 1 * (x 1).val = _; omega
  · rw [emb1, (idx t).2.2.1]; show 20560 + 1024 * (t.val / 4) + 1 * (x 0).val = _; omega

/-- The kept rows after every point. -/
theorem kept (c : Dev nD) : ∀ (n : ℕ) (hn : n < cfg0.N), (outsAt0 m c n hn).2 = rows m c (n / 4) := by
  refine carry (fun n hn => (outsAt0 m c n hn).2) _ (fun n hn h => ?_) fun n hn h => ?_
  · show (outsAt0 m c n hn).2 = _
    rw [outsAt0_A m c ⟨n, hn⟩ h]
    frame_out
    exact pay1 m c ⟨n, hn⟩
  · show (outsAt0 m c (n + 1) hn).2 = _
    rw [outsAt0_B m c ⟨n + 1, hn⟩ h]
    frame_out
    rfl

/-- What every point stores. -/
theorem stored (c : Dev nD) (t : Fin cfg0.N) : (outsAt0 m c t.val t.isLt).1 = k0_pay2 (iblk m c 0 t) (rows m c (t.val / 4)) := by
  by_cases h : t.val % 4 = 0
  · rw [outsAt0_A m c t h]
    frame_out
    rw [pay1]
  · rw [outsAt0_B m c t h]
    frame_out
    rw [read_unread_whole, kept, run_number h]

abbrev target (c : Dev nD) : S8192x6144.Idx → EReal :=
  Proj.proj 6144 20560 (m ((c : Thread nD τ).loc main_arg0)) (m ((c : Thread nD τ).loc main_arg1))

theorem point (c : Dev nD) (t : Fin cfg0.N) (y : S2048x1024.Idx) (i : S8192x6144.Idx) (e0 : (i 0).val = 2048 * (t.val % 4) + (y 0).val)
    (e1 : (i 1).val = 1024 * (t.val / 4) + (y 1).val) :
    k0_pay2 (iblk m c 0 t) (rows m c (t.val / 4)) y = target m c i := by
  pointwise [k0_pay2, rows, target, Proj.proj]
  blk_point [iblk, V, idx t]

/-- The projection's array after the run. -/
theorem final (c : Dev nD) : (dats m 0 c).arrAt 2 (cfgs 0).N = target m c := by
  refine (dats m 0 c).arrAt_eq_of_covers 2 _ (by decide +kernel) fun t hfl y => ?_
  blk_simp
  rw [after0_2, stored]
  exact point m c t _ _ (by blk_simp [idx t] <;> omega) (by blk_simp [idx t] <;> omega)

end Cert.GateProjIdeal.Value

namespace Cert.GateProjRefIdeal.Read
open Cert.GateProjRefIdeal Cert.GateProjRefIdeal.Gen

theorem final (x0 : FVec Ideal S4x2048x2048 .bf16) (x1 : FVec Ideal S2x2048x26704 .f32) :
    val_main_v6 (F := Ideal) x0 x1 = Proj.proj 6144 20560 x0 x1 := by
  funext i
  pointwise [val_main_v6, val_main_v5, val_main_v4, val_main_v3, val_main_v2, val_main_v1, val_main_v0, Proj.proj]
  blk_point

end Cert.GateProjRefIdeal.Read
end
-- ==== Proof.ZProjValue.lean ====
/- The delta rule's output gate: the kernel's and the reference's array over the extended reals. -/
module
public import proofs.«01_k».proof.Proof.Gen.ZProjIdeal.Value
public import proofs.«01_k».proof.Proof.Gen.ZProjRefIdeal.Read
public import proofs.«01_k».proof.Proof.Proj
@[expose] public section
set_option maxRecDepth 16384
noncomputable section

open Idealize.ShloMosaic Idealize.ShloMosaic.TcCoe Idealize.SL.Sem
open Idealize.ShloMosaic.Pipeline (Dat)
namespace Cert.ZProjIdeal.Value
open Cert.ZProjIdeal Cert.ZProjIdeal.Gen

variable (m : (ℓ : Loc nD τ sig) → Buf (Elt Ideal) ℓ)

/-- The blocks of every window; the weight's in elements. -/
theorem idx : ∀ t : Fin cfg0.N, t.val / 4 < 2 ∧ win0_0.index t = ![t.val % 4, 0] ∧ win0_1.index t = ![0, 12288 + 1024 * (t.val / 4), 0]
    ∧ win0_2.index t = ![t.val % 4, t.val / 4] :=
  (by decide +kernel : ∀ t : Fin grid0.N, _)

theorem emb1 (t : Fin cfg0.N) (x : S1x1024x2048.Idx) (a : Fin 3) :
    (((View.whole main_v1).slice (win0_1.rect t)).emb x a).val = win0_1.index t a + 1 * (x a).val := rfl

/-- The rows of the transposed weight that the points of run `j` use. -/
def rows (c : Dev nD) (j : ℕ) : Vec Ideal S1024x2048 .bf16 := fun x =>
  (m ((c : Thread nD τ).loc main_arg1) : S2x2048x26704.Idx → EReal) (ix3 (0 : Fin 2) (x 1) (⟨(12288 + 1024 * j + (x 0).val) % 26704, by omega⟩ : Fin 26704))

theorem pay1 (c : Dev nD) (t : Fin cfg0.N) : k0_pay1 (iblk m c 1 t) = rows m c (t.val / 4) := by
  funext x
  have := (idx t).1
  pointwise [k0_pay1, rows]
  blk_point [iblk, V, idx t]
  · rw [emb1, (idx t).2.2.1]; rfl
  · rw [emb1, (idx t).2.2.1]; show 0 + 1 * (x 1).val = _; omega
  · rw [emb1, (idx t).2.2.1]; show 12288 + 1024 * (t.val / 4) + 1 * (x 0).val = _; omega

/-- The kept rows after every point. -/
theorem kept (c : Dev nD) : ∀ (n : ℕ) (hn : n < cfg0.N), (outsAt0 m c n hn).2 = rows m c (n / 4) := by
  refine carry (fun n hn => (outsAt0 m c n hn).2) _ (fun n hn h => ?_) fun n hn h => ?_
  · show (outsAt0 m c n hn).2 = _
    rw [outsAt0_A m c ⟨n, hn⟩ h]
    frame_out
    exact pay1 m c ⟨n, hn⟩
  · show (outsAt0 m c (n + 1) hn).2 = _
    rw [outsAt0_B m c ⟨n + 1, hn⟩ h]
    frame_out
    rfl

/-- What every point stores. -/
theorem stored (c : Dev nD) (t : Fin cfg0.N) : (outsAt0 m c t.val t.isLt).1 = k0_pay2 (iblk m c 0 t) (rows m c (t.val / 4)) := by
  by_cases h : t.val % 4 = 0
  · rw [outsAt0_A m c t h]
    frame_out
    rw [pay1]
  · rw [outsAt0_B m c t h]
    frame_out
    rw [read_unread_whole, kept, run_number h]

abbrev target (c : Dev nD) : S8192x2048.Idx → EReal :=
  Proj.proj 2048 12288 (m ((c : Thread nD τ).loc main_arg0)) (m ((c : Thread nD τ).loc main_arg1))

theorem point (c : Dev nD) (t : Fin cfg0.N) (y : S2048x1024.Idx) (i : S8192x2048.Idx) (e0 : (i 0).val = 2048 * (t.val % 4) + (y 0).val)
    (e1 : (i 1).val = 1024 * (t.val / 4) + (y 1).val) :
    k0_pay2 (iblk m c 0 t) (rows m c (t.val / 4)) y = target m c i := by
  pointwise [k0_pay2, rows, target, Proj.proj]
  blk_point [iblk, V, idx t]

/-- The projection's array after the run. -/
theorem final (c : Dev nD) : (dats m 0 c).arrAt 2 (cfgs 0).N = target m c := by
  refine (dats m 0 c).arrAt_eq_of_covers 2 _ (by decide +kernel) fun t hfl y => ?_
  blk_simp
  rw [after0_2, stored]
  exact point m c t _ _ (by blk_simp [idx t] <;> omega) (by blk_simp [idx t] <;> omega)

end Cert.ZProjIdeal.Value

namespace Cert.ZProjRefIdeal.Read
open Cert.ZProjRefIdeal Cert.ZProjRefIdeal.Gen

theorem final (x0 : FVec Ideal S4x2048x2048 .bf16) (x1 : FVec Ideal S2x2048x26704 .f32) :
    val_main_v6 (F := Ideal) x0 x1 = Proj.proj 2048 12288 x0 x1 := by
  funext i
  pointwise [val_main_v6, val_main_v5, val_main_v4, val_main_v3, val_main_v2, val_main_v1, val_main_v0, Proj.proj]
  blk_point

end Cert.ZProjRefIdeal.Read
end
-- ==== Proof.MergeValue.lean ====
/- The gated sum of the three branches' products, and the copy of the second feed-forward weight: the kernel's arrays are the
   reference's arrays over the extended reals. -/
module
public import proofs.«01_k».proof.Proof.Gen.MergeIdeal.Value
public import proofs.«01_k».proof.Proof.Gen.MergeRefIdeal.Read
public import Idealize.ShloMosaic.Lib.Pipeline.ValueKit
public import Idealize.ShloMosaic.Lib.Pipeline.ReadBack
public import Idealize.ShloMosaic.PureOps.Ideal.Laws
public import proofs.«01_k».proof.Proof.Carry
@[expose] public section
set_option maxRecDepth 16384
noncomputable section

open Idealize.ShloMosaic Idealize.ShloMosaic.TcCoe Idealize.SL.Sem
open Idealize.ShloMosaic.Pipeline (Dat)
namespace Cert.MergeIdeal.Value
open Cert.MergeIdeal Cert.MergeIdeal.Gen
open Cert.MergeRefIdeal.Read
open scoped BigOperators

variable (m : (ℓ : Loc nD τ sig) → Buf (Elt Ideal) ℓ)

/-- The blocks of every window. -/
theorem idx : ∀ t : Fin cfg0.N, t.val < 64 ∧ win0_0.index t = ![t.val % 32, 0] ∧ win0_1.index t = ![t.val % 32, 0]
    ∧ win0_2.index t = ![t.val % 32, 0] ∧ win0_3.index t = ![t.val % 32, t.val / 32] ∧ win0_4.index t = ![t.val % 32, 2 + t.val / 32]
    ∧ win0_5.index t = ![t.val % 32, 4 + t.val / 32] ∧ win0_6.index t = ![0, 0, t.val / 32] ∧ win0_7.index t = ![0, 0, t.val / 32]
    ∧ win0_8.index t = ![0, 0, t.val / 32] ∧ win0_9.index t = ![0, t.val, 0] ∧ win0_10.index t = ![t.val % 32, t.val / 32]
    ∧ win0_11.index t = ![0, t.val, 0] :=
  (by decide +kernel : ∀ t : Fin grid0.N, _)

/-- Columns `1024 j` to `1024 j + 1023` of the first layer of a branch's weight. -/
def cols (W : S2x2048x2048.Idx → EReal) (j : ℕ) : Vec Ideal S2048x1024 .bf16 := fun x =>
  W (ix3 (0 : Fin 2) (x 0) (⟨(1024 * j + (x 1).val) % 2048, by omega⟩ : Fin 2048))

abbrev Wa (c : Dev nD) : S2x2048x2048.Idx → EReal := m ((c : Thread nD τ).loc main_arg4)
abbrev Wb (c : Dev nD) : S2x2048x2048.Idx → EReal := m ((c : Thread nD τ).loc main_arg5)
abbrev Wc (c : Dev nD) : S2x2048x2048.Idx → EReal := m ((c : Thread nD τ).loc main_arg6)

theorem paya (c : Dev nD) (t : Fin cfg0.N) : k0_pay3 (iblk m c 6 t) = cols (Wa m c) (t.val / 32) := by
  funext x
  have := (idx t).1
  pointwise [k0_pay3, cols]
  blk_point [iblk, V, idx t]

theorem payb (c : Dev nD) (t : Fin cfg0.N) : k0_pay4 (iblk m c 7 t) = cols (Wb m c) (t.val / 32) := by
  funext x
  have := (idx t).1
  pointwise [k0_pay4, cols]
  blk_point [iblk, V, idx t]

theorem payc (c : Dev nD) (t : Fin cfg0.N) : k0_pay5 (iblk m c 8 t) = cols (Wc m c) (t.val / 32) := by
  funext x
  have := (idx t).1
  pointwise [k0_pay5, cols]
  blk_point [iblk, V, idx t]

/-- The kept weight blocks after every point. -/
theorem kept (c : Dev nD) : ∀ (n : ℕ) (hn : n < cfg0.N),
    (outsAt0 m c n hn).2.2 = (cols (Wa m c) (n / 32), cols (Wb m c) (n / 32), cols (Wc m c) (n / 32)) := by
  refine carry (fun n hn => (outsAt0 m c n hn).2.2) (fun j => (cols (Wa m c) j, cols (Wb m c) j, cols (Wc m c) j)) (fun n hn h => ?_) fun n hn h => ?_
  · show (outsAt0 m c n hn).2.2 = _
    rw [outsAt0_A m c ⟨n, hn⟩ h]
    frame_out
    exact congrArg₂ _ (paya m c ⟨n, hn⟩) (congrArg₂ _ (payb m c ⟨n, hn⟩) (payc m c ⟨n, hn⟩))
  · show (outsAt0 m c (n + 1) hn).2.2 = _
    rw [outsAt0_B m c ⟨n + 1, hn⟩ h]
    frame_out
    rfl

/-- What every point stores of the sum. -/
theorem stored (c : Dev nD) (t : Fin cfg0.N) : (outsAt0 m c t.val t.isLt).1 =
    k0_pay1 (k0_pay6 (iblk m c 3 t) (iblk m c 0 t) (cols (Wa m c) (t.val / 32)) (iblk m c 4 t) (iblk m c 1 t) (cols (Wb m c) (t.val / 32)))
      (iblk m c 5 t) (iblk m c 2 t) (cols (Wc m c) (t.val / 32)) := by
  by_cases h : t.val % 32 = 0
  · rw [outsAt0_A m c t h]
    frame_out
    rw [paya, payb, payc]
  · rw [outsAt0_B m c t h]
    frame_out
    rw [read_unread_whole, read_unread_whole, read_unread_whole, kept, run_number h]

/-- What every point stores of the weight. -/
theorem copied (c : Dev nD) (t : Fin cfg0.N) : (outsAt0 m c t.val t.isLt).2.1 = k0_pay2 (iblk m c 9 t) := by
  by_cases h : t.val % 32 = 0
  · rw [outsAt0_A m c t h]
    frame_out
  · rw [outsAt0_B m c t h]
    frame_out

/-- The reference's arrays over the kernel's arguments. -/
abbrev target (c : Dev nD) : S8192x2048.Idx → EReal :=
  val_main_v41 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

abbrev copy (c : Dev nD) : S1x8192x2048.Idx → EReal := val_main_v43 (F := Ideal) (m ((c : Thread nD τ).loc main_arg7))

theorem point_copy (c : Dev nD) (t : Fin cfg0.N) (y : S1x128x2048.Idx) (i : S1x8192x2048.Idx) (e1 : (i 1).val = 128 * t.val + (y 1).val)
    (e2 : (i 2).val = (y 2).val) : k0_pay2 (iblk m c 9 t) y = copy m c i := by
  pointwise [k0_pay2, copy, val_main_v42, val_main_v43]
  blk_point [iblk, V, idx t]

set_option maxHeartbeats 1600000 in
theorem point (c : Dev nD) (t : Fin cfg0.N) (y : S256x1024.Idx) (i : S8192x2048.Idx) (e0 : (i 0).val = 256 * (t.val % 32) + (y 0).val)
    (e1 : (i 1).val = 1024 * (t.val / 32) + (y 1).val) :
    k0_pay1 (k0_pay6 (iblk m c 3 t) (iblk m c 0 t) (cols (Wa m c) (t.val / 32)) (iblk m c 4 t) (iblk m c 1 t) (cols (Wb m c) (t.val / 32)))
      (iblk m c 5 t) (iblk m c 2 t) (cols (Wc m c) (t.val / 32)) y = target m c i := by
  have := (idx t).1
  pointwise [k0_pay1, k0_pay6, cols, target, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_cst, val_main_cst_0, val_main_cst_1, val_main_cst_2, val_main_cst_3, val_main_cst_4]
  simp only [zero_sub]
  blk_point [iblk, V, idx t]

/-- The two results after the run. -/
theorem final (c : Dev nD) : (dats m 0 c).arrAt 10 (cfgs 0).N = target m c := by
  refine (dats m 0 c).arrAt_eq_of_covers 10 _ (by decide +kernel) fun t hfl y => ?_
  blk_simp
  rw [after0_10, stored]
  exact point m c t _ _ (by blk_simp [idx t] <;> omega) (by blk_simp [idx t] <;> omega)

theorem final_copy (c : Dev nD) : (dats m 0 c).arrAt 11 (cfgs 0).N = copy m c := by
  refine (dats m 0 c).arrAt_eq_of_covers 11 _ (by decide +kernel) fun t hfl y => ?_
  blk_simp
  rw [after0_11, copied]
  exact point_copy m c t _ _ (by blk_simp [idx t] <;> omega) (by blk_simp [idx t] <;> omega)

end Cert.MergeIdeal.Value
end
-- ==== Proof.ConvaValue.lean ====
/- The short gated convolution's branch. -/
module
public import proofs.«01_k».proof.Proof.Gen.ConvaIdeal.Value
public import proofs.«01_k».proof.Proof.Gen.ConvaRefIdeal.Read
public import Idealize.ShloMosaic.Lib.Pipeline.ValueKit
public import Idealize.ShloMosaic.Lib.Pipeline.ReadBack
public import Idealize.ShloMosaic.PureOps.Ideal.Laws
public import proofs.«01_k».proof.Proof.Carry
@[expose] public section
set_option maxRecDepth 16384
noncomputable section

open Idealize.ShloMosaic Idealize.ShloMosaic.TcCoe Idealize.SL.Sem
open Idealize.ShloMosaic.Pipeline (Dat)
namespace Cert.ConvaIdeal.Value
open Cert.ConvaIdeal Cert.ConvaIdeal.Gen
open scoped BigOperators
variable (m : (ℓ : Loc nD τ sig) → Buf (Elt Ideal) ℓ)

/-- The gated product of one block of rows. -/
abbrev gate (x : FVec Ideal S256x768 .f32) : FVec Ideal S256x256 .f32 := k0_pay16 x

/-- What one block of rows stores, from its product `x` and the last eight gated rows of the block before it. -/
abbrev part (cw : FVec Ideal S3x256 .f32) (x : FVec Ideal S256x768 .f32) (prev : FVec Ideal S8x256 .f32) : FVec Ideal S1x256x256 .bf16 :=
  k0_pay13 cw x (addf (mulf (gate x) (broadcastTo S256x256 (extractStridedSlice S1x256 ![2, 0] cw slices_S3x256_o2_0_S1x256) broadcasts_S1x256_S256x256))
    (mulf (concatenate S256x256 0 [⟨S8x256, select (cmpi .slt (iota .tc S8x256 32 [0] iota_S8x256_d0_w32) (broadcast S8x256 1#32))
        (dynamicRotate 0 1#32 none prev rotates_S8x256_d0)
        (extractStridedSlice S8x256 ![0, 0] (dynamicRotate 0 1#32 none (gate x) rotates_S256x256_d0) slices_S256x256_o0_0_S8x256)⟩,
      ⟨S248x256, extractStridedSlice S248x256 ![8, 0] (dynamicRotate 0 1#32 none (gate x) rotates_S256x256_d0) slices_S256x256_o8_0_S248x256⟩]
        concatenates_S8x256_S248x256_S256x256_d0)
      (broadcastTo S256x256 (extractStridedSlice S1x256 ![1, 0] cw slices_S3x256_o1_0_S1x256) broadcasts_S1x256_S256x256)))
    (dynamicRotate 0 2#32 none (gate x) rotates_S256x256_d0) (dynamicRotate 0 2#32 none prev rotates_S8x256_d0)

theorem sel1 (n : ℕ) (h : n < 8) (a b : EReal) :
    Scalar.select (IntOp.cmpi CmpIPredicate.slt (BitVec.ofNat 32 n) 1#32) a b = if n < 1 then a else b := by
  interval_cases n <;> rfl

theorem sel2 (n : ℕ) (h : n < 8) (a b : EReal) :
    Scalar.select (IntOp.cmpi CmpIPredicate.slt (BitVec.ofNat 32 n) 2#32) a b = if n < 2 then a else b := by
  interval_cases n <;> rfl

/-- A row of the gated product. -/
def gated (x : FVec Ideal S256x768 .f32) (r c : Fin 256) : EReal :=
  x (ix2 r (⟨256 + c.val, by omega⟩ : Fin 768)) * x (ix2 r (⟨512 + c.val, by omega⟩ : Fin 768))

/-- The gated row `k` rows before row `r`, of this block or of the eight rows before it. -/
def back (x : FVec Ideal S256x768 .f32) (prev : FVec Ideal S8x256 .f32) (k : ℕ) (r c : Fin 256) : EReal :=
  if r.val < k then prev (ix2 (⟨(r.val + 8 - k) % 8, by omega⟩ : Fin 8) c) else gated x (⟨r.val - k, by omega⟩ : Fin 256) c

/-- An entry of one block of rows. -/
def entry (cw : FVec Ideal S3x256 .f32) (x : FVec Ideal S256x768 .f32) (prev : FVec Ideal S8x256 .f32) (r c : Fin 256) : EReal :=
  x (ix2 r (⟨c.val, by omega⟩ : Fin 768))
    * (gated x r c * cw (ix2 (2 : Fin 3) c) + back x prev 1 r c * cw (ix2 (1 : Fin 3) c) + back x prev 2 r c * cw (ix2 (0 : Fin 3) c))

theorem part_apply (cw : FVec Ideal S3x256 .f32) (x : FVec Ideal S256x768 .f32) (prev : FVec Ideal S8x256 .f32) (y : S1x256x256.Idx) :
    part cw x prev y = entry cw x prev (y 1) (y 2) := by
  have hr : (y 1).val < 256 := (y 1).isLt
  pointwise [part, gate, entry, k0_pay13, k0_pay16, back, gated]
  by_cases h8 : (y 1).val < 8
  · rw [dif_pos h8, dif_pos h8, sel1 _ h8, sel2 _ h8]
    by_cases h1 : (y 1).val < 1
    · have h2 : (y 1).val < 2 := by omega
      simp only [if_pos h1, if_pos h2]
    · by_cases h2 : (y 1).val < 2
      · simp only [if_neg h1, if_pos h2]
        simp only [show ((y 1).val + 256 - 1) % 256 = (y 1).val - 1 by omega]
      · simp only [if_neg h1, if_neg h2]
        simp only [show ((y 1).val + 256 - 1) % 256 = (y 1).val - 1 by omega, show ((y 1).val + 256 - 2) % 256 = (y 1).val - 2 by omega]
  · have h1 : ¬(y 1).val < 1 := by omega
    have h2 : ¬(y 1).val < 2 := by omega
    simp only [dif_neg h8, if_neg h1, if_neg h2]
    simp only [show (8 + ((y 1).val - 8) + 256 - 1) % 256 = (y 1).val - 1 by omega,
      show (8 + ((y 1).val - 8) + 256 - 2) % 256 = (y 1).val - 2 by omega]

/-- The product's entry at a row of a whole batch. -/
def X (u : S1x2048x2048.Idx → EReal) (w : S768x2048.Idx → EReal) (r : Fin 2048) (n : Fin 768) : EReal :=
  ∑ k : Fin 2048, u (ix3 (0 : Fin 1) r k) * w (ix2 n k)

def G (u : S1x2048x2048.Idx → EReal) (w : S768x2048.Idx → EReal) (r : Fin 2048) (c : Fin 256) : EReal :=
  X u w r (⟨256 + c.val, by omega⟩ : Fin 768) * X u w r (⟨512 + c.val, by omega⟩ : Fin 768)

/-- The gated row `k` rows earlier, nothing before the first. -/
def B (u : S1x2048x2048.Idx → EReal) (w : S768x2048.Idx → EReal) (k : ℕ) (r : Fin 2048) (c : Fin 256) : EReal :=
  if r.val < k then 0 else G u w (⟨r.val - k, by omega⟩ : Fin 2048) c

/-- One stored entry. -/
def val (u : S1x2048x2048.Idx → EReal) (w : S768x2048.Idx → EReal) (cw : S3x256.Idx → EReal) (q : Fin 2048) (c : Fin 256) : EReal :=
  X u w q (⟨c.val, by omega⟩ : Fin 768)
    * (G u w q c * cw (ix2 (2 : Fin 3) c) + B u w 1 q c * cw (ix2 (1 : Fin 3) c) + B u w 2 q c * cw (ix2 (0 : Fin 3) c))

/-- The whole stored block. -/
def out (u : S1x2048x2048.Idx → EReal) (w : S768x2048.Idx → EReal) (cw : S3x256.Idx → EReal) : S1x2048x256.Idx → EReal :=
  fun y => val u w cw (y 1) (y 2)

/-- The rows `o` to `o + 255` of a batch. -/
abbrev rows (u : Vec Ideal S1x2048x2048 .bf16) (o : ℕ) (h : ∀ a, (![0, o, 0] : Fin 3 → ℕ) a + S1x256x2048.size a ≤ S1x2048x2048.size a) : Vec Ideal S1x256x2048 .bf16 :=
  View.ld u (Rect.unit (s := S1x2048x2048) ![0, o, 0] S1x256x2048.size h)

theorem mm (u : Vec Ideal S1x2048x2048 .bf16) (w : Vec Ideal S768x2048 .bf16) (o : ℕ) (h) (r : Fin 256) (n : Fin 768) (q : Fin 2048) (e : q.val = o + r.val) :
    k0_pay6 (rows u o h) w (ix2 r n) = X u w q n := by
  pointwise [k0_pay6, X, rows]
  blk_point []

/-- A block of rows, from what the rows before it hold. -/
theorem entry_eq (u : Vec Ideal S1x2048x2048 .bf16) (w : Vec Ideal S768x2048 .bf16) (cw : Vec Ideal S3x256 .f32) (prev : FVec Ideal S8x256 .f32) (o : ℕ) (h)
    (hp : ∀ (r : Fin 256) (q : Fin 2048) (c : Fin 256) (k : ℕ), k ≤ 2 → q.val = o + r.val → r.val < k →
      prev (ix2 (⟨(r.val + 8 - k) % 8, by omega⟩ : Fin 8) c) = B u w k q c)
    (r : Fin 256) (q : Fin 2048) (c : Fin 256) (e : q.val = o + r.val) :
    entry (k0_pay5 cw) (k0_pay6 (rows u o h) w) prev r c = val u w cw q c := by
  have g (r : Fin 256) (q : Fin 2048) (e : q.val = o + r.val) : gated (k0_pay6 (rows u o h) w) r c = G u w q c := by
    rw [gated, G, mm u w o h r _ q e, mm u w o h r _ q e]
  have b (k : ℕ) (hk : k ≤ 2) : back (k0_pay6 (rows u o h) w) prev k r c = B u w k q c := by
    by_cases hr : r.val < k
    · rw [back, if_pos hr]
      exact hp r q c k hk e hr
    · rw [back, if_neg hr, B, if_neg (by omega)]
      exact g _ _ (by dsimp only; omega)
  rw [entry, val, b 1 (by omega), b 2 (by omega), g r q e, mm u w o h r _ q e]
  pointwise [k0_pay5]

/-- A block of rows after the first. -/
theorem later (u : Vec Ideal S1x2048x2048 .bf16) (w : Vec Ideal S768x2048 .bf16) (cw : Vec Ideal S3x256 .f32) (o o' : ℕ) (h) (h') (eo : o = o' + 256)
    (x : S1x256x256.Idx) (y : S1x2048x256.Idx) (e1 : (y 1).val = o + (x 1).val) (e2 : (y 2).val = (x 2).val) :
    part (k0_pay5 cw) (k0_pay6 (rows u o h) w) (k0_pay14 (gate (k0_pay6 (rows u o' h') w))) x = out u w cw y := by
  have p (r : Fin 8) (c : Fin 256) : k0_pay14 (gate (k0_pay6 (rows u o' h') w)) (ix2 r c) = gated (k0_pay6 (rows u o' h') w) (⟨248 + r.val, by omega⟩ : Fin 256) c := by
    generalize k0_pay6 (rows u o' h') w = z
    pointwise [k0_pay14, gate, k0_pay16, gated]
  have c2 : x 2 = y 2 := Fin.ext e2.symm
  refine ((part_apply _ _ _ x).trans ?_).trans (congrArg (val u w cw (y 1)) c2)
  refine entry_eq u w cw _ o h (fun r q c k hk e hr => ?_) (x 1) (y 1) (x 2) e1
  rw [p, B, if_neg (by omega), gated, G]
  rw [mm u w o' h' _ _ (⟨q.val - k, by omega⟩ : Fin 2048) (by dsimp only; omega), mm u w o' h' _ _ (⟨q.val - k, by omega⟩ : Fin 2048) (by dsimp only; omega)]

/-- The first block of rows. -/
theorem first (u : Vec Ideal S1x2048x2048 .bf16) (w : Vec Ideal S768x2048 .bf16) (cw : Vec Ideal S3x256 .f32) (h)
    (x : S1x256x256.Idx) (y : S1x2048x256.Idx) (e1 : (y 1).val = (x 1).val) (e2 : (y 2).val = (x 2).val) :
    part (k0_pay5 cw) (k0_pay6 (rows u 0 h) w) k0_pay7 x = out u w cw y := by
  have p (i : S8x256.Idx) : k0_pay7 (F := Ideal) i = 0 := by
    pointwise [k0_pay7]
  have c2 : x 2 = y 2 := Fin.ext e2.symm
  refine ((part_apply _ _ _ x).trans ?_).trans (congrArg (val u w cw (y 1)) c2)
  refine entry_eq u w cw _ 0 h (fun r q c k hk e hr => ?_) (x 1) (y 1) (x 2) (by omega)
  rw [p, B, if_pos (by omega)]

/-- The blocks of every window; the weights' in elements. -/
theorem idx : ∀ t : Fin cfg0.N, t.val / 4 < 8 ∧ win0_0.index t = ![t.val % 4, 0, 0] ∧ win0_1.index t = ![0, 256 * (t.val / 4), 0]
    ∧ win0_2.index t = ![0, 2048 + 256 * (t.val / 4), 0] ∧ win0_3.index t = ![0, 4096 + 256 * (t.val / 4), 0]
    ∧ win0_4.index t = ![0, t.val / 4] ∧ win0_5.index t = ![t.val % 4, 0, t.val / 4] :=
  (by decide +kernel : ∀ t : Fin grid0.N, _)

theorem emb1 (t : Fin cfg0.N) (x : S1x256x2048.Idx) (a : Fin 3) :
    (((View.whole main_v0).slice (win0_1.rect t)).emb x a).val = win0_1.index t a + 1 * (x a).val := rfl
theorem emb2 (t : Fin cfg0.N) (x : S1x256x2048.Idx) (a : Fin 3) :
    (((View.whole main_v0).slice (win0_2.rect t)).emb x a).val = win0_2.index t a + 1 * (x a).val := rfl
theorem emb3 (t : Fin cfg0.N) (x : S1x256x2048.Idx) (a : Fin 3) :
    (((View.whole main_v0).slice (win0_3.rect t)).emb x a).val = win0_3.index t a + 1 * (x a).val := rfl

/-- The columns of the weight that the points of run `j` use: 256 of each of the three parts. -/
def cols (c : Dev nD) (j : ℕ) : Vec Ideal S768x2048 .bf16 := fun x =>
  (m ((c : Thread nD τ).loc main_arg1) : S2x2048x26704.Idx → EReal)
    (ix3 (0 : Fin 2) (x 1) (⟨(2048 * ((x 0).val / 256) + 256 * j + (x 0).val % 256) % 26704, by omega⟩ : Fin 26704))

theorem pay2 (c : Dev nD) (t : Fin cfg0.N) (x : S256x2048.Idx) (y : S768x2048.Idx) (h0 : (y 0).val = 0 + (x 0).val) (h1 : (y 1).val = 0 + (x 1).val) :
    k0_pay2 (iblk m c 1 t) x = cols m c (t.val / 4) y := by
  have := (idx t).1
  have hx : (x 0).val < 256 := (x 0).isLt
  pointwise [k0_pay2, cols]
  blk_point [iblk, V, idx t]
  · rw [emb1, (idx t).2.2.1]; rfl
  · rw [emb1, (idx t).2.2.1]; show 0 + 1 * (x 1).val = _; omega
  · rw [emb1, (idx t).2.2.1]; show 256 * (t.val / 4) + 1 * (x 0).val = _; omega

theorem pay3 (c : Dev nD) (t : Fin cfg0.N) (x : S256x2048.Idx) (y : S768x2048.Idx) (h0 : (y 0).val = 256 + (x 0).val) (h1 : (y 1).val = 0 + (x 1).val) :
    k0_pay3 (iblk m c 2 t) x = cols m c (t.val / 4) y := by
  have := (idx t).1
  have hx : (x 0).val < 256 := (x 0).isLt
  pointwise [k0_pay3, cols]
  blk_point [iblk, V, idx t]
  · rw [emb2, (idx t).2.2.2.1]; rfl
  · rw [emb2, (idx t).2.2.2.1]; show 0 + 1 * (x 1).val = _; omega
  · rw [emb2, (idx t).2.2.2.1]; show 2048 + 256 * (t.val / 4) + 1 * (x 0).val = _; omega

theorem pay4 (c : Dev nD) (t : Fin cfg0.N) (x : S256x2048.Idx) (y : S768x2048.Idx) (h0 : (y 0).val = 512 + (x 0).val) (h1 : (y 1).val = 0 + (x 1).val) :
    k0_pay4 (iblk m c 3 t) x = cols m c (t.val / 4) y := by
  have := (idx t).1
  have hx : (x 0).val < 256 := (x 0).isLt
  pointwise [k0_pay4, cols]
  blk_point [iblk, V, idx t]
  · rw [emb3, (idx t).2.2.2.2.1]; rfl
  · rw [emb3, (idx t).2.2.2.2.1]; show 0 + 1 * (x 1).val = _; omega
  · rw [emb3, (idx t).2.2.2.2.1]; show 4096 + 256 * (t.val / 4) + 1 * (x 0).val = _; omega

/-- The three stores into the kept columns. -/
theorem canon_cols (c : Dev nD) (t : Fin cfg0.N) :
    View.canon [⟨Rect.unit (s := S768x2048) ![512, 0] ![256, 2048] inb_S768x2048_S256x2048_512_0, k0_pay4 (iblk m c 3 t)⟩,
      ⟨Rect.unit ![256, 0] ![256, 2048] inb_S768x2048_S256x2048_256_0, k0_pay3 (iblk m c 2 t)⟩,
      ⟨Rect.unit ![0, 0] ![256, 2048] inb_S768x2048_S256x2048_0_0, k0_pay2 (iblk m c 1 t)⟩] = cols m c (t.val / 4) := by
  funext y
  canon_tiles x h
  case piece0 => exact pay4 m c t x y h0 (by omega)
  case piece1 => exact pay3 m c t x y h0 (by omega)
  case piece2 => exact pay2 m c t x y (by omega) (by omega)

theorem read_cols (c : Dev nD) (t : Fin cfg0.N) :
    (View.whole cc0_scratch0).readCov [⟨Rect.unit (s := S768x2048) ![512, 0] ![256, 2048] inb_S768x2048_S256x2048_512_0, k0_pay4 (iblk m c 3 t)⟩,
      ⟨Rect.unit ![256, 0] ![256, 2048] inb_S768x2048_S256x2048_256_0, k0_pay3 (iblk m c 2 t)⟩,
      ⟨Rect.unit ![0, 0] ![256, 2048] inb_S768x2048_S256x2048_0_0, k0_pay2 (iblk m c 1 t)⟩]
      (Rect.unit (s := S768x2048) ![0, 0] ![768, 2048] inb_S768x2048_S768x2048_0_0).toLoadRect = cols m c (t.val / 4) := by
  rw [View.readCov_eq_canon', canon_cols]
  exact View.ld_unit_zero (by funext a; fin_cases a <;> rfl) _ _

theorem set_A (c : Dev nD) (t : Fin cfg0.N) (h : t.val % 4 = 0) : (outsAt0 m c t.val t.isLt).2 = cols m c (t.val / 4) := by
  rw [outsAt0_A m c t h]
  frame_out
  exact canon_cols m c t

/-- The kept columns after every point. -/
theorem kept (c : Dev nD) : ∀ (n : ℕ) (hn : n < cfg0.N), (outsAt0 m c n hn).2 = cols m c (n / 4) := by
  refine carry (fun n hn => (outsAt0 m c n hn).2) _ (fun n hn h => set_A m c ⟨n, hn⟩ h) fun n hn h => ?_
  show (outsAt0 m c (n + 1) hn).2 = _
  rw [outsAt0_B m c ⟨n + 1, hn⟩ h]
  frame_out
  rfl

/-- The eight blocks of rows are the whole block. -/
theorem tiles (u : Vec Ideal S1x2048x2048 .bf16) (w : Vec Ideal S768x2048 .bf16) (cw : Vec Ideal S3x256 .f32) :
    View.canon (Val := Elt Ideal) (e := .bf16) [
      ⟨Rect.unit (s := S1x2048x256) ![0, 1792, 0] ![1, 256, 256] inb_S1x2048x256_S1x256x256_0_1792_0,
        part (k0_pay5 cw) (k0_pay6 (rows u 1792 inb_S1x2048x2048_S1x256x2048_0_1792_0) w) (k0_pay14 (gate (k0_pay6 (rows u 1536 inb_S1x2048x2048_S1x256x2048_0_1536_0) w)))⟩,
      ⟨Rect.unit (s := S1x2048x256) ![0, 1536, 0] ![1, 256, 256] inb_S1x2048x256_S1x256x256_0_1536_0,
        part (k0_pay5 cw) (k0_pay6 (rows u 1536 inb_S1x2048x2048_S1x256x2048_0_1536_0) w) (k0_pay14 (gate (k0_pay6 (rows u 1280 inb_S1x2048x2048_S1x256x2048_0_1280_0) w)))⟩,
      ⟨Rect.unit (s := S1x2048x256) ![0, 1280, 0] ![1, 256, 256] inb_S1x2048x256_S1x256x256_0_1280_0,
        part (k0_pay5 cw) (k0_pay6 (rows u 1280 inb_S1x2048x2048_S1x256x2048_0_1280_0) w) (k0_pay14 (gate (k0_pay6 (rows u 1024 inb_S1x2048x2048_S1x256x2048_0_1024_0) w)))⟩,
      ⟨Rect.unit (s := S1x2048x256) ![0, 1024, 0] ![1, 256, 256] inb_S1x2048x256_S1x256x256_0_1024_0,
        part (k0_pay5 cw) (k0_pay6 (rows u 1024 inb_S1x2048x2048_S1x256x2048_0_1024_0) w) (k0_pay14 (gate (k0_pay6 (rows u 768 inb_S1x2048x2048_S1x256x2048_0_768_0) w)))⟩,
      ⟨Rect.unit (s := S1x2048x256) ![0, 768, 0] ![1, 256, 256] inb_S1x2048x256_S1x256x256_0_768_0,
        part (k0_pay5 cw) (k0_pay6 (rows u 768 inb_S1x2048x2048_S1x256x2048_0_768_0) w) (k0_pay14 (gate (k0_pay6 (rows u 512 inb_S1x2048x2048_S1x256x2048_0_512_0) w)))⟩,
      ⟨Rect.unit (s := S1x2048x256) ![0, 512, 0] ![1, 256, 256] inb_S1x2048x256_S1x256x256_0_512_0,
        part (k0_pay5 cw) (k0_pay6 (rows u 512 inb_S1x2048x2048_S1x256x2048_0_512_0) w) (k0_pay14 (gate (k0_pay6 (rows u 256 inb_S1x2048x2048_S1x256x2048_0_256_0) w)))⟩,
      ⟨Rect.unit (s := S1x2048x256) ![0, 256, 0] ![1, 256, 256] inb_S1x2048x256_S1x256x256_0_256_0,
        part (k0_pay5 cw) (k0_pay6 (rows u 256 inb_S1x2048x2048_S1x256x2048_0_256_0) w) (k0_pay14 (gate (k0_pay6 (rows u 0 inb_S1x2048x2048_S1x256x2048_0_0_0) w)))⟩,
      ⟨Rect.unit (s := S1x2048x256) ![0, 0, 0] ![1, 256, 256] inb_S1x2048x256_S1x256x256_0_0_0,
        part (k0_pay5 cw) (k0_pay6 (rows u 0 inb_S1x2048x2048_S1x256x2048_0_0_0) w) k0_pay7⟩] = out u w cw := by
  funext y
  canon_tiles x h
  case piece0 => exact later u w cw 1792 1536 _ _ rfl x y h1 (by omega)
  case piece1 => exact later u w cw 1536 1280 _ _ rfl x y h1 (by omega)
  case piece2 => exact later u w cw 1280 1024 _ _ rfl x y h1 (by omega)
  case piece3 => exact later u w cw 1024 768 _ _ rfl x y h1 (by omega)
  case piece4 => exact later u w cw 768 512 _ _ rfl x y h1 (by omega)
  case piece5 => exact later u w cw 512 256 _ _ rfl x y h1 (by omega)
  case piece6 => exact later u w cw 256 0 _ _ rfl x y h1 (by omega)
  case piece7 => exact first u w cw _ x y (by omega) (by omega)

set_option maxRecDepth 200000 in
/-- What every point stores. -/
theorem stored (c : Dev nD) (t : Fin cfg0.N) :
    (outsAt0 m c t.val t.isLt).1 = out (iblk m c 0 t) (cols m c (t.val / 4)) (iblk m c 4 t) := by
  by_cases h : t.val % 4 = 0
  · rw [outsAt0_A m c t h]
    frame_out
    rw [read_cols]
    exact tiles _ _ _
  · rw [outsAt0_B m c t h]
    frame_out
    rw [read_unread_whole, kept, run_number h]
    exact tiles _ _ _

/-- The branch's array: the reference's own. -/
abbrev target (c : Dev nD) : S4x2048x2048.Idx → EReal :=
  Cert.ConvaRefIdeal.Read.val_main_v32 (F := Ideal) (m ((c : Thread nD τ).loc main_arg0)) (m ((c : Thread nD τ).loc main_arg1))
    (m ((c : Thread nD τ).loc main_arg2))

/-- An entry of the whole projection. -/
def P (x0 : S4x2048x2048.Idx → EReal) (x1 : S2x2048x26704.Idx → EReal) (b : Fin 4) (r : Fin 2048) (n : Fin 26704) : EReal :=
  ∑ k : Fin 2048, x0 (ix3 b r k) * x1 (ix3 (0 : Fin 2) k n)

def GR (x0 : S4x2048x2048.Idx → EReal) (x1 : S2x2048x26704.Idx → EReal) (b : Fin 4) (r : Fin 2048) (ch : Fin 2048) : EReal :=
  P x0 x1 b r (⟨2048 + ch.val, by omega⟩ : Fin 26704) * P x0 x1 b r (⟨4096 + ch.val, by omega⟩ : Fin 26704)

def BR (x0 : S4x2048x2048.Idx → EReal) (x1 : S2x2048x26704.Idx → EReal) (k : ℕ) (b : Fin 4) (r : Fin 2048) (ch : Fin 2048) : EReal :=
  if r.val < k then 0 else GR x0 x1 b (⟨r.val - k, by omega⟩ : Fin 2048) ch

/-- An entry of the reference's array. -/
def refVal (x0 : S4x2048x2048.Idx → EReal) (x1 : S2x2048x26704.Idx → EReal) (x2 : S2x3x2048.Idx → EReal) (b : Fin 4) (r ch : Fin 2048) : EReal :=
  P x0 x1 b r (⟨ch.val, by omega⟩ : Fin 26704) * (GR x0 x1 b r ch * x2 (ix3 (0 : Fin 2) (2 : Fin 3) ch)
    + BR x0 x1 1 b r ch * x2 (ix3 (0 : Fin 2) (1 : Fin 3) ch) + BR x0 x1 2 b r ch * x2 (ix3 (0 : Fin 2) (0 : Fin 3) ch))

theorem turn (a b c d : EReal) : d * (c + b + a) = d * (a + b + c) := by
  rw [add_comm a, add_comm (b + a), ← add_assoc, add_comm c]

theorem combine {p p' g g' w2 w2' b b' w1 w1' d d' w0 w0' : EReal} (hp : p = p') (hg : g = g') (h2 : w2 = w2') (hb : b = b') (h1 : w1 = w1')
    (hd : d = d') (h0 : w0 = w0') : p * (g * w2 + b * w1 + d * w0) = p' * (g' * w2' + b' * w1' + d' * w0') := by
  rw [hp, hg, h2, hb, h1, hd, h0]

theorem zero_pad : (FloatOps.sitofp (F := Ideal) FTy.f32 0#32 : EReal) = 0 := by
  show ((((0#32 : BitVec 32).toInt : ℝ)) : EReal) = 0
  simp

/-- What the reference reads `k` rows earlier in the padded product. -/
theorem pad_row (x0 : S4x2048x2048.Idx → EReal) (x1 : S2x2048x26704.Idx → EReal) (b : Fin 4) (r ch : Fin 2048) (k s : ℕ) (hk : k + s = 2) :
    (if h : 2 ≤ s + r.val ∧ s + r.val - 2 < 2048 then GR x0 x1 b (⟨s + r.val - 2, h.2⟩ : Fin 2048) ch else FloatOps.sitofp (F := Ideal) FTy.f32 0#32) = BR x0 x1 k b r ch := by
  unfold BR
  by_cases h : r.val < k
  · rw [dif_neg (by omega), if_pos h, zero_pad]
  · rw [dif_pos (by omega), if_neg h]
    exact congrArg (fun q => GR x0 x1 b q ch) (Fin.ext (by dsimp only; omega))

open Cert.ConvaRefIdeal.Read in
theorem ref_point (x0 : Vec Ideal S4x2048x2048 .bf16) (x1 : Vec Ideal S2x2048x26704 .f32) (x2 : Vec Ideal S2x3x2048 .f32) (i : S4x2048x2048.Idx) :
    val_main_v32 (F := Ideal) x0 x1 x2 i = refVal x0 x1 x2 (i 0) (i 1) (i 2) := by
  have e2 := pad_row x0 x1 (i 0) (i 1) (i 2) 2 0 rfl
  have e1 := pad_row x0 x1 (i 0) (i 1) (i 2) 1 1 rfl
  unfold refVal
  rw [← e2, ← e1]
  refine Eq.trans ?_ (turn _ _ _ _)
  simp only [zero_add]
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_c, val_main_call0_v0, P, GR]

theorem X_eq (c : Dev nD) (t : Fin cfg0.N) (q : Fin 2048) (n : Fin 768) (b : Fin 4) (e0 : b.val = t.val % 4) (col : Fin 26704)
    (ec : col.val = 2048 * (n.val / 256) + 256 * (t.val / 4) + n.val % 256) :
    X (iblk m c 0 t) (cols m c (t.val / 4)) q n
      = P (m ((c : Thread nD τ).loc main_arg0)) (m ((c : Thread nD τ).loc main_arg1)) b q col := by
  have := (idx t).1
  pointwise [X, P, cols]
  blk_point [iblk, V, idx t]

theorem point (c : Dev nD) (t : Fin cfg0.N) (y : S1x2048x256.Idx) (i : S4x2048x2048.Idx) (e0 : (i 0).val = t.val % 4) (e1 : i 1 = y 1)
    (e2 : (i 2).val = 256 * (t.val / 4) + (y 2).val) :
    out (iblk m c 0 t) (cols m c (t.val / 4)) (iblk m c 4 t) y = target m c i := by
  rw [target, ref_point, out]
  have hj := (idx t).1
  have hx (r : Fin 2048) (k : ℕ) (n : Fin 768) (col : Fin 26704) (hn : n.val = 256 * k + (y 2).val) (hc : col.val = 2048 * k + (i 2).val) :=
    X_eq m c t r n (i 0) e0 col (by have := (y 2).isLt; change _ < 256 at this; omega)
  have hw (k : Fin 3) : iblk m c 4 t (ix2 k (y 2)) = (m ((c : Thread nD τ).loc main_arg2) : S2x3x2048.Idx → EReal) (ix3 (0 : Fin 2) k (i 2)) := by
    blk_point [iblk, V, idx t]
  have hg (r : Fin 2048) : G (iblk m c 0 t) (cols m c (t.val / 4)) r (y 2)
      = GR (m ((c : Thread nD τ).loc main_arg0)) (m ((c : Thread nD τ).loc main_arg1)) (i 0) r (i 2) := by
    exact congr (congrArg HMul.hMul (hx r 1 _ _ rfl rfl)) (hx r 2 _ _ rfl rfl)
  have hb (k : ℕ) (r : Fin 2048) : B (iblk m c 0 t) (cols m c (t.val / 4)) k r (y 2)
      = BR (m ((c : Thread nD τ).loc main_arg0)) (m ((c : Thread nD τ).loc main_arg1)) k (i 0) r (i 2) := by
    unfold B BR
    split_ifs with h
    · rfl
    · exact hg _
  have hr : ∀ r : Fin 2048, val (iblk m c 0 t) (cols m c (t.val / 4)) (iblk m c 4 t) r (y 2)
      = refVal (m ((c : Thread nD τ).loc main_arg0)) (m ((c : Thread nD τ).loc main_arg1)) (m ((c : Thread nD τ).loc main_arg2)) (i 0) r (i 2) := fun r =>
    combine (hx r 0 _ _ (Nat.zero_add _).symm (Nat.zero_add _).symm) (hg r) (hw 2) (hb 1 r) (hw 1) (hb 2 r) (hw 0)
  exact (hr (y 1)).trans (congrArg (fun r => refVal _ _ _ (i 0) r (i 2)) e1.symm)

/-- The branch's array after the run. -/
theorem final (c : Dev nD) : (dats m 0 c).arrAt 5 (cfgs 0).N = target m c := by
  refine (dats m 0 c).arrAt_eq_of_covers 5 _ (by decide +kernel) fun t hfl y => ?_
  blk_simp
  rw [after0_5, stored]
  exact point m c t _ _ (by blk_simp [idx t] <;> omega) (Fin.ext (by blk_simp [idx t] <;> omega)) (by blk_simp [idx t] <;> omega)

end Cert.ConvaIdeal.Value
end
-- ==== Proof.Norm1Value.lean ====
/- The norm after the merge: the kernel's two arrays are the reference's arrays over the extended reals. -/
module
public import proofs.«01_k».proof.Proof.Gen.Norm1Ideal.Value
public import proofs.«01_k».proof.Proof.Gen.Norm1RefIdeal.Read
public import Idealize.ShloMosaic.Lib.Pipeline.ValueKit
public import Idealize.ShloMosaic.PureOps.Ideal.Laws
@[expose] public section
set_option maxRecDepth 16384
noncomputable section

open Idealize.ShloMosaic Idealize.ShloMosaic.TcCoe Idealize.SL.Sem
open Idealize.ShloMosaic.Pipeline (Dat)
namespace Cert.Norm1Ideal.Value
open Cert.Norm1Ideal Cert.Norm1Ideal.Gen
open Cert.Norm1RefIdeal.Read

variable (m : (ℓ : Loc nD τ sig) → Buf (Elt Ideal) ℓ)

/-- The blocks of every window. -/
theorem idx : ∀ t : Fin cfg0.N, t.val < 16 ∧ win0_0.index t = ![t.val / 4, t.val % 4, 0] ∧ win0_1.index t = ![0, 0, 0]
    ∧ win0_2.index t = ![t.val / 4, t.val % 4, 0] ∧ win0_3.index t = ![t.val / 4, 0, 0] ∧ win0_4.index t = ![0, 0]
    ∧ win0_5.index t = ![0, 0] ∧ win0_6.index t = ![t.val / 4, 0, 0] ∧ win0_7.index t = ![t.val / 4, 0, 0]
    ∧ win0_8.index t = ![t.val / 4, t.val % 4, 0] ∧ win0_9.index t = ![t.val / 4, t.val % 4, 0] :=
  (by decide +kernel : ∀ t : Fin grid0.N, _)

/-- The reference's normed array over the kernel's arguments. -/
abbrev normed (c : Dev nD) : S4x2048x2048.Idx → EReal :=
  val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's modulated array over the kernel's arguments. -/
abbrev modulated (c : Dev nD) : S4x2048x2048.Idx → EReal :=
  val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

set_option maxHeartbeats 1600000 in
theorem point (c : Dev nD) (t : Fin cfg0.N) (y : S512x2048.Idx) (i : S4x2048x2048.Idx) (e0 : (i 0).val = t.val / 4)
    (e1 : (i 1).val = 512 * (t.val % 4) + (y 0).val) (e2 : (i 2).val = (y 1).val) :
    k0_pay1 (k0_pay4 (iblk m c 5 t)) (k0_pay5 (iblk m c 2 t) (iblk m c 3 t) (iblk m c 0 t) (iblk m c 1 t)) (k0_pay6 (iblk m c 4 t)) y = normed m c i := by
  pointwise [k0_pay1, k0_pay4, k0_pay5, k0_pay6, normed, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4, val_main_cst_5]
  blk_point [iblk, V, idx t]

theorem point8 (c : Dev nD) (t : Fin cfg0.N) (y : S1x512x2048.Idx) (i : S4x2048x2048.Idx) (e0 : (i 0).val = t.val / 4)
    (e1 : (i 1).val = 512 * (t.val % 4) + (y 1).val) (e2 : (i 2).val = (y 2).val) :
    k0_pay2 (k0_pay4 (iblk m c 5 t)) (k0_pay5 (iblk m c 2 t) (iblk m c 3 t) (iblk m c 0 t) (iblk m c 1 t)) (k0_pay6 (iblk m c 4 t)) y = normed m c i := by
  rw [← point m c t (ix2 (y 1) (y 2)) i e0 e1 e2]
  generalize k0_pay4 (iblk m c 5 t) = a
  generalize k0_pay5 (iblk m c 2 t) (iblk m c 3 t) (iblk m c 0 t) (iblk m c 1 t) = b
  generalize k0_pay6 (iblk m c 4 t) = d
  pointwise [k0_pay1, k0_pay2]

theorem mod_apply (a : FVec Ideal S1x2048 .f32) (b d : FVec Ideal S512x2048 .f32) (u v : Vec Ideal S1x1x2048 .f32) (y : S1x512x2048.Idx) :
    k0_pay3 a b d u v y = k0_pay1 a b d (ix2 (y 1) (y 2)) * (1 + u (ix3 (0 : Fin 1) (0 : Fin 1) (y 2))) + v (ix3 (0 : Fin 1) (0 : Fin 1) (y 2)) := by
  pointwise [k0_pay1, k0_pay3]

theorem ref_mod (c : Dev nD) (i : S4x2048x2048.Idx) :
    modulated m c i = normed m c i * (1 + (m ((c : Thread nD τ).loc main_arg6) : S4x1x2048.Idx → EReal) (ix3 (i 0) (0 : Fin 1) (i 2)))
      + (m ((c : Thread nD τ).loc main_arg7) : S4x1x2048.Idx → EReal) (ix3 (i 0) (0 : Fin 1) (i 2)) := by
  pointwise [modulated, val_main_v44, val_main_v43, val_main_v42, val_main_v41, val_main_v40, val_main_v39, val_main_v38, val_main_cst_5]

theorem point9 (c : Dev nD) (t : Fin cfg0.N) (y : S1x512x2048.Idx) (i : S4x2048x2048.Idx) (e0 : (i 0).val = t.val / 4)
    (e1 : (i 1).val = 512 * (t.val % 4) + (y 1).val) (e2 : (i 2).val = (y 2).val) :
    k0_pay3 (k0_pay4 (iblk m c 5 t)) (k0_pay5 (iblk m c 2 t) (iblk m c 3 t) (iblk m c 0 t) (iblk m c 1 t)) (k0_pay6 (iblk m c 4 t))
      (iblk m c 6 t) (iblk m c 7 t) y = modulated m c i := by
  have p := point m c t (ix2 (y 1) (y 2)) i e0 e1 e2
  rw [mod_apply, ref_mod, ← p]
  generalize k0_pay1 (F := Ideal) _ _ _ _ = z
  blk_point [iblk, V, idx t]

/-- What a point stores in the normed array's block. -/
theorem stored8 (x0 : Vec Ideal S1x512x2048 .bf16) (x1 : Vec Ideal S1x2048x2048 .bf16) (x2 : Vec Ideal S1x512x2048 .f32) (x3 : Vec Ideal S1x1x2048 .f32) (x4 x5 : Vec Ideal S1x2048 .f32) (x6 x7 : Vec Ideal S1x1x2048 .f32) :
    out0_8 x0 x1 x2 x3 x4 x5 x6 x7 = k0_pay2 (k0_pay4 x5) (k0_pay5 x2 x3 x0 x1) (k0_pay6 x4) := by
  unfold out0_8 k0_pay9 k0_pay8 k0_pay7
  rw [View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl), View.ld_unit_zero (by funext a; fin_cases a <;> rfl)]
  exact View.canon_unit_zero (by funext a; fin_cases a <;> rfl) _ _

/-- What a point stores in the modulated array's block. -/
theorem stored9 (x0 : Vec Ideal S1x512x2048 .bf16) (x1 : Vec Ideal S1x2048x2048 .bf16) (x2 : Vec Ideal S1x512x2048 .f32) (x3 : Vec Ideal S1x1x2048 .f32) (x4 x5 : Vec Ideal S1x2048 .f32) (x6 x7 : Vec Ideal S1x1x2048 .f32) :
    out0_9 x0 x1 x2 x3 x4 x5 x6 x7 = k0_pay3 (k0_pay4 x5) (k0_pay5 x2 x3 x0 x1) (k0_pay6 x4) x6 x7 := by
  unfold out0_9 k0_pay9 k0_pay8 k0_pay7
  refine (View.canon_unit_zero (by funext a; fin_cases a <;> rfl) _ _).trans ?_
  rw [View.ld_unit_zero (by funext a; fin_cases a <;> rfl) _ x0,
    View.ld_unit_zero (by funext a; fin_cases a <;> rfl) _ x1,
    View.ld_unit_zero (by funext a; fin_cases a <;> rfl) _ x2,
    View.ld_unit_zero (by funext a; fin_cases a <;> rfl) _ x3,
    View.ld_unit_zero (by funext a; fin_cases a <;> rfl) _ x4,
    View.ld_unit_zero (by funext a; fin_cases a <;> rfl) _ x5,
    View.ld_unit_zero (by funext a; fin_cases a <;> rfl) _ x6,
    View.ld_unit_zero (by funext a; fin_cases a <;> rfl) _ x7]

/-- The normed array after the run. -/
theorem final (c : Dev nD) : (dats m 0 c).arrAt 8 (cfgs 0).N = normed m c := by
  refine (dats m 0 c).arrAt_eq_of_covers 8 _ (by decide +kernel) fun t hfl y => ?_
  blk_simp
  rw [after0_8, stored8]
  exact point8 m c t _ _ (by blk_simp [idx t] <;> omega) (by blk_simp [idx t] <;> omega) (by blk_simp [idx t] <;> omega)

/-- The modulated array after the run. -/
theorem final_mod (c : Dev nD) : (dats m 0 c).arrAt 9 (cfgs 0).N = modulated m c := by
  refine (dats m 0 c).arrAt_eq_of_covers 9 _ (by decide +kernel) fun t hfl y => ?_
  blk_simp
  rw [after0_9, stored9]
  exact point9 m c t _ _ (by blk_simp [idx t] <;> omega) (by blk_simp [idx t] <;> omega) (by blk_simp [idx t] <;> omega)

end Cert.Norm1Ideal.Value
end
-- ==== Proof.VvValue.lean ====
/- The value part of the linear attention's input: a convolution of four rows and a silu. -/
module
public import proofs.«01_k».proof.Proof.Gen.VvIdeal.Value
public import proofs.«01_k».proof.Proof.Gen.VvRefIdeal.Read
public import Idealize.ShloMosaic.Lib.Pipeline.ValueKit
public import Idealize.ShloMosaic.Lib.Pipeline.ReadBack
public import Idealize.ShloMosaic.PureOps.Ideal.Laws
public import proofs.«01_k».proof.Proof.Carry
@[expose] public section
set_option maxRecDepth 16384
noncomputable section

open Idealize.ShloMosaic Idealize.ShloMosaic.TcCoe Idealize.SL.Sem
open Idealize.ShloMosaic.Pipeline (Dat)
namespace Cert.VvIdeal.Value
open Cert.VvIdeal Cert.VvIdeal.Gen
open scoped BigOperators
variable (m : (ℓ : Loc nD τ sig) → Buf (Elt Ideal) ℓ)

/-! What the buffer of two blocks of rows gives back: each block has its eight rows before it in front. -/

/-- A block of rows read from row `o` of its slot: the last `8 - o` rows before it, then its own. -/
def tap (o : ℕ) (p : Vec Ideal S1x8x1024 .f32) (v : Vec Ideal S1x256x1024 .f32) : Vec Ideal S1x256x1024 .f32 := fun y =>
  if h : o + (y 1).val < 8 then p (ix3 (0 : Fin 1) (⟨o + (y 1).val, h⟩ : Fin 8) (y 2))
  else v (ix3 (0 : Fin 1) (⟨(o + (y 1).val - 8) % 256, Nat.mod_lt _ (by decide)⟩ : Fin 256) (y 2))

/-- The last eight rows of a block. -/
def tail (v : Vec Ideal S1x256x1024 .f32) : Vec Ideal S1x8x1024 .f32 := fun y =>
  v (ix3 (0 : Fin 1) (⟨(248 + (y 1).val) % 256, Nat.mod_lt _ (by decide)⟩ : Fin 256) (y 2))

theorem read_tap {sig : RefSig} {κ : Kind} {sp : Space} (b : View sig κ sp S2x264x1024 .f32) (s o : ℕ) (p : Vec Ideal S1x8x1024 .f32) (v : Vec Ideal S1x256x1024 .f32)
    (L : List (View.Piece (Elt Ideal) S2x264x1024 .f32)) (h1 h2 h3) :
    b.readCov (⟨Rect.unit (s := S2x264x1024) ![s, 0, 0] ![1, 8, 1024] h1, p⟩ :: ⟨Rect.unit (s := S2x264x1024) ![s, 8, 0] ![1, 256, 1024] h2, v⟩ :: L)
      (Rect.unit (s := S2x264x1024) ![s, o, 0] ![1, 256, 1024] h3).toLoadRect = tap o p v := by
  have ho : o + 256 ≤ 264 := h3 1
  rw [View.readCov_eq_canon']
  funext y
  have hy0 : (y 0).val < 1 := (y 0).isLt
  have hy1 : (y 1).val < 256 := (y 1).isLt
  by_cases h : o + (y 1).val < 8
  · refine Eq.trans ?_ (dif_pos h).symm
    rw [← View.canon_cons_emb (Rect.unit (s := S2x264x1024) ![s, 0, 0] ![1, 8, 1024] h1) p
      (⟨Rect.unit (s := S2x264x1024) ![s, 8, 0] ![1, 256, 1024] h2, v⟩ :: L) (ix3 (0 : Fin 1) (⟨o + (y 1).val, h⟩ : Fin 8) (y 2))]
    refine congrArg _ (funext fun a => Fin.ext ?_)
    fin_cases a
    · show s + 1 * (y 0).val = s + 1 * 0; omega
    · show o + 1 * (y 1).val = 0 + 1 * (o + (y 1).val); omega
    · rfl
  · refine Eq.trans ?_ (dif_neg h).symm
    dsimp only
    rw [View.canon_cons_of_not_mem]
    · rw [← View.canon_cons_emb (Rect.unit (s := S2x264x1024) ![s, 8, 0] ![1, 256, 1024] h2) v L
        (ix3 (0 : Fin 1) (⟨(o + (y 1).val - 8) % 256, Nat.mod_lt _ (by decide)⟩ : Fin 256) (y 2))]
      refine congrArg _ (funext fun a => Fin.ext ?_)
      fin_cases a
      · show s + 1 * (y 0).val = s + 1 * 0; omega
      · show o + 1 * (y 1).val = 8 + 1 * ((o + (y 1).val - 8) % 256); omega
      · rfl
    · intro hm
      obtain ⟨x, hx⟩ := LoadRect.exists_idx_of_mem _ hm
      have hx1 : (x 1).val < 8 := (x 1).isLt
      have e : 0 + 1 * (x 1).val = o + 1 * (y 1).val := congrArg (fun i : S2x264x1024.Idx => (i 1).val) hx
      omega

theorem read_tail {sig : RefSig} {κ : Kind} {sp : Space} (b : View sig κ sp S2x264x1024 .f32) (s : ℕ) (v : Vec Ideal S1x256x1024 .f32)
    (L : List (View.Piece (Elt Ideal) S2x264x1024 .f32)) (h2 h3) :
    b.readCov (⟨Rect.unit (s := S2x264x1024) ![s, 8, 0] ![1, 256, 1024] h2, v⟩ :: L)
      (Rect.unit (s := S2x264x1024) ![s, 256, 0] ![1, 8, 1024] h3).toLoadRect = tail v := by
  rw [View.readCov_eq_canon']
  funext y
  have hy0 : (y 0).val < 1 := (y 0).isLt
  have hy1 : (y 1).val < 8 := (y 1).isLt
  dsimp only [tail]
  rw [← View.canon_cons_emb (Rect.unit (s := S2x264x1024) ![s, 8, 0] ![1, 256, 1024] h2) v L
    (ix3 (0 : Fin 1) (⟨(248 + (y 1).val) % 256, Nat.mod_lt _ (by decide)⟩ : Fin 256) (y 2))]
  refine congrArg _ (funext fun a => Fin.ext ?_)
  fin_cases a
  · show s + 1 * (y 0).val = s + 1 * 0; omega
  · show 256 + 1 * (y 1).val = 8 + 1 * ((248 + (y 1).val) % 256); omega
  · rfl

/-- What one block of rows stores, from its product `v` and the eight rows `p` before it. -/
abbrev part (cw : FVec Ideal S4x1024 .f32) (p : Vec Ideal S1x8x1024 .f32) (v : Vec Ideal S1x256x1024 .f32) : FVec Ideal S1x256x1024 .bf16 :=
  k0_pay9 cw v (tap 7 p v) (tap 6 p v) (tap 5 p v)

/-- `x` times its logistic function. -/
def silu (x : EReal) : EReal := x * Ideal.div 1 (1 + Ideal.exp (-x))

/-- The product's entry at a row of a whole batch. -/
def X (u : S1x2048x2048.Idx → EReal) (w : S1024x2048.Idx → EReal) (r : Fin 2048) (n : Fin 1024) : EReal :=
  ∑ k : Fin 2048, u (ix3 (0 : Fin 1) r k) * w (ix2 n k)

/-- The product's row `k` rows earlier, nothing before the first. -/
def B (u : S1x2048x2048.Idx → EReal) (w : S1024x2048.Idx → EReal) (k : ℕ) (r : Fin 2048) (c : Fin 1024) : EReal :=
  if r.val < k then 0 else X u w (⟨r.val - k, by omega⟩ : Fin 2048) c

/-- The four rows weighted and added. -/
def conv (w : Fin 4 → EReal) (x3 x2 x1 x0 : EReal) : EReal := x3 * w 3 + x2 * w 2 + x1 * w 1 + x0 * w 0

/-- One stored entry. -/
def val (u : S1x2048x2048.Idx → EReal) (w : S1024x2048.Idx → EReal) (cw : S4x1024.Idx → EReal) (q : Fin 2048) (c : Fin 1024) : EReal :=
  silu (conv (fun k => cw (ix2 k c)) (X u w q c) (B u w 1 q c) (B u w 2 q c) (B u w 3 q c))

/-- The whole stored block. -/
def out (u : S1x2048x2048.Idx → EReal) (w : S1024x2048.Idx → EReal) (cw : S4x1024.Idx → EReal) : S1x2048x1024.Idx → EReal :=
  fun y => val u w cw (y 1) (y 2)

theorem part_apply (cw : FVec Ideal S4x1024 .f32) (a3 a2 a1 a0 : Vec Ideal S1x256x1024 .f32) (y : S1x256x1024.Idx) :
    k0_pay9 cw a3 a2 a1 a0 y = silu (conv (fun k => cw (ix2 k (y 2))) (a3 y) (a2 y) (a1 y) (a0 y)) := by
  pointwise [k0_pay9, silu, conv]
  simp only [zero_sub]

/-- The rows `o` to `o + 255` of a batch. -/
abbrev rows (u : Vec Ideal S1x2048x2048 .bf16) (o : ℕ) (h : ∀ a, (![0, o, 0] : Fin 3 → ℕ) a + S1x256x2048.size a ≤ S1x2048x2048.size a) : Vec Ideal S1x256x2048 .bf16 :=
  View.ld u (Rect.unit (s := S1x2048x2048) ![0, o, 0] S1x256x2048.size h)

theorem mm (u : Vec Ideal S1x2048x2048 .bf16) (w : Vec Ideal S1024x2048 .bf16) (o : ℕ) (h) (r : Fin 256) (n : Fin 1024) (q : Fin 2048) (e : q.val = o + r.val) :
    k0_pay4 (rows u o h) w (ix3 (0 : Fin 1) r n) = X u w q n := by
  pointwise [k0_pay4, X, rows]
  blk_point []

/-- A block of rows, from what the rows before it hold. -/
theorem entry_eq (u : Vec Ideal S1x2048x2048 .bf16) (w : Vec Ideal S1024x2048 .bf16) (cw : Vec Ideal S4x1024 .f32) (p : FVec Ideal S1x8x1024 .f32) (o : ℕ) (h)
    (hp : ∀ (r : Fin 8) (q : Fin 2048) (c : Fin 1024) (k : ℕ), k ≤ 3 → q.val + 8 = o + r.val + k → q.val < o + k → p (ix3 (0 : Fin 1) r c) = B u w k q c)
    (r : Fin 256) (q : Fin 2048) (c : Fin 1024) (e : q.val = o + r.val) (z : Fin 1) :
    part (k0_pay3 cw) p (k0_pay4 (rows u o h) w) (ix3 z r c) = val u w cw q c := by
  have b (s k : ℕ) (hk : s + k = 8) (h3 : k ≤ 3) : tap s p (k0_pay4 (rows u o h) w) (ix3 (0 : Fin 1) r c) = B u w k q c := by
    by_cases hr : s + r.val < 8
    · exact (dif_pos hr).trans (hp _ q c k h3 (by show q.val + 8 = o + (s + r.val) + k; omega) (by omega))
    · refine (dif_neg hr).trans ?_
      rw [B, if_neg (by omega)]
      exact mm u w o h _ c _ (by show q.val - k = o + (s + r.val - 8) % 256; have := r.isLt; omega)
  obtain rfl : z = 0 := Subsingleton.elim _ _
  have hc : k0_pay3 cw = cw := by
    funext j
    pointwise [k0_pay3]
  refine (part_apply _ _ _ _ _ _).trans ?_
  show silu (conv _ (k0_pay4 (rows u o h) w (ix3 (0 : Fin 1) r c)) (tap 7 p (k0_pay4 (rows u o h) w) (ix3 (0 : Fin 1) r c))
    (tap 6 p (k0_pay4 (rows u o h) w) (ix3 (0 : Fin 1) r c)) (tap 5 p (k0_pay4 (rows u o h) w) (ix3 (0 : Fin 1) r c))) = _
  rw [b 7 1 rfl (by omega), b 6 2 rfl (by omega), b 5 3 rfl (by omega), mm u w o h r c q e, hc]
  rfl

/-- A block of rows after the first. -/
theorem later (u : Vec Ideal S1x2048x2048 .bf16) (w : Vec Ideal S1024x2048 .bf16) (cw : Vec Ideal S4x1024 .f32) (o o' : ℕ) (h) (h') (eo : o = o' + 256)
    (x : S1x256x1024.Idx) (y : S1x2048x1024.Idx) (e1 : (y 1).val = o + (x 1).val) (e2 : (y 2).val = (x 2).val) :
    part (k0_pay3 cw) (k0_pay11 (tail (k0_pay4 (rows u o' h') w))) (k0_pay4 (rows u o h) w) x = out u w cw y := by
  have c2 : x 2 = y 2 := Fin.ext e2.symm
  refine (congrArg (part _ _ _) (eq_ix3 x)).trans ((entry_eq u w cw _ o h (fun r q c k hk e hr => ?_) (x 1) (y 1) (x 2) e1 (x 0)).trans (congrArg (val u w cw (y 1)) c2))
  rw [B, if_neg (by omega)]
  rw [← mm u w o' h' (⟨(248 + r.val) % 256, Nat.mod_lt _ (by decide)⟩ : Fin 256) c _ (by dsimp only; omega)]
  generalize k0_pay4 (rows u o' h') w = v
  pointwise [k0_pay11, tail]

/-- The first block of rows. -/
theorem first (u : Vec Ideal S1x2048x2048 .bf16) (w : Vec Ideal S1024x2048 .bf16) (cw : Vec Ideal S4x1024 .f32) (h)
    (x : S1x256x1024.Idx) (y : S1x2048x1024.Idx) (e1 : (y 1).val = (x 1).val) (e2 : (y 2).val = (x 2).val) :
    part (k0_pay3 cw) (k0_pay5 (F := Ideal)) (k0_pay4 (rows u 0 h) w) x = out u w cw y := by
  have p (i : S1x8x1024.Idx) : k0_pay5 (F := Ideal) i = 0 := by
    pointwise [k0_pay5]
  have c2 : x 2 = y 2 := Fin.ext e2.symm
  refine (congrArg (part _ _ _) (eq_ix3 x)).trans ((entry_eq u w cw _ 0 h (fun r q c k hk e hr => ?_) (x 1) (y 1) (x 2) (by omega) (x 0)).trans (congrArg (val u w cw (y 1)) c2))
  rw [p, B, if_pos (by omega)]

/-- The blocks of every window; the weight's in elements. -/
theorem idx : ∀ t : Fin cfg0.N, t.val / 4 < 2 ∧ win0_0.index t = ![t.val % 4, 0, 0] ∧ win0_1.index t = ![0, 10240 + 1024 * (t.val / 4), 0]
    ∧ win0_2.index t = ![0, 4 + t.val / 4] ∧ win0_3.index t = ![t.val % 4, 0, t.val / 4] :=
  (by decide +kernel : ∀ t : Fin grid0.N, _)

theorem emb1 (t : Fin cfg0.N) (x : S1x1024x2048.Idx) (a : Fin 3) :
    (((View.whole main_v0).slice (win0_1.rect t)).emb x a).val = win0_1.index t a + 1 * (x a).val := rfl

/-- The columns of the weight that the points of run `j` use. -/
def cols (c : Dev nD) (j : ℕ) : Vec Ideal S1024x2048 .bf16 := fun x =>
  (m ((c : Thread nD τ).loc main_arg1) : S2x2048x26704.Idx → EReal)
    (ix3 (0 : Fin 2) (x 1) (⟨(10240 + 1024 * j + (x 0).val) % 26704, by omega⟩ : Fin 26704))

theorem pay2 (c : Dev nD) (t : Fin cfg0.N) : k0_pay2 (iblk m c 1 t) = cols m c (t.val / 4) := by
  have := (idx t).1
  funext x
  have hx : (x 0).val < 1024 := (x 0).isLt
  pointwise [k0_pay2, cols]
  blk_point [iblk, V, idx t]
  · rw [emb1, (idx t).2.2.1]; rfl
  · rw [emb1, (idx t).2.2.1]; show 0 + 1 * (x 1).val = _; omega
  · rw [emb1, (idx t).2.2.1]; show 10240 + 1024 * (t.val / 4) + 1 * (x 0).val = _; omega

theorem set_A (c : Dev nD) (t : Fin cfg0.N) (h : t.val % 4 = 0) : (outsAt0 m c t.val t.isLt).2 = cols m c (t.val / 4) := by
  rw [outsAt0_A m c t h]
  frame_out
  exact pay2 m c t

/-- The kept columns after every point. -/
theorem kept (c : Dev nD) : ∀ (n : ℕ) (hn : n < cfg0.N), (outsAt0 m c n hn).2 = cols m c (n / 4) := by
  refine carry (fun n hn => (outsAt0 m c n hn).2) _ (fun n hn h => set_A m c ⟨n, hn⟩ h) fun n hn h => ?_
  show (outsAt0 m c (n + 1) hn).2 = _
  rw [outsAt0_B m c ⟨n + 1, hn⟩ h]
  frame_out
  rfl

/-- The eight blocks of rows are the whole block. -/
theorem tiles (u : Vec Ideal S1x2048x2048 .bf16) (w : Vec Ideal S1024x2048 .bf16) (cw : Vec Ideal S4x1024 .f32) :
    View.canon (Val := Elt Ideal) (e := .bf16) [
      ⟨Rect.unit (s := S1x2048x1024) ![0, 1792, 0] ![1, 256, 1024] inb_S1x2048x1024_S1x256x1024_0_1792_0,
        part (k0_pay3 cw) (k0_pay11 (tail (k0_pay4 (rows u 1536 inb_S1x2048x2048_S1x256x2048_0_1536_0) w))) (k0_pay4 (rows u 1792 inb_S1x2048x2048_S1x256x2048_0_1792_0) w)⟩,
      ⟨Rect.unit (s := S1x2048x1024) ![0, 1536, 0] ![1, 256, 1024] inb_S1x2048x1024_S1x256x1024_0_1536_0,
        part (k0_pay3 cw) (k0_pay11 (tail (k0_pay4 (rows u 1280 inb_S1x2048x2048_S1x256x2048_0_1280_0) w))) (k0_pay4 (rows u 1536 inb_S1x2048x2048_S1x256x2048_0_1536_0) w)⟩,
      ⟨Rect.unit (s := S1x2048x1024) ![0, 1280, 0] ![1, 256, 1024] inb_S1x2048x1024_S1x256x1024_0_1280_0,
        part (k0_pay3 cw) (k0_pay11 (tail (k0_pay4 (rows u 1024 inb_S1x2048x2048_S1x256x2048_0_1024_0) w))) (k0_pay4 (rows u 1280 inb_S1x2048x2048_S1x256x2048_0_1280_0) w)⟩,
      ⟨Rect.unit (s := S1x2048x1024) ![0, 1024, 0] ![1, 256, 1024] inb_S1x2048x1024_S1x256x1024_0_1024_0,
        part (k0_pay3 cw) (k0_pay11 (tail (k0_pay4 (rows u 768 inb_S1x2048x2048_S1x256x2048_0_768_0) w))) (k0_pay4 (rows u 1024 inb_S1x2048x2048_S1x256x2048_0_1024_0) w)⟩,
      ⟨Rect.unit (s := S1x2048x1024) ![0, 768, 0] ![1, 256, 1024] inb_S1x2048x1024_S1x256x1024_0_768_0,
        part (k0_pay3 cw) (k0_pay11 (tail (k0_pay4 (rows u 512 inb_S1x2048x2048_S1x256x2048_0_512_0) w))) (k0_pay4 (rows u 768 inb_S1x2048x2048_S1x256x2048_0_768_0) w)⟩,
      ⟨Rect.unit (s := S1x2048x1024) ![0, 512, 0] ![1, 256, 1024] inb_S1x2048x1024_S1x256x1024_0_512_0,
        part (k0_pay3 cw) (k0_pay11 (tail (k0_pay4 (rows u 256 inb_S1x2048x2048_S1x256x2048_0_256_0) w))) (k0_pay4 (rows u 512 inb_S1x2048x2048_S1x256x2048_0_512_0) w)⟩,
      ⟨Rect.unit (s := S1x2048x1024) ![0, 256, 0] ![1, 256, 1024] inb_S1x2048x1024_S1x256x1024_0_256_0,
        part (k0_pay3 cw) (k0_pay11 (tail (k0_pay4 (rows u 0 inb_S1x2048x2048_S1x256x2048_0_0_0) w))) (k0_pay4 (rows u 256 inb_S1x2048x2048_S1x256x2048_0_256_0) w)⟩,
      ⟨Rect.unit (s := S1x2048x1024) ![0, 0, 0] ![1, 256, 1024] inb_S1x2048x1024_S1x256x1024_0_0_0,
        part (k0_pay3 cw) (k0_pay5 (F := Ideal)) (k0_pay4 (rows u 0 inb_S1x2048x2048_S1x256x2048_0_0_0) w)⟩] = out u w cw := by
  funext y
  canon_tiles x h
  case piece0 => exact later u w cw 1792 1536 _ _ rfl x y h1 (by omega)
  case piece1 => exact later u w cw 1536 1280 _ _ rfl x y h1 (by omega)
  case piece2 => exact later u w cw 1280 1024 _ _ rfl x y h1 (by omega)
  case piece3 => exact later u w cw 1024 768 _ _ rfl x y h1 (by omega)
  case piece4 => exact later u w cw 768 512 _ _ rfl x y h1 (by omega)
  case piece5 => exact later u w cw 512 256 _ _ rfl x y h1 (by omega)
  case piece6 => exact later u w cw 256 0 _ _ rfl x y h1 (by omega)
  case piece7 => exact first u w cw _ x y (by omega) (by omega)

set_option maxRecDepth 200000 in
set_option maxHeartbeats 4000000 in
/-- What every point stores. -/
theorem stored (c : Dev nD) (t : Fin cfg0.N) :
    (outsAt0 m c t.val t.isLt).1 = out (iblk m c 0 t) (cols m c (t.val / 4)) (iblk m c 2 t) := by
  by_cases h : t.val % 4 = 0
  · rw [outsAt0_A m c t h]
    frame_out
    simp (disch := decide) only [↓View.readCov_cons_toLoadRect, ↓View.readCov_skip, ↓read_tap, ↓read_tail]
    rw [pay2]
    exact tiles _ _ _
  · rw [outsAt0_B m c t h]
    frame_out
    simp (disch := decide) only [↓View.readCov_cons_toLoadRect, ↓View.readCov_skip, ↓read_tap, ↓read_tail]
    rw [read_unread_whole, kept, run_number h]
    exact tiles _ _ _

/-- The array: the reference's own. -/
abbrev target (c : Dev nD) : S4x2048x2048.Idx → EReal :=
  Cert.VvRefIdeal.Read.val_main_v37 (F := Ideal) (m ((c : Thread nD τ).loc main_arg0)) (m ((c : Thread nD τ).loc main_arg1))
    (m ((c : Thread nD τ).loc main_arg2))

/-- An entry of the whole projection. -/
def P (x0 : S4x2048x2048.Idx → EReal) (x1 : S2x2048x26704.Idx → EReal) (b : Fin 4) (r : Fin 2048) (n : Fin 26704) : EReal :=
  ∑ k : Fin 2048, x0 (ix3 b r k) * x1 (ix3 (0 : Fin 2) k n)

def BR (x0 : S4x2048x2048.Idx → EReal) (x1 : S2x2048x26704.Idx → EReal) (k : ℕ) (b : Fin 4) (r : Fin 2048) (n : Fin 26704) : EReal :=
  if r.val < k then 0 else P x0 x1 b (⟨r.val - k, by omega⟩ : Fin 2048) n

/-- An entry of the reference's array. -/
def refVal (x0 : S4x2048x2048.Idx → EReal) (x1 : S2x2048x26704.Idx → EReal) (w : Fin 4 → EReal) (b : Fin 4) (r : Fin 2048) (n : Fin 26704) : EReal :=
  silu (conv w (P x0 x1 b r n) (BR x0 x1 1 b r n) (BR x0 x1 2 b r n) (BR x0 x1 3 b r n))

theorem turn (a b c d : EReal) : a + b + c + d = d + c + b + a := by
  rw [add_comm (a + b + c), add_comm (a + b), add_comm a, ← add_assoc, ← add_assoc]

theorem combine {w w' : Fin 4 → EReal} {a a' b b' c c' d d' : EReal} (hw : w = w') (ha : a = a') (hb : b = b') (hc : c = c') (hd : d = d') :
    silu (conv w a b c d) = silu (conv w' a' b' c' d') := by
  rw [hw, ha, hb, hc, hd]

theorem zero_pad : (FloatOps.sitofp (F := Ideal) FTy.f32 0#32 : EReal) = 0 := by
  show ((((0#32 : BitVec 32).toInt : ℝ)) : EReal) = 0
  simp

/-- What the reference reads `k` rows earlier in the padded product. -/
theorem pad_row (x0 : S4x2048x2048.Idx → EReal) (x1 : S2x2048x26704.Idx → EReal) (b : Fin 4) (r : Fin 2048) (n : Fin 26704) (k s : ℕ) (hk : k + s = 3) :
    (if h : 3 ≤ s + r.val ∧ s + r.val - 3 < 2048 then P x0 x1 b (⟨s + r.val - 3, h.2⟩ : Fin 2048) n else FloatOps.sitofp (F := Ideal) FTy.f32 0#32) = BR x0 x1 k b r n := by
  unfold BR
  by_cases h : r.val < k
  · rw [dif_neg (by omega), if_pos h, zero_pad]
  · rw [dif_pos (by omega), if_neg h]
    exact congrArg (fun q => P x0 x1 b q n) (Fin.ext (by dsimp only; omega))

open Cert.VvRefIdeal.Read in
/-- The reference's four rows, weighted and added. -/
theorem ref_conv (x0 : Vec Ideal S4x2048x2048 .bf16) (x1 : Vec Ideal S2x2048x26704 .f32) (x2 : Vec Ideal S2x4x6144 .f32) (i : S4x2048x2048.Idx) (n : Fin 26704)
    (hn : n.val = 10240 + (i 2).val) (n' : Fin 6144) (hn' : n'.val = 4096 + (i 2).val) :
    val_main_v35 (F := Ideal) x0 x1 x2 i = conv (fun k => (x2 : S2x4x6144.Idx → EReal) (ix3 (0 : Fin 2) k n')) (P x0 x1 (i 0) (i 1) n) (BR x0 x1 1 (i 0) (i 1) n)
      (BR x0 x1 2 (i 0) (i 1) n) (BR x0 x1 3 (i 0) (i 1) n) := by
  have hi : (i 2).val < 2048 := (i 2).isLt
  obtain rfl : n = (⟨10240 + (i 2).val, Nat.lt_of_lt_of_le (Nat.add_lt_add_left hi _) (by decide)⟩ : Fin 26704) := Fin.ext hn
  obtain rfl : n' = (⟨4096 + (i 2).val, Nat.lt_of_lt_of_le (Nat.add_lt_add_left hi _) (by decide)⟩ : Fin 6144) := Fin.ext hn'
  rw [← pad_row x0 x1 (i 0) (i 1) _ 3 0 rfl, ← pad_row x0 x1 (i 0) (i 1) _ 2 1 rfl, ← pad_row x0 x1 (i 0) (i 1) _ 1 2 rfl]
  unfold conv
  refine Eq.trans ?_ (turn _ _ _ _)
  simp only [zero_add]
  pointwise [val_main_v35, val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3, val_main_v2,
    val_main_v1, val_main_v0, val_main_c, val_main_call0_v0, P]

open Cert.VvRefIdeal.Read in
theorem ref_silu (x0 : Vec Ideal S4x2048x2048 .bf16) (x1 : Vec Ideal S2x2048x26704 .f32) (x2 : Vec Ideal S2x4x6144 .f32) (i : S4x2048x2048.Idx) :
    val_main_v37 (F := Ideal) x0 x1 x2 i = silu (val_main_v35 (F := Ideal) x0 x1 x2 i) := by
  unfold val_main_v37 val_main_v36 val_main_call1_v5 val_main_call1_v3 val_main_call1_v1 val_main_call1_v0
  generalize val_main_v35 (F := Ideal) x0 x1 x2 = z
  pointwise [val_main_call1_v4, val_main_call1_v2, val_main_call1_cst, val_main_call1_cst_0, silu]

theorem X_eq (c : Dev nD) (t : Fin cfg0.N) (q : Fin 2048) (n : Fin 1024) (b : Fin 4) (e0 : b.val = t.val % 4) (col : Fin 26704)
    (ec : col.val = 10240 + 1024 * (t.val / 4) + n.val) :
    X (iblk m c 0 t) (cols m c (t.val / 4)) q n
      = P (m ((c : Thread nD τ).loc main_arg0)) (m ((c : Thread nD τ).loc main_arg1)) b q col := by
  have := (idx t).1
  pointwise [X, P, cols]
  blk_point [iblk, V, idx t]

theorem point (c : Dev nD) (t : Fin cfg0.N) (y : S1x2048x1024.Idx) (i : S4x2048x2048.Idx) (e0 : (i 0).val = t.val % 4) (e1 : i 1 = y 1)
    (e2 : (i 2).val = 1024 * (t.val / 4) + (y 2).val) :
    out (iblk m c 0 t) (cols m c (t.val / 4)) (iblk m c 2 t) y = target m c i := by
  have hi : (i 2).val < 2048 := (i 2).isLt
  rw [target, ref_silu, ref_conv _ _ _ i (⟨10240 + (i 2).val, by omega⟩ : Fin 26704) rfl (⟨4096 + (i 2).val, by omega⟩ : Fin 6144) rfl, out]
  have hj := (idx t).1
  have hx (r : Fin 2048) := X_eq m c t r (y 2) (i 0) e0 (⟨10240 + (i 2).val, by omega⟩ : Fin 26704) (by dsimp only; omega)
  have hw (k : Fin 4) : iblk m c 2 t (ix2 k (y 2)) = (m ((c : Thread nD τ).loc main_arg2) : S2x4x6144.Idx → EReal) (ix3 (0 : Fin 2) k (⟨4096 + (i 2).val, by omega⟩ : Fin 6144)) := by
    blk_point [iblk, V, idx t]
  have hb (k : ℕ) (r : Fin 2048) : B (iblk m c 0 t) (cols m c (t.val / 4)) k r (y 2)
      = BR (m ((c : Thread nD τ).loc main_arg0)) (m ((c : Thread nD τ).loc main_arg1)) k (i 0) r (⟨10240 + (i 2).val, by omega⟩ : Fin 26704) := by
    unfold B BR
    split_ifs with h
    · rfl
    · exact hx _
  rw [e1]
  exact combine (funext hw) (hx _) (hb 1 _) (hb 2 _) (hb 3 _)

/-- The array after the run. -/
theorem final (c : Dev nD) : (dats m 0 c).arrAt 3 (cfgs 0).N = target m c := by
  refine (dats m 0 c).arrAt_eq_of_covers 3 _ (by decide +kernel) fun t hfl y => ?_
  blk_simp
  rw [after0_3, stored]
  exact point m c t _ _ (by blk_simp [idx t] <;> omega) (Fin.ext (by blk_simp [idx t] <;> omega)) (by blk_simp [idx t] <;> omega)

end Cert.VvIdeal.Value
end
-- ==== Proof.QkValue.lean ====
/- The query and key part of the linear attention's input: a convolution of four rows, a silu and a norm of every head. -/
module
public import proofs.«01_k».proof.Proof.Gen.QkIdeal.Value
public import proofs.«01_k».proof.Proof.Gen.QkRefIdeal.Read
public import Idealize.ShloMosaic.Lib.Pipeline.ValueKit
public import Idealize.ShloMosaic.Lib.Pipeline.ReadBack
public import Idealize.ShloMosaic.PureOps.Ideal.Laws
public import proofs.«01_k».proof.Proof.Carry
public import proofs.«01_k».proof.Proof.VvValue
@[expose] public section
set_option maxRecDepth 16384
noncomputable section

open Idealize.ShloMosaic Idealize.ShloMosaic.TcCoe Idealize.SL.Sem
open Idealize.ShloMosaic.Pipeline (Dat)
namespace Cert.QkIdeal.Value
open Cert.QkIdeal Cert.QkIdeal.Gen
open scoped BigOperators
open Cert.VvIdeal.Value (tap tail read_tap read_tail silu X B conv val rows P BR turn combine pad_row)
variable (m : (ℓ : Loc nD τ sig) → Buf (Elt Ideal) ℓ)

/-- What one block of rows holds before the norm, from its product `v` and the eight rows `p` before it. -/
abbrev part (cw : FVec Ideal S4x1024 .f32) (p : Vec Ideal S1x8x1024 .f32) (v : Vec Ideal S1x256x1024 .f32) : FVec Ideal S256x1024 .f32 :=
  k0_pay10 cw v (tap 7 p v) (tap 6 p v) (tap 5 p v)

/-- The columns of one head. -/
abbrev lanes (o : ℕ) (h : S256x1024.Slices ![0, o] S256x128) (z : FVec Ideal S256x1024 .f32) : FVec Ideal S256x128 .f32 :=
  extractStridedSlice S256x128 ![0, o] z h

/-- What one head stores: its columns over their norm. -/
def head (o : ℕ) (h : S256x1024.Slices ![0, o] S256x128) (z : FVec Ideal S256x1024 .f32) : FVec Ideal S1x256x128 .bf16 :=
  shapeCast S1x256x128 (truncf .bf16 (mulf (lanes o h z) (broadcastTo S256x128 (rsqrt (addf (shapeCast S256x1 (multiReduction .add [1] S256 (mulf (lanes o h z) (lanes o h z))
    0x00000000#32 reduces_S256x128_S256 (.inl rfl) rfl) shapeCasts_S256_S256x1) (broadcast S256x1 (Scalar.ofBits .f32 0x358637BD#32)))) broadcasts_S256x1_S256x128))
    bitsLt_bf16_f32) shapeCasts_S256x128_S1x256x128

/-- An entry over the norm of the head's entries `f`. -/
def over (x : EReal) (f : Fin 128 → EReal) : EReal := x * Ideal.rsqrt ((∑ k : Fin 128, f k * f k) + Ideal.ofBits FTy.f32 0x358637BD#32)

theorem head_apply (o : ℕ) (ho : o + 128 ≤ 1024) (h) (z : FVec Ideal S256x1024 .f32) (y : S1x256x128.Idx) :
    head o h z y = over (z (ix2 (y 1) (⟨o + (y 2).val, by have := (y 2).isLt; change _ < 128 at this; omega⟩ : Fin 1024)))
      fun k => z (ix2 (y 1) (⟨o + k.val, by omega⟩ : Fin 1024)) := by
  pointwise [head, lanes, over]

theorem part_apply (cw : FVec Ideal S4x1024 .f32) (a3 a2 a1 a0 : Vec Ideal S1x256x1024 .f32) (y : S256x1024.Idx) :
    k0_pay10 cw a3 a2 a1 a0 y = silu (conv (fun k => cw (ix2 k (y 1))) (a3 (ix3 (0 : Fin 1) (y 0) (y 1))) (a2 (ix3 (0 : Fin 1) (y 0) (y 1)))
      (a1 (ix3 (0 : Fin 1) (y 0) (y 1))) (a0 (ix3 (0 : Fin 1) (y 0) (y 1)))) := by
  pointwise [k0_pay10, silu, conv]
  simp only [zero_sub]

/-- One stored entry. -/
def normed (u : S1x2048x2048.Idx → EReal) (w : S1024x2048.Idx → EReal) (cw : S4x1024.Idx → EReal) (q : Fin 2048) (c : Fin 1024) : EReal :=
  over (val u w cw q c) fun k => val u w cw q (⟨128 * (c.val / 128) + k.val, by omega⟩ : Fin 1024)

/-- The whole stored block. -/
def out (u : S1x2048x2048.Idx → EReal) (w : S1024x2048.Idx → EReal) (cw : S4x1024.Idx → EReal) : S1x2048x1024.Idx → EReal :=
  fun y => normed u w cw (y 1) (y 2)

theorem mm (u : Vec Ideal S1x2048x2048 .bf16) (w : Vec Ideal S1024x2048 .bf16) (o : ℕ) (h) (r : Fin 256) (n : Fin 1024) (q : Fin 2048) (e : q.val = o + r.val) :
    k0_pay5 (rows u o h) w (ix3 (0 : Fin 1) r n) = X u w q n := by
  pointwise [k0_pay5, X, rows]
  blk_point []

/-- A block of rows, from what the rows before it hold. -/
theorem entry_eq (u : Vec Ideal S1x2048x2048 .bf16) (w : Vec Ideal S1024x2048 .bf16) (cw : Vec Ideal S4x1024 .f32) (p : FVec Ideal S1x8x1024 .f32) (o : ℕ) (h)
    (hp : ∀ (r : Fin 8) (q : Fin 2048) (c : Fin 1024) (k : ℕ), k ≤ 3 → q.val + 8 = o + r.val + k → q.val < o + k → p (ix3 (0 : Fin 1) r c) = B u w k q c)
    (r : Fin 256) (q : Fin 2048) (c : Fin 1024) (e : q.val = o + r.val) :
    part (k0_pay4 cw) p (k0_pay5 (rows u o h) w) (ix2 r c) = val u w cw q c := by
  have hc : k0_pay4 cw = cw := by
    funext j
    pointwise [k0_pay4]
  have b (s k : ℕ) (hk : s + k = 8) (h3 : k ≤ 3) : tap s p (k0_pay5 (rows u o h) w) (ix3 (0 : Fin 1) r c) = B u w k q c := by
    by_cases hr : s + r.val < 8
    · exact (dif_pos hr).trans (hp _ q c k h3 (by show q.val + 8 = o + (s + r.val) + k; omega) (by omega))
    · refine (dif_neg hr).trans ?_
      rw [B, if_neg (by omega)]
      exact mm u w o h _ c _ (by show q.val - k = o + (s + r.val - 8) % 256; have := r.isLt; omega)
  refine (part_apply _ _ _ _ _ _).trans ?_
  show silu (conv _ (k0_pay5 (rows u o h) w (ix3 (0 : Fin 1) r c)) (tap 7 p (k0_pay5 (rows u o h) w) (ix3 (0 : Fin 1) r c))
    (tap 6 p (k0_pay5 (rows u o h) w) (ix3 (0 : Fin 1) r c)) (tap 5 p (k0_pay5 (rows u o h) w) (ix3 (0 : Fin 1) r c))) = _
  rw [b 7 1 rfl (by omega), b 6 2 rfl (by omega), b 5 3 rfl (by omega), mm u w o h r c q e, hc]
  rfl

/-- One head of a block of rows. -/
theorem head_eq (u : Vec Ideal S1x2048x2048 .bf16) (w : Vec Ideal S1024x2048 .bf16) (cw : Vec Ideal S4x1024 .f32) (p : FVec Ideal S1x8x1024 .f32) (o : ℕ) (h)
    (hp : ∀ (r : Fin 8) (q : Fin 2048) (c : Fin 1024) (k : ℕ), k ≤ 3 → q.val + 8 = o + r.val + k → q.val < o + k → p (ix3 (0 : Fin 1) r c) = B u w k q c)
    (l n : ℕ) (hl : l = 128 * n) (hs) (x : S1x256x128.Idx) (y : S1x2048x1024.Idx) (e1 : (y 1).val = o + (x 1).val) (e2 : (y 2).val = l + (x 2).val) :
    head l hs (part (k0_pay4 cw) p (k0_pay5 (rows u o h) w)) x = out u w cw y := by
  have hx : (x 2).val < 128 := (x 2).isLt
  have hy : (y 2).val < 1024 := (y 2).isLt
  have e (c : Fin 1024) := entry_eq u w cw p o h hp (x 1) (y 1) c e1
  refine (head_apply l (by omega) hs _ x).trans ?_
  refine congr (congrArg over ((e _).trans (congrArg (val u w cw (y 1)) (Fin.ext e2.symm)))) (funext fun k => (e _).trans (congrArg (val u w cw (y 1)) (Fin.ext ?_)))
  show l + k.val = 128 * ((y 2).val / 128) + k.val
  omega

/-- A block of rows after the first. -/
theorem later (u : Vec Ideal S1x2048x2048 .bf16) (w : Vec Ideal S1024x2048 .bf16) (cw : Vec Ideal S4x1024 .f32) (o o' : ℕ) (h) (h') (eo : o = o' + 256)
    (l n : ℕ) (hl : l = 128 * n) (hs) (x : S1x256x128.Idx) (y : S1x2048x1024.Idx) (e1 : (y 1).val = o + (x 1).val) (e2 : (y 2).val = l + (x 2).val) :
    head l hs (part (k0_pay4 cw) (k0_pay26 (tail (k0_pay5 (rows u o' h') w))) (k0_pay5 (rows u o h) w)) x = out u w cw y := by
  refine head_eq u w cw _ o h (fun r q c k hk e hr => ?_) l n hl hs x y e1 e2
  rw [B, if_neg (by omega)]
  rw [← mm u w o' h' (⟨(248 + r.val) % 256, Nat.mod_lt _ (by decide)⟩ : Fin 256) c _ (by dsimp only; omega)]
  generalize k0_pay5 (rows u o' h') w = v
  pointwise [k0_pay26, tail]

/-- The first block of rows. -/
theorem first (u : Vec Ideal S1x2048x2048 .bf16) (w : Vec Ideal S1024x2048 .bf16) (cw : Vec Ideal S4x1024 .f32) (h)
    (l n : ℕ) (hl : l = 128 * n) (hs) (x : S1x256x128.Idx) (y : S1x2048x1024.Idx) (e1 : (y 1).val = 0 + (x 1).val) (e2 : (y 2).val = l + (x 2).val) :
    head l hs (part (k0_pay4 cw) (k0_pay6 (F := Ideal)) (k0_pay5 (rows u 0 h) w)) x = out u w cw y := by
  have p (i : S1x8x1024.Idx) : k0_pay6 (F := Ideal) i = 0 := by
    pointwise [k0_pay6]
  refine head_eq u w cw _ 0 h (fun r q c k hk e hr => ?_) l n hl hs x y e1 e2
  rw [p, B, if_pos (by omega)]

/-- The blocks of every window; the weight's in elements. -/
theorem idx : ∀ t : Fin cfg0.N, t.val / 4 < 4 ∧ win0_0.index t = ![t.val % 4, 0, 0] ∧ win0_1.index t = ![0, 6144 + 1024 * (t.val / 4), 0]
    ∧ win0_2.index t = ![0, t.val / 4] ∧ win0_3.index t = ![t.val % 4, 0, t.val / 4] :=
  (by decide +kernel : ∀ t : Fin grid0.N, _)

theorem emb1 (t : Fin cfg0.N) (x : S1x1024x2048.Idx) (a : Fin 3) :
    (((View.whole main_v0).slice (win0_1.rect t)).emb x a).val = win0_1.index t a + 1 * (x a).val := rfl

/-- The columns of the weight that the points of run `j` use. -/
def cols (c : Dev nD) (j : ℕ) : Vec Ideal S1024x2048 .bf16 := fun x =>
  (m ((c : Thread nD τ).loc main_arg1) : S2x2048x26704.Idx → EReal)
    (ix3 (0 : Fin 2) (x 1) (⟨(6144 + 1024 * j + (x 0).val) % 26704, by omega⟩ : Fin 26704))

theorem pay3 (c : Dev nD) (t : Fin cfg0.N) : k0_pay3 (iblk m c 1 t) = cols m c (t.val / 4) := by
  have := (idx t).1
  funext x
  have hx : (x 0).val < 1024 := (x 0).isLt
  pointwise [k0_pay3, cols]
  blk_point [iblk, V, idx t]
  · rw [emb1, (idx t).2.2.1]; rfl
  · rw [emb1, (idx t).2.2.1]; show 0 + 1 * (x 1).val = _; omega
  · rw [emb1, (idx t).2.2.1]; show 6144 + 1024 * (t.val / 4) + 1 * (x 0).val = _; omega

theorem set_A (c : Dev nD) (t : Fin cfg0.N) (h : t.val % 4 = 0) : (outsAt0 m c t.val t.isLt).2 = cols m c (t.val / 4) := by
  rw [outsAt0_A m c t h]
  frame_out
  exact pay3 m c t

/-- The kept columns after every point. -/
theorem kept (c : Dev nD) : ∀ (n : ℕ) (hn : n < cfg0.N), (outsAt0 m c n hn).2 = cols m c (n / 4) := by
  refine carry (fun n hn => (outsAt0 m c n hn).2) _ (fun n hn h => set_A m c ⟨n, hn⟩ h) fun n hn h => ?_
  show (outsAt0 m c (n + 1) hn).2 = _
  rw [outsAt0_B m c ⟨n + 1, hn⟩ h]
  frame_out
  rfl

/-- Where a row of one stored rectangle lies. -/
theorem emb_row (o l : ℕ) (inb : ∀ a, (![0, o, l] : Fin 3 → ℕ) a + (![1, 256, 128] : Fin 3 → ℕ) a ≤ S1x2048x1024.size a) (x : S1x256x128.Idx) :
    ((Rect.unit (s := S1x2048x1024) ![0, o, l] ![1, 256, 128] inb).emb x 1).val = o + (x 1).val := by
  show o + 1 * (x 1).val = _
  omega

/-- Where a column of one stored rectangle lies. -/
theorem emb_lane (o l : ℕ) (inb : ∀ a, (![0, o, l] : Fin 3 → ℕ) a + (![1, 256, 128] : Fin 3 → ℕ) a ≤ S1x2048x1024.size a) (x : S1x256x128.Idx) :
    ((Rect.unit (s := S1x2048x1024) ![0, o, l] ![1, 256, 128] inb).emb x 2).val = l + (x 2).val := by
  show l + 1 * (x 2).val = _
  omega

/-- One more stored rectangle of a block `G`. -/
theorem more (G : S1x2048x1024.Idx → Elt Ideal .bf16) (r : Rect S1x2048x1024) (w : r.shape.Idx → Elt Ideal .bf16) (L : List (View.Piece (Elt Ideal) S1x2048x1024 .bf16))
    (h : ∀ x, w x = G (r.emb x)) (hL : ∀ p ∈ L, ∀ x : p.1.shape.Idx, p.2 x = G (p.1.emb x)) :
    ∀ p ∈ (⟨r, w⟩ : View.Piece (Elt Ideal) S1x2048x1024 .bf16) :: L, ∀ x : p.1.shape.Idx, p.2 x = G (p.1.emb x) :=
  List.forall_mem_cons.2 ⟨h, hL⟩

set_option maxHeartbeats 4000000 in
/-- The heads of the eight blocks of rows are the whole block. -/
theorem tiles (u : Vec Ideal S1x2048x2048 .bf16) (w : Vec Ideal S1024x2048 .bf16) (cw : Vec Ideal S4x1024 .f32) :
    View.canon (Val := Elt Ideal) (e := .bf16) (
      ⟨Rect.unit (s := S1x2048x1024) ![0, 1792, 896] ![1, 256, 128] inb_S1x2048x1024_S1x256x128_0_1792_896,
        head 896 slices_S256x1024_o0_896_S256x128 (part (k0_pay4 cw) (k0_pay26 (tail (k0_pay5 (rows u 1536 inb_S1x2048x2048_S1x256x2048_0_1536_0) w))) (k0_pay5 (rows u 1792 inb_S1x2048x2048_S1x256x2048_0_1792_0) w))⟩ ::
      ⟨Rect.unit (s := S1x2048x1024) ![0, 1792, 768] ![1, 256, 128] inb_S1x2048x1024_S1x256x128_0_1792_768,
        head 768 slices_S256x1024_o0_768_S256x128 (part (k0_pay4 cw) (k0_pay26 (tail (k0_pay5 (rows u 1536 inb_S1x2048x2048_S1x256x2048_0_1536_0) w))) (k0_pay5 (rows u 1792 inb_S1x2048x2048_S1x256x2048_0_1792_0) w))⟩ ::
      ⟨Rect.unit (s := S1x2048x1024) ![0, 1792, 640] ![1, 256, 128] inb_S1x2048x1024_S1x256x128_0_1792_640,
        head 640 slices_S256x1024_o0_640_S256x128 (part (k0_pay4 cw) (k0_pay26 (tail (k0_pay5 (rows u 1536 inb_S1x2048x2048_S1x256x2048_0_1536_0) w))) (k0_pay5 (rows u 1792 inb_S1x2048x2048_S1x256x2048_0_1792_0) w))⟩ ::
      ⟨Rect.unit (s := S1x2048x1024) ![0, 1792, 512] ![1, 256, 128] inb_S1x2048x1024_S1x256x128_0_1792_512,
        head 512 slices_S256x1024_o0_512_S256x128 (part (k0_pay4 cw) (k0_pay26 (tail (k0_pay5 (rows u 1536 inb_S1x2048x2048_S1x256x2048_0_1536_0) w))) (k0_pay5 (rows u 1792 inb_S1x2048x2048_S1x256x2048_0_1792_0) w))⟩ ::
      ⟨Rect.unit (s := S1x2048x1024) ![0, 1792, 384] ![1, 256, 128] inb_S1x2048x1024_S1x256x128_0_1792_384,
        head 384 slices_S256x1024_o0_384_S256x128 (part (k0_pay4 cw) (k0_pay26 (tail (k0_pay5 (rows u 1536 inb_S1x2048x2048_S1x256x2048_0_1536_0) w))) (k0_pay5 (rows u 1792 inb_S1x2048x2048_S1x256x2048_0_1792_0) w))⟩ ::
      ⟨Rect.unit (s := S1x2048x1024) ![0, 1792, 256] ![1, 256, 128] inb_S1x2048x1024_S1x256x128_0_1792_256,
        head 256 slices_S256x1024_o0_256_S256x128 (part (k0_pay4 cw) (k0_pay26 (tail (k0_pay5 (rows u 1536 inb_S1x2048x2048_S1x256x2048_0_1536_0) w))) (k0_pay5 (rows u 1792 inb_S1x2048x2048_S1x256x2048_0_1792_0) w))⟩ ::
      ⟨Rect.unit (s := S1x2048x1024) ![0, 1792, 128] ![1, 256, 128] inb_S1x2048x1024_S1x256x128_0_1792_128,
        head 128 slices_S256x1024_o0_128_S256x128 (part (k0_pay4 cw) (k0_pay26 (tail (k0_pay5 (rows u 1536 inb_S1x2048x2048_S1x256x2048_0_1536_0) w))) (k0_pay5 (rows u 1792 inb_S1x2048x2048_S1x256x2048_0_1792_0) w))⟩ ::
      ⟨Rect.unit (s := S1x2048x1024) ![0, 1792, 0] ![1, 256, 128] inb_S1x2048x1024_S1x256x128_0_1792_0,
        head 0 slices_S256x1024_o0_0_S256x128 (part (k0_pay4 cw) (k0_pay26 (tail (k0_pay5 (rows u 1536 inb_S1x2048x2048_S1x256x2048_0_1536_0) w))) (k0_pay5 (rows u 1792 inb_S1x2048x2048_S1x256x2048_0_1792_0) w))⟩ ::
      ⟨Rect.unit (s := S1x2048x1024) ![0, 1536, 896] ![1, 256, 128] inb_S1x2048x1024_S1x256x128_0_1536_896,
        head 896 slices_S256x1024_o0_896_S256x128 (part (k0_pay4 cw) (k0_pay26 (tail (k0_pay5 (rows u 1280 inb_S1x2048x2048_S1x256x2048_0_1280_0) w))) (k0_pay5 (rows u 1536 inb_S1x2048x2048_S1x256x2048_0_1536_0) w))⟩ ::
      ⟨Rect.unit (s := S1x2048x1024) ![0, 1536, 768] ![1, 256, 128] inb_S1x2048x1024_S1x256x128_0_1536_768,
        head 768 slices_S256x1024_o0_768_S256x128 (part (k0_pay4 cw) (k0_pay26 (tail (k0_pay5 (rows u 1280 inb_S1x2048x2048_S1x256x2048_0_1280_0) w))) (k0_pay5 (rows u 1536 inb_S1x2048x2048_S1x256x2048_0_1536_0) w))⟩ ::
      ⟨Rect.unit (s := S1x2048x1024) ![0, 1536, 640] ![1, 256, 128] inb_S1x2048x1024_S1x256x128_0_1536_640,
        head 640 slices_S256x1024_o0_640_S256x128 (part (k0_pay4 cw) (k0_pay26 (tail (k0_pay5 (rows u 1280 inb_S1x2048x2048_S1x256x2048_0_1280_0) w))) (k0_pay5 (rows u 1536 inb_S1x2048x2048_S1x256x2048_0_1536_0) w))⟩ ::
      ⟨Rect.unit (s := S1x2048x1024) ![0, 1536, 512] ![1, 256, 128] inb_S1x2048x1024_S1x256x128_0_1536_512,
        head 512 slices_S256x1024_o0_512_S256x128 (part (k0_pay4 cw) (k0_pay26 (tail (k0_pay5 (rows u 1280 inb_S1x2048x2048_S1x256x2048_0_1280_0) w))) (k0_pay5 (rows u 1536 inb_S1x2048x2048_S1x256x2048_0_1536_0) w))⟩ ::
      ⟨Rect.unit (s := S1x2048x1024) ![0, 1536, 384] ![1, 256, 128] inb_S1x2048x1024_S1x256x128_0_1536_384,
        head 384 slices_S256x1024_o0_384_S256x128 (part (k0_pay4 cw) (k0_pay26 (tail (k0_pay5 (rows u 1280 inb_S1x2048x2048_S1x256x2048_0_1280_0) w))) (k0_pay5 (rows u 1536 inb_S1x2048x2048_S1x256x2048_0_1536_0) w))⟩ ::
      ⟨Rect.unit (s := S1x2048x1024) ![0, 1536, 256] ![1, 256, 128] inb_S1x2048x1024_S1x256x128_0_1536_256,
        head 256 slices_S256x1024_o0_256_S256x128 (part (k0_pay4 cw) (k0_pay26 (tail (k0_pay5 (rows u 1280 inb_S1x2048x2048_S1x256x2048_0_1280_0) w))) (k0_pay5 (rows u 1536 inb_S1x2048x2048_S1x256x2048_0_1536_0) w))⟩ ::
      ⟨Rect.unit (s := S1x2048x1024) ![0, 1536, 128] ![1, 256, 128] inb_S1x2048x1024_S1x256x128_0_1536_128,
        head 128 slices_S256x1024_o0_128_S256x128 (part (k0_pay4 cw) (k0_pay26 (tail (k0_pay5 (rows u 1280 inb_S1x2048x2048_S1x256x2048_0_1280_0) w))) (k0_pay5 (rows u 1536 inb_S1x2048x2048_S1x256x2048_0_1536_0) w))⟩ ::
      ⟨Rect.unit (s := S1x2048x1024) ![0, 1536, 0] ![1, 256, 128] inb_S1x2048x1024_S1x256x128_0_1536_0,
        head 0 slices_S256x1024_o0_0_S256x128 (part (k0_pay4 cw) (k0_pay26 (tail (k0_pay5 (rows u 1280 inb_S1x2048x2048_S1x256x2048_0_1280_0) w))) (k0_pay5 (rows u 1536 inb_S1x2048x2048_S1x256x2048_0_1536_0) w))⟩ ::
      ⟨Rect.unit (s := S1x2048x1024) ![0, 1280, 896] ![1, 256, 128] inb_S1x2048x1024_S1x256x128_0_1280_896,
        head 896 slices_S256x1024_o0_896_S256x128 (part (k0_pay4 cw) (k0_pay26 (tail (k0_pay5 (rows u 1024 inb_S1x2048x2048_S1x256x2048_0_1024_0) w))) (k0_pay5 (rows u 1280 inb_S1x2048x2048_S1x256x2048_0_1280_0) w))⟩ ::
      ⟨Rect.unit (s := S1x2048x1024) ![0, 1280, 768] ![1, 256, 128] inb_S1x2048x1024_S1x256x128_0_1280_768,
        head 768 slices_S256x1024_o0_768_S256x128 (part (k0_pay4 cw) (k0_pay26 (tail (k0_pay5 (rows u 1024 inb_S1x2048x2048_S1x256x2048_0_1024_0) w))) (k0_pay5 (rows u 1280 inb_S1x2048x2048_S1x256x2048_0_1280_0) w))⟩ ::
      ⟨Rect.unit (s := S1x2048x1024) ![0, 1280, 640] ![1, 256, 128] inb_S1x2048x1024_S1x256x128_0_1280_640,
        head 640 slices_S256x1024_o0_640_S256x128 (part (k0_pay4 cw) (k0_pay26 (tail (k0_pay5 (rows u 1024 inb_S1x2048x2048_S1x256x2048_0_1024_0) w))) (k0_pay5 (rows u 1280 inb_S1x2048x2048_S1x256x2048_0_1280_0) w))⟩ ::
      ⟨Rect.unit (s := S1x2048x1024) ![0, 1280, 512] ![1, 256, 128] inb_S1x2048x1024_S1x256x128_0_1280_512,
        head 512 slices_S256x1024_o0_512_S256x128 (part (k0_pay4 cw) (k0_pay26 (tail (k0_pay5 (rows u 1024 inb_S1x2048x2048_S1x256x2048_0_1024_0) w))) (k0_pay5 (rows u 1280 inb_S1x2048x2048_S1x256x2048_0_1280_0) w))⟩ ::
      ⟨Rect.unit (s := S1x2048x1024) ![0, 1280, 384] ![1, 256, 128] inb_S1x2048x1024_S1x256x128_0_1280_384,
        head 384 slices_S256x1024_o0_384_S256x128 (part (k0_pay4 cw) (k0_pay26 (tail (k0_pay5 (rows u 1024 inb_S1x2048x2048_S1x256x2048_0_1024_0) w))) (k0_pay5 (rows u 1280 inb_S1x2048x2048_S1x256x2048_0_1280_0) w))⟩ ::
      ⟨Rect.unit (s := S1x2048x1024) ![0, 1280, 256] ![1, 256, 128] inb_S1x2048x1024_S1x256x128_0_1280_256,
        head 256 slices_S256x1024_o0_256_S256x128 (part (k0_pay4 cw) (k0_pay26 (tail (k0_pay5 (rows u 1024 inb_S1x2048x2048_S1x256x2048_0_1024_0) w))) (k0_pay5 (rows u 1280 inb_S1x2048x2048_S1x256x2048_0_1280_0) w))⟩ ::
      ⟨Rect.unit (s := S1x2048x1024) ![0, 1280, 128] ![1, 256, 128] inb_S1x2048x1024_S1x256x128_0_1280_128,
        head 128 slices_S256x1024_o0_128_S256x128 (part (k0_pay4 cw) (k0_pay26 (tail (k0_pay5 (rows u 1024 inb_S1x2048x2048_S1x256x2048_0_1024_0) w))) (k0_pay5 (rows u 1280 inb_S1x2048x2048_S1x256x2048_0_1280_0) w))⟩ ::
      ⟨Rect.unit (s := S1x2048x1024) ![0, 1280, 0] ![1, 256, 128] inb_S1x2048x1024_S1x256x128_0_1280_0,
        head 0 slices_S256x1024_o0_0_S256x128 (part (k0_pay4 cw) (k0_pay26 (tail (k0_pay5 (rows u 1024 inb_S1x2048x2048_S1x256x2048_0_1024_0) w))) (k0_pay5 (rows u 1280 inb_S1x2048x2048_S1x256x2048_0_1280_0) w))⟩ ::
      ⟨Rect.unit (s := S1x2048x1024) ![0, 1024, 896] ![1, 256, 128] inb_S1x2048x1024_S1x256x128_0_1024_896,
        head 896 slices_S256x1024_o0_896_S256x128 (part (k0_pay4 cw) (k0_pay26 (tail (k0_pay5 (rows u 768 inb_S1x2048x2048_S1x256x2048_0_768_0) w))) (k0_pay5 (rows u 1024 inb_S1x2048x2048_S1x256x2048_0_1024_0) w))⟩ ::
      ⟨Rect.unit (s := S1x2048x1024) ![0, 1024, 768] ![1, 256, 128] inb_S1x2048x1024_S1x256x128_0_1024_768,
        head 768 slices_S256x1024_o0_768_S256x128 (part (k0_pay4 cw) (k0_pay26 (tail (k0_pay5 (rows u 768 inb_S1x2048x2048_S1x256x2048_0_768_0) w))) (k0_pay5 (rows u 1024 inb_S1x2048x2048_S1x256x2048_0_1024_0) w))⟩ ::
      ⟨Rect.unit (s := S1x2048x1024) ![0, 1024, 640] ![1, 256, 128] inb_S1x2048x1024_S1x256x128_0_1024_640,
        head 640 slices_S256x1024_o0_640_S256x128 (part (k0_pay4 cw) (k0_pay26 (tail (k0_pay5 (rows u 768 inb_S1x2048x2048_S1x256x2048_0_768_0) w))) (k0_pay5 (rows u 1024 inb_S1x2048x2048_S1x256x2048_0_1024_0) w))⟩ ::
      ⟨Rect.unit (s := S1x2048x1024) ![0, 1024, 512] ![1, 256, 128] inb_S1x2048x1024_S1x256x128_0_1024_512,
        head 512 slices_S256x1024_o0_512_S256x128 (part (k0_pay4 cw) (k0_pay26 (tail (k0_pay5 (rows u 768 inb_S1x2048x2048_S1x256x2048_0_768_0) w))) (k0_pay5 (rows u 1024 inb_S1x2048x2048_S1x256x2048_0_1024_0) w))⟩ ::
      ⟨Rect.unit (s := S1x2048x1024) ![0, 1024, 384] ![1, 256, 128] inb_S1x2048x1024_S1x256x128_0_1024_384,
        head 384 slices_S256x1024_o0_384_S256x128 (part (k0_pay4 cw) (k0_pay26 (tail (k0_pay5 (rows u 768 inb_S1x2048x2048_S1x256x2048_0_768_0) w))) (k0_pay5 (rows u 1024 inb_S1x2048x2048_S1x256x2048_0_1024_0) w))⟩ ::
      ⟨Rect.unit (s := S1x2048x1024) ![0, 1024, 256] ![1, 256, 128] inb_S1x2048x1024_S1x256x128_0_1024_256,
        head 256 slices_S256x1024_o0_256_S256x128 (part (k0_pay4 cw) (k0_pay26 (tail (k0_pay5 (rows u 768 inb_S1x2048x2048_S1x256x2048_0_768_0) w))) (k0_pay5 (rows u 1024 inb_S1x2048x2048_S1x256x2048_0_1024_0) w))⟩ ::
      ⟨Rect.unit (s := S1x2048x1024) ![0, 1024, 128] ![1, 256, 128] inb_S1x2048x1024_S1x256x128_0_1024_128,
        head 128 slices_S256x1024_o0_128_S256x128 (part (k0_pay4 cw) (k0_pay26 (tail (k0_pay5 (rows u 768 inb_S1x2048x2048_S1x256x2048_0_768_0) w))) (k0_pay5 (rows u 1024 inb_S1x2048x2048_S1x256x2048_0_1024_0) w))⟩ ::
      ⟨Rect.unit (s := S1x2048x1024) ![0, 1024, 0] ![1, 256, 128] inb_S1x2048x1024_S1x256x128_0_1024_0,
        head 0 slices_S256x1024_o0_0_S256x128 (part (k0_pay4 cw) (k0_pay26 (tail (k0_pay5 (rows u 768 inb_S1x2048x2048_S1x256x2048_0_768_0) w))) (k0_pay5 (rows u 1024 inb_S1x2048x2048_S1x256x2048_0_1024_0) w))⟩ ::
      ⟨Rect.unit (s := S1x2048x1024) ![0, 768, 896] ![1, 256, 128] inb_S1x2048x1024_S1x256x128_0_768_896,
        head 896 slices_S256x1024_o0_896_S256x128 (part (k0_pay4 cw) (k0_pay26 (tail (k0_pay5 (rows u 512 inb_S1x2048x2048_S1x256x2048_0_512_0) w))) (k0_pay5 (rows u 768 inb_S1x2048x2048_S1x256x2048_0_768_0) w))⟩ ::
      ⟨Rect.unit (s := S1x2048x1024) ![0, 768, 768] ![1, 256, 128] inb_S1x2048x1024_S1x256x128_0_768_768,
        head 768 slices_S256x1024_o0_768_S256x128 (part (k0_pay4 cw) (k0_pay26 (tail (k0_pay5 (rows u 512 inb_S1x2048x2048_S1x256x2048_0_512_0) w))) (k0_pay5 (rows u 768 inb_S1x2048x2048_S1x256x2048_0_768_0) w))⟩ ::
      ⟨Rect.unit (s := S1x2048x1024) ![0, 768, 640] ![1, 256, 128] inb_S1x2048x1024_S1x256x128_0_768_640,
        head 640 slices_S256x1024_o0_640_S256x128 (part (k0_pay4 cw) (k0_pay26 (tail (k0_pay5 (rows u 512 inb_S1x2048x2048_S1x256x2048_0_512_0) w))) (k0_pay5 (rows u 768 inb_S1x2048x2048_S1x256x2048_0_768_0) w))⟩ ::
      ⟨Rect.unit (s := S1x2048x1024) ![0, 768, 512] ![1, 256, 128] inb_S1x2048x1024_S1x256x128_0_768_512,
        head 512 slices_S256x1024_o0_512_S256x128 (part (k0_pay4 cw) (k0_pay26 (tail (k0_pay5 (rows u 512 inb_S1x2048x2048_S1x256x2048_0_512_0) w))) (k0_pay5 (rows u 768 inb_S1x2048x2048_S1x256x2048_0_768_0) w))⟩ ::
      ⟨Rect.unit (s := S1x2048x1024) ![0, 768, 384] ![1, 256, 128] inb_S1x2048x1024_S1x256x128_0_768_384,
        head 384 slices_S256x1024_o0_384_S256x128 (part (k0_pay4 cw) (k0_pay26 (tail (k0_pay5 (rows u 512 inb_S1x2048x2048_S1x256x2048_0_512_0) w))) (k0_pay5 (rows u 768 inb_S1x2048x2048_S1x256x2048_0_768_0) w))⟩ ::
      ⟨Rect.unit (s := S1x2048x1024) ![0, 768, 256] ![1, 256, 128] inb_S1x2048x1024_S1x256x128_0_768_256,
        head 256 slices_S256x1024_o0_256_S256x128 (part (k0_pay4 cw) (k0_pay26 (tail (k0_pay5 (rows u 512 inb_S1x2048x2048_S1x256x2048_0_512_0) w))) (k0_pay5 (rows u 768 inb_S1x2048x2048_S1x256x2048_0_768_0) w))⟩ ::
      ⟨Rect.unit (s := S1x2048x1024) ![0, 768, 128] ![1, 256, 128] inb_S1x2048x1024_S1x256x128_0_768_128,
        head 128 slices_S256x1024_o0_128_S256x128 (part (k0_pay4 cw) (k0_pay26 (tail (k0_pay5 (rows u 512 inb_S1x2048x2048_S1x256x2048_0_512_0) w))) (k0_pay5 (rows u 768 inb_S1x2048x2048_S1x256x2048_0_768_0) w))⟩ ::
      ⟨Rect.unit (s := S1x2048x1024) ![0, 768, 0] ![1, 256, 128] inb_S1x2048x1024_S1x256x128_0_768_0,
        head 0 slices_S256x1024_o0_0_S256x128 (part (k0_pay4 cw) (k0_pay26 (tail (k0_pay5 (rows u 512 inb_S1x2048x2048_S1x256x2048_0_512_0) w))) (k0_pay5 (rows u 768 inb_S1x2048x2048_S1x256x2048_0_768_0) w))⟩ ::
      ⟨Rect.unit (s := S1x2048x1024) ![0, 512, 896] ![1, 256, 128] inb_S1x2048x1024_S1x256x128_0_512_896,
        head 896 slices_S256x1024_o0_896_S256x128 (part (k0_pay4 cw) (k0_pay26 (tail (k0_pay5 (rows u 256 inb_S1x2048x2048_S1x256x2048_0_256_0) w))) (k0_pay5 (rows u 512 inb_S1x2048x2048_S1x256x2048_0_512_0) w))⟩ ::
      ⟨Rect.unit (s := S1x2048x1024) ![0, 512, 768] ![1, 256, 128] inb_S1x2048x1024_S1x256x128_0_512_768,
        head 768 slices_S256x1024_o0_768_S256x128 (part (k0_pay4 cw) (k0_pay26 (tail (k0_pay5 (rows u 256 inb_S1x2048x2048_S1x256x2048_0_256_0) w))) (k0_pay5 (rows u 512 inb_S1x2048x2048_S1x256x2048_0_512_0) w))⟩ ::
      ⟨Rect.unit (s := S1x2048x1024) ![0, 512, 640] ![1, 256, 128] inb_S1x2048x1024_S1x256x128_0_512_640,
        head 640 slices_S256x1024_o0_640_S256x128 (part (k0_pay4 cw) (k0_pay26 (tail (k0_pay5 (rows u 256 inb_S1x2048x2048_S1x256x2048_0_256_0) w))) (k0_pay5 (rows u 512 inb_S1x2048x2048_S1x256x2048_0_512_0) w))⟩ ::
      ⟨Rect.unit (s := S1x2048x1024) ![0, 512, 512] ![1, 256, 128] inb_S1x2048x1024_S1x256x128_0_512_512,
        head 512 slices_S256x1024_o0_512_S256x128 (part (k0_pay4 cw) (k0_pay26 (tail (k0_pay5 (rows u 256 inb_S1x2048x2048_S1x256x2048_0_256_0) w))) (k0_pay5 (rows u 512 inb_S1x2048x2048_S1x256x2048_0_512_0) w))⟩ ::
      ⟨Rect.unit (s := S1x2048x1024) ![0, 512, 384] ![1, 256, 128] inb_S1x2048x1024_S1x256x128_0_512_384,
        head 384 slices_S256x1024_o0_384_S256x128 (part (k0_pay4 cw) (k0_pay26 (tail (k0_pay5 (rows u 256 inb_S1x2048x2048_S1x256x2048_0_256_0) w))) (k0_pay5 (rows u 512 inb_S1x2048x2048_S1x256x2048_0_512_0) w))⟩ ::
      ⟨Rect.unit (s := S1x2048x1024) ![0, 512, 256] ![1, 256, 128] inb_S1x2048x1024_S1x256x128_0_512_256,
        head 256 slices_S256x1024_o0_256_S256x128 (part (k0_pay4 cw) (k0_pay26 (tail (k0_pay5 (rows u 256 inb_S1x2048x2048_S1x256x2048_0_256_0) w))) (k0_pay5 (rows u 512 inb_S1x2048x2048_S1x256x2048_0_512_0) w))⟩ ::
      ⟨Rect.unit (s := S1x2048x1024) ![0, 512, 128] ![1, 256, 128] inb_S1x2048x1024_S1x256x128_0_512_128,
        head 128 slices_S256x1024_o0_128_S256x128 (part (k0_pay4 cw) (k0_pay26 (tail (k0_pay5 (rows u 256 inb_S1x2048x2048_S1x256x2048_0_256_0) w))) (k0_pay5 (rows u 512 inb_S1x2048x2048_S1x256x2048_0_512_0) w))⟩ ::
      ⟨Rect.unit (s := S1x2048x1024) ![0, 512, 0] ![1, 256, 128] inb_S1x2048x1024_S1x256x128_0_512_0,
        head 0 slices_S256x1024_o0_0_S256x128 (part (k0_pay4 cw) (k0_pay26 (tail (k0_pay5 (rows u 256 inb_S1x2048x2048_S1x256x2048_0_256_0) w))) (k0_pay5 (rows u 512 inb_S1x2048x2048_S1x256x2048_0_512_0) w))⟩ ::
      ⟨Rect.unit (s := S1x2048x1024) ![0, 256, 896] ![1, 256, 128] inb_S1x2048x1024_S1x256x128_0_256_896,
        head 896 slices_S256x1024_o0_896_S256x128 (part (k0_pay4 cw) (k0_pay26 (tail (k0_pay5 (rows u 0 inb_S1x2048x2048_S1x256x2048_0_0_0) w))) (k0_pay5 (rows u 256 inb_S1x2048x2048_S1x256x2048_0_256_0) w))⟩ ::
      ⟨Rect.unit (s := S1x2048x1024) ![0, 256, 768] ![1, 256, 128] inb_S1x2048x1024_S1x256x128_0_256_768,
        head 768 slices_S256x1024_o0_768_S256x128 (part (k0_pay4 cw) (k0_pay26 (tail (k0_pay5 (rows u 0 inb_S1x2048x2048_S1x256x2048_0_0_0) w))) (k0_pay5 (rows u 256 inb_S1x2048x2048_S1x256x2048_0_256_0) w))⟩ ::
      ⟨Rect.unit (s := S1x2048x1024) ![0, 256, 640] ![1, 256, 128] inb_S1x2048x1024_S1x256x128_0_256_640,
        head 640 slices_S256x1024_o0_640_S256x128 (part (k0_pay4 cw) (k0_pay26 (tail (k0_pay5 (rows u 0 inb_S1x2048x2048_S1x256x2048_0_0_0) w))) (k0_pay5 (rows u 256 inb_S1x2048x2048_S1x256x2048_0_256_0) w))⟩ ::
      ⟨Rect.unit (s := S1x2048x1024) ![0, 256, 512] ![1, 256, 128] inb_S1x2048x1024_S1x256x128_0_256_512,
        head 512 slices_S256x1024_o0_512_S256x128 (part (k0_pay4 cw) (k0_pay26 (tail (k0_pay5 (rows u 0 inb_S1x2048x2048_S1x256x2048_0_0_0) w))) (k0_pay5 (rows u 256 inb_S1x2048x2048_S1x256x2048_0_256_0) w))⟩ ::
      ⟨Rect.unit (s := S1x2048x1024) ![0, 256, 384] ![1, 256, 128] inb_S1x2048x1024_S1x256x128_0_256_384,
        head 384 slices_S256x1024_o0_384_S256x128 (part (k0_pay4 cw) (k0_pay26 (tail (k0_pay5 (rows u 0 inb_S1x2048x2048_S1x256x2048_0_0_0) w))) (k0_pay5 (rows u 256 inb_S1x2048x2048_S1x256x2048_0_256_0) w))⟩ ::
      ⟨Rect.unit (s := S1x2048x1024) ![0, 256, 256] ![1, 256, 128] inb_S1x2048x1024_S1x256x128_0_256_256,
        head 256 slices_S256x1024_o0_256_S256x128 (part (k0_pay4 cw) (k0_pay26 (tail (k0_pay5 (rows u 0 inb_S1x2048x2048_S1x256x2048_0_0_0) w))) (k0_pay5 (rows u 256 inb_S1x2048x2048_S1x256x2048_0_256_0) w))⟩ ::
      ⟨Rect.unit (s := S1x2048x1024) ![0, 256, 128] ![1, 256, 128] inb_S1x2048x1024_S1x256x128_0_256_128,
        head 128 slices_S256x1024_o0_128_S256x128 (part (k0_pay4 cw) (k0_pay26 (tail (k0_pay5 (rows u 0 inb_S1x2048x2048_S1x256x2048_0_0_0) w))) (k0_pay5 (rows u 256 inb_S1x2048x2048_S1x256x2048_0_256_0) w))⟩ ::
      ⟨Rect.unit (s := S1x2048x1024) ![0, 256, 0] ![1, 256, 128] inb_S1x2048x1024_S1x256x128_0_256_0,
        head 0 slices_S256x1024_o0_0_S256x128 (part (k0_pay4 cw) (k0_pay26 (tail (k0_pay5 (rows u 0 inb_S1x2048x2048_S1x256x2048_0_0_0) w))) (k0_pay5 (rows u 256 inb_S1x2048x2048_S1x256x2048_0_256_0) w))⟩ ::
      ⟨Rect.unit (s := S1x2048x1024) ![0, 0, 896] ![1, 256, 128] inb_S1x2048x1024_S1x256x128_0_0_896,
        head 896 slices_S256x1024_o0_896_S256x128 (part (k0_pay4 cw) (k0_pay6 (F := Ideal)) (k0_pay5 (rows u 0 inb_S1x2048x2048_S1x256x2048_0_0_0) w))⟩ ::
      ⟨Rect.unit (s := S1x2048x1024) ![0, 0, 768] ![1, 256, 128] inb_S1x2048x1024_S1x256x128_0_0_768,
        head 768 slices_S256x1024_o0_768_S256x128 (part (k0_pay4 cw) (k0_pay6 (F := Ideal)) (k0_pay5 (rows u 0 inb_S1x2048x2048_S1x256x2048_0_0_0) w))⟩ ::
      ⟨Rect.unit (s := S1x2048x1024) ![0, 0, 640] ![1, 256, 128] inb_S1x2048x1024_S1x256x128_0_0_640,
        head 640 slices_S256x1024_o0_640_S256x128 (part (k0_pay4 cw) (k0_pay6 (F := Ideal)) (k0_pay5 (rows u 0 inb_S1x2048x2048_S1x256x2048_0_0_0) w))⟩ ::
      ⟨Rect.unit (s := S1x2048x1024) ![0, 0, 512] ![1, 256, 128] inb_S1x2048x1024_S1x256x128_0_0_512,
        head 512 slices_S256x1024_o0_512_S256x128 (part (k0_pay4 cw) (k0_pay6 (F := Ideal)) (k0_pay5 (rows u 0 inb_S1x2048x2048_S1x256x2048_0_0_0) w))⟩ ::
      ⟨Rect.unit (s := S1x2048x1024) ![0, 0, 384] ![1, 256, 128] inb_S1x2048x1024_S1x256x128_0_0_384,
        head 384 slices_S256x1024_o0_384_S256x128 (part (k0_pay4 cw) (k0_pay6 (F := Ideal)) (k0_pay5 (rows u 0 inb_S1x2048x2048_S1x256x2048_0_0_0) w))⟩ ::
      ⟨Rect.unit (s := S1x2048x1024) ![0, 0, 256] ![1, 256, 128] inb_S1x2048x1024_S1x256x128_0_0_256,
        head 256 slices_S256x1024_o0_256_S256x128 (part (k0_pay4 cw) (k0_pay6 (F := Ideal)) (k0_pay5 (rows u 0 inb_S1x2048x2048_S1x256x2048_0_0_0) w))⟩ ::
      ⟨Rect.unit (s := S1x2048x1024) ![0, 0, 128] ![1, 256, 128] inb_S1x2048x1024_S1x256x128_0_0_128,
        head 128 slices_S256x1024_o0_128_S256x128 (part (k0_pay4 cw) (k0_pay6 (F := Ideal)) (k0_pay5 (rows u 0 inb_S1x2048x2048_S1x256x2048_0_0_0) w))⟩ ::
      ⟨Rect.unit (s := S1x2048x1024) ![0, 0, 0] ![1, 256, 128] inb_S1x2048x1024_S1x256x128_0_0_0,
        head 0 slices_S256x1024_o0_0_S256x128 (part (k0_pay4 cw) (k0_pay6 (F := Ideal)) (k0_pay5 (rows u 0 inb_S1x2048x2048_S1x256x2048_0_0_0) w))⟩ :: []) = out u w cw := by
  funext y
  refine View.canon_apply_of_pieces (Val := Elt Ideal) (e := .bf16) (out u w cw) _ ?_ y (View.cover_of_tiled_head _ _ _ (by sl_kernel_rfl) y)
  refine more _ _ _ _ (fun x => later u w cw 1792 1536 _ _ rfl 896 7 rfl _ x _ (emb_row 1792 896 _ x) (emb_lane 1792 896 _ x)) ?_
  refine more _ _ _ _ (fun x => later u w cw 1792 1536 _ _ rfl 768 6 rfl _ x _ (emb_row 1792 768 _ x) (emb_lane 1792 768 _ x)) ?_
  refine more _ _ _ _ (fun x => later u w cw 1792 1536 _ _ rfl 640 5 rfl _ x _ (emb_row 1792 640 _ x) (emb_lane 1792 640 _ x)) ?_
  refine more _ _ _ _ (fun x => later u w cw 1792 1536 _ _ rfl 512 4 rfl _ x _ (emb_row 1792 512 _ x) (emb_lane 1792 512 _ x)) ?_
  refine more _ _ _ _ (fun x => later u w cw 1792 1536 _ _ rfl 384 3 rfl _ x _ (emb_row 1792 384 _ x) (emb_lane 1792 384 _ x)) ?_
  refine more _ _ _ _ (fun x => later u w cw 1792 1536 _ _ rfl 256 2 rfl _ x _ (emb_row 1792 256 _ x) (emb_lane 1792 256 _ x)) ?_
  refine more _ _ _ _ (fun x => later u w cw 1792 1536 _ _ rfl 128 1 rfl _ x _ (emb_row 1792 128 _ x) (emb_lane 1792 128 _ x)) ?_
  refine more _ _ _ _ (fun x => later u w cw 1792 1536 _ _ rfl 0 0 rfl _ x _ (emb_row 1792 0 _ x) (emb_lane 1792 0 _ x)) ?_
  refine more _ _ _ _ (fun x => later u w cw 1536 1280 _ _ rfl 896 7 rfl _ x _ (emb_row 1536 896 _ x) (emb_lane 1536 896 _ x)) ?_
  refine more _ _ _ _ (fun x => later u w cw 1536 1280 _ _ rfl 768 6 rfl _ x _ (emb_row 1536 768 _ x) (emb_lane 1536 768 _ x)) ?_
  refine more _ _ _ _ (fun x => later u w cw 1536 1280 _ _ rfl 640 5 rfl _ x _ (emb_row 1536 640 _ x) (emb_lane 1536 640 _ x)) ?_
  refine more _ _ _ _ (fun x => later u w cw 1536 1280 _ _ rfl 512 4 rfl _ x _ (emb_row 1536 512 _ x) (emb_lane 1536 512 _ x)) ?_
  refine more _ _ _ _ (fun x => later u w cw 1536 1280 _ _ rfl 384 3 rfl _ x _ (emb_row 1536 384 _ x) (emb_lane 1536 384 _ x)) ?_
  refine more _ _ _ _ (fun x => later u w cw 1536 1280 _ _ rfl 256 2 rfl _ x _ (emb_row 1536 256 _ x) (emb_lane 1536 256 _ x)) ?_
  refine more _ _ _ _ (fun x => later u w cw 1536 1280 _ _ rfl 128 1 rfl _ x _ (emb_row 1536 128 _ x) (emb_lane 1536 128 _ x)) ?_
  refine more _ _ _ _ (fun x => later u w cw 1536 1280 _ _ rfl 0 0 rfl _ x _ (emb_row 1536 0 _ x) (emb_lane 1536 0 _ x)) ?_
  refine more _ _ _ _ (fun x => later u w cw 1280 1024 _ _ rfl 896 7 rfl _ x _ (emb_row 1280 896 _ x) (emb_lane 1280 896 _ x)) ?_
  refine more _ _ _ _ (fun x => later u w cw 1280 1024 _ _ rfl 768 6 rfl _ x _ (emb_row 1280 768 _ x) (emb_lane 1280 768 _ x)) ?_
  refine more _ _ _ _ (fun x => later u w cw 1280 1024 _ _ rfl 640 5 rfl _ x _ (emb_row 1280 640 _ x) (emb_lane 1280 640 _ x)) ?_
  refine more _ _ _ _ (fun x => later u w cw 1280 1024 _ _ rfl 512 4 rfl _ x _ (emb_row 1280 512 _ x) (emb_lane 1280 512 _ x)) ?_
  refine more _ _ _ _ (fun x => later u w cw 1280 1024 _ _ rfl 384 3 rfl _ x _ (emb_row 1280 384 _ x) (emb_lane 1280 384 _ x)) ?_
  refine more _ _ _ _ (fun x => later u w cw 1280 1024 _ _ rfl 256 2 rfl _ x _ (emb_row 1280 256 _ x) (emb_lane 1280 256 _ x)) ?_
  refine more _ _ _ _ (fun x => later u w cw 1280 1024 _ _ rfl 128 1 rfl _ x _ (emb_row 1280 128 _ x) (emb_lane 1280 128 _ x)) ?_
  refine more _ _ _ _ (fun x => later u w cw 1280 1024 _ _ rfl 0 0 rfl _ x _ (emb_row 1280 0 _ x) (emb_lane 1280 0 _ x)) ?_
  refine more _ _ _ _ (fun x => later u w cw 1024 768 _ _ rfl 896 7 rfl _ x _ (emb_row 1024 896 _ x) (emb_lane 1024 896 _ x)) ?_
  refine more _ _ _ _ (fun x => later u w cw 1024 768 _ _ rfl 768 6 rfl _ x _ (emb_row 1024 768 _ x) (emb_lane 1024 768 _ x)) ?_
  refine more _ _ _ _ (fun x => later u w cw 1024 768 _ _ rfl 640 5 rfl _ x _ (emb_row 1024 640 _ x) (emb_lane 1024 640 _ x)) ?_
  refine more _ _ _ _ (fun x => later u w cw 1024 768 _ _ rfl 512 4 rfl _ x _ (emb_row 1024 512 _ x) (emb_lane 1024 512 _ x)) ?_
  refine more _ _ _ _ (fun x => later u w cw 1024 768 _ _ rfl 384 3 rfl _ x _ (emb_row 1024 384 _ x) (emb_lane 1024 384 _ x)) ?_
  refine more _ _ _ _ (fun x => later u w cw 1024 768 _ _ rfl 256 2 rfl _ x _ (emb_row 1024 256 _ x) (emb_lane 1024 256 _ x)) ?_
  refine more _ _ _ _ (fun x => later u w cw 1024 768 _ _ rfl 128 1 rfl _ x _ (emb_row 1024 128 _ x) (emb_lane 1024 128 _ x)) ?_
  refine more _ _ _ _ (fun x => later u w cw 1024 768 _ _ rfl 0 0 rfl _ x _ (emb_row 1024 0 _ x) (emb_lane 1024 0 _ x)) ?_
  refine more _ _ _ _ (fun x => later u w cw 768 512 _ _ rfl 896 7 rfl _ x _ (emb_row 768 896 _ x) (emb_lane 768 896 _ x)) ?_
  refine more _ _ _ _ (fun x => later u w cw 768 512 _ _ rfl 768 6 rfl _ x _ (emb_row 768 768 _ x) (emb_lane 768 768 _ x)) ?_
  refine more _ _ _ _ (fun x => later u w cw 768 512 _ _ rfl 640 5 rfl _ x _ (emb_row 768 640 _ x) (emb_lane 768 640 _ x)) ?_
  refine more _ _ _ _ (fun x => later u w cw 768 512 _ _ rfl 512 4 rfl _ x _ (emb_row 768 512 _ x) (emb_lane 768 512 _ x)) ?_
  refine more _ _ _ _ (fun x => later u w cw 768 512 _ _ rfl 384 3 rfl _ x _ (emb_row 768 384 _ x) (emb_lane 768 384 _ x)) ?_
  refine more _ _ _ _ (fun x => later u w cw 768 512 _ _ rfl 256 2 rfl _ x _ (emb_row 768 256 _ x) (emb_lane 768 256 _ x)) ?_
  refine more _ _ _ _ (fun x => later u w cw 768 512 _ _ rfl 128 1 rfl _ x _ (emb_row 768 128 _ x) (emb_lane 768 128 _ x)) ?_
  refine more _ _ _ _ (fun x => later u w cw 768 512 _ _ rfl 0 0 rfl _ x _ (emb_row 768 0 _ x) (emb_lane 768 0 _ x)) ?_
  refine more _ _ _ _ (fun x => later u w cw 512 256 _ _ rfl 896 7 rfl _ x _ (emb_row 512 896 _ x) (emb_lane 512 896 _ x)) ?_
  refine more _ _ _ _ (fun x => later u w cw 512 256 _ _ rfl 768 6 rfl _ x _ (emb_row 512 768 _ x) (emb_lane 512 768 _ x)) ?_
  refine more _ _ _ _ (fun x => later u w cw 512 256 _ _ rfl 640 5 rfl _ x _ (emb_row 512 640 _ x) (emb_lane 512 640 _ x)) ?_
  refine more _ _ _ _ (fun x => later u w cw 512 256 _ _ rfl 512 4 rfl _ x _ (emb_row 512 512 _ x) (emb_lane 512 512 _ x)) ?_
  refine more _ _ _ _ (fun x => later u w cw 512 256 _ _ rfl 384 3 rfl _ x _ (emb_row 512 384 _ x) (emb_lane 512 384 _ x)) ?_
  refine more _ _ _ _ (fun x => later u w cw 512 256 _ _ rfl 256 2 rfl _ x _ (emb_row 512 256 _ x) (emb_lane 512 256 _ x)) ?_
  refine more _ _ _ _ (fun x => later u w cw 512 256 _ _ rfl 128 1 rfl _ x _ (emb_row 512 128 _ x) (emb_lane 512 128 _ x)) ?_
  refine more _ _ _ _ (fun x => later u w cw 512 256 _ _ rfl 0 0 rfl _ x _ (emb_row 512 0 _ x) (emb_lane 512 0 _ x)) ?_
  refine more _ _ _ _ (fun x => later u w cw 256 0 _ _ rfl 896 7 rfl _ x _ (emb_row 256 896 _ x) (emb_lane 256 896 _ x)) ?_
  refine more _ _ _ _ (fun x => later u w cw 256 0 _ _ rfl 768 6 rfl _ x _ (emb_row 256 768 _ x) (emb_lane 256 768 _ x)) ?_
  refine more _ _ _ _ (fun x => later u w cw 256 0 _ _ rfl 640 5 rfl _ x _ (emb_row 256 640 _ x) (emb_lane 256 640 _ x)) ?_
  refine more _ _ _ _ (fun x => later u w cw 256 0 _ _ rfl 512 4 rfl _ x _ (emb_row 256 512 _ x) (emb_lane 256 512 _ x)) ?_
  refine more _ _ _ _ (fun x => later u w cw 256 0 _ _ rfl 384 3 rfl _ x _ (emb_row 256 384 _ x) (emb_lane 256 384 _ x)) ?_
  refine more _ _ _ _ (fun x => later u w cw 256 0 _ _ rfl 256 2 rfl _ x _ (emb_row 256 256 _ x) (emb_lane 256 256 _ x)) ?_
  refine more _ _ _ _ (fun x => later u w cw 256 0 _ _ rfl 128 1 rfl _ x _ (emb_row 256 128 _ x) (emb_lane 256 128 _ x)) ?_
  refine more _ _ _ _ (fun x => later u w cw 256 0 _ _ rfl 0 0 rfl _ x _ (emb_row 256 0 _ x) (emb_lane 256 0 _ x)) ?_
  refine more _ _ _ _ (fun x => first u w cw _ 896 7 rfl _ x _ (emb_row 0 896 _ x) (emb_lane 0 896 _ x)) ?_
  refine more _ _ _ _ (fun x => first u w cw _ 768 6 rfl _ x _ (emb_row 0 768 _ x) (emb_lane 0 768 _ x)) ?_
  refine more _ _ _ _ (fun x => first u w cw _ 640 5 rfl _ x _ (emb_row 0 640 _ x) (emb_lane 0 640 _ x)) ?_
  refine more _ _ _ _ (fun x => first u w cw _ 512 4 rfl _ x _ (emb_row 0 512 _ x) (emb_lane 0 512 _ x)) ?_
  refine more _ _ _ _ (fun x => first u w cw _ 384 3 rfl _ x _ (emb_row 0 384 _ x) (emb_lane 0 384 _ x)) ?_
  refine more _ _ _ _ (fun x => first u w cw _ 256 2 rfl _ x _ (emb_row 0 256 _ x) (emb_lane 0 256 _ x)) ?_
  refine more _ _ _ _ (fun x => first u w cw _ 128 1 rfl _ x _ (emb_row 0 128 _ x) (emb_lane 0 128 _ x)) ?_
  refine more _ _ _ _ (fun x => first u w cw _ 0 0 rfl _ x _ (emb_row 0 0 _ x) (emb_lane 0 0 _ x)) ?_
  exact List.forall_mem_nil _

set_option maxRecDepth 200000 in
set_option maxHeartbeats 8000000 in
/-- What every point stores. -/
theorem stored (c : Dev nD) (t : Fin cfg0.N) :
    (outsAt0 m c t.val t.isLt).1 = out (iblk m c 0 t) (cols m c (t.val / 4)) (iblk m c 2 t) := by
  by_cases h : t.val % 4 = 0
  · rw [outsAt0_A m c t h]
    frame_out
    simp (disch := decide) only [↓View.readCov_cons_toLoadRect, ↓View.readCov_skip, ↓read_tap, ↓read_tail]
    rw [pay3]
    exact tiles _ _ _
  · rw [outsAt0_B m c t h]
    frame_out
    simp (disch := decide) only [↓View.readCov_cons_toLoadRect, ↓View.readCov_skip, ↓read_tap, ↓read_tail]
    rw [read_unread_whole, kept, run_number h]
    exact tiles _ _ _

/-- The array: the reference's own. -/
abbrev target (c : Dev nD) : S4x2048x4096.Idx → EReal :=
  Cert.QkRefIdeal.Read.val_main_v47 (F := Ideal) (m ((c : Thread nD τ).loc main_arg0)) (m ((c : Thread nD τ).loc main_arg1))
    (m ((c : Thread nD τ).loc main_arg2))

/-- An entry of the reference's array before the norm. -/
def refVal (x0 : S4x2048x2048.Idx → EReal) (x1 : S2x2048x26704.Idx → EReal) (x2 : S2x4x6144.Idx → EReal) (b : Fin 4) (r : Fin 2048) (n : Fin 4096) : EReal :=
  silu (conv (fun k => x2 (ix3 (0 : Fin 2) k (⟨n.val, by omega⟩ : Fin 6144))) (P x0 x1 b r (⟨6144 + n.val, by omega⟩ : Fin 26704))
    (BR x0 x1 1 b r (⟨6144 + n.val, by omega⟩ : Fin 26704)) (BR x0 x1 2 b r (⟨6144 + n.val, by omega⟩ : Fin 26704)) (BR x0 x1 3 b r (⟨6144 + n.val, by omega⟩ : Fin 26704)))

open Cert.QkRefIdeal.Read in
/-- The reference's four rows, weighted and added. -/
theorem ref_conv (x0 : Vec Ideal S4x2048x2048 .bf16) (x1 : Vec Ideal S2x2048x26704 .f32) (x2 : Vec Ideal S2x4x6144 .f32) (i : S4x2048x4096.Idx) (n : Fin 26704)
    (hn : n.val = 6144 + (i 2).val) (n' : Fin 6144) (hn' : n'.val = (i 2).val) :
    val_main_v35 (F := Ideal) x0 x1 x2 i = conv (fun k => (x2 : S2x4x6144.Idx → EReal) (ix3 (0 : Fin 2) k n')) (P x0 x1 (i 0) (i 1) n) (BR x0 x1 1 (i 0) (i 1) n)
      (BR x0 x1 2 (i 0) (i 1) n) (BR x0 x1 3 (i 0) (i 1) n) := by
  have hi : (i 2).val < 4096 := (i 2).isLt
  obtain rfl : n = (⟨6144 + (i 2).val, Nat.lt_of_lt_of_le (Nat.add_lt_add_left hi _) (by decide)⟩ : Fin 26704) := Fin.ext hn
  obtain rfl : n' = (⟨(i 2).val, Nat.lt_of_lt_of_le hi (by decide)⟩ : Fin 6144) := Fin.ext hn'
  rw [← pad_row x0 x1 (i 0) (i 1) _ 3 0 rfl, ← pad_row x0 x1 (i 0) (i 1) _ 2 1 rfl, ← pad_row x0 x1 (i 0) (i 1) _ 1 2 rfl]
  unfold conv
  refine Eq.trans ?_ (turn _ _ _ _)
  simp only [zero_add]
  pointwise [val_main_v35, val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3, val_main_v2,
    val_main_v1, val_main_v0, val_main_c, val_main_call0_v0, P]

open Cert.QkRefIdeal.Read in
/-- The reference's array before the norm. -/
theorem ref_silu (x0 : Vec Ideal S4x2048x2048 .bf16) (x1 : Vec Ideal S2x2048x26704 .f32) (x2 : Vec Ideal S2x4x6144 .f32) (i : S4x2048x4096.Idx) :
    val_main_v36 (F := Ideal) x0 x1 x2 i = refVal x0 x1 x2 (i 0) (i 1) (i 2) := by
  have hs : val_main_v36 (F := Ideal) x0 x1 x2 i = silu (val_main_v35 (F := Ideal) x0 x1 x2 i) := by
    unfold val_main_v36 val_main_call1_v5 val_main_call1_v3 val_main_call1_v1 val_main_call1_v0
    generalize val_main_v35 (F := Ideal) x0 x1 x2 = z
    pointwise [val_main_call1_v4, val_main_call1_v2, val_main_call1_cst, val_main_call1_cst_0, silu]
  exact hs.trans (congrArg silu (ref_conv x0 x1 x2 i _ rfl _ rfl))

open Cert.QkRefIdeal.Read in
/-- An entry of the heads' array, in the array of all columns. -/
theorem head_col (b : Fin 4) (r : Fin 2048) (h : Fin 32) (l : Fin 128) (n : Fin 4096) (hn : n.val = h.val * 128 + l.val) :
    idx_main_v37 (ix4 b r h l) = ix3 b r n := by
  have e (a : ℕ) (ha : a = ((b.val * 2048 + r.val) * 32 + h.val) * 128 + l.val) : a / 8388608 = b.val ∧ a / 4096 % 2048 = r.val ∧ a % 4096 = n.val := by
    subst ha
    refine ⟨?_, ?_, ?_⟩ <;> omega
  obtain ⟨e0, e1, e2⟩ := e _ rfl
  funext a
  fin_cases a
  · exact Fin.ext e0
  · exact Fin.ext e1
  · exact Fin.ext e2

open Cert.QkRefIdeal.Read in
/-- A column's head and its place there. -/
theorem col_head (b : Fin 4) (r : Fin 2048) (n : Fin 4096) :
    idx_main_v46 (ix3 b r n) = ix4 b r (⟨n.val / 128, by omega⟩ : Fin 32) (⟨n.val % 128, Nat.mod_lt _ (by decide)⟩ : Fin 128) := by
  have e (a : ℕ) (ha : a = (b.val * 2048 + r.val) * 4096 + n.val) :
      a / 8388608 = b.val ∧ a / 4096 % 2048 = r.val ∧ a / 128 % 32 = n.val / 128 ∧ a % 128 = n.val % 128 := by
    subst ha
    refine ⟨?_, ?_, ?_, ?_⟩ <;> omega
  obtain ⟨e0, e1, e2, e3⟩ := e _ rfl
  funext a
  fin_cases a
  · exact Fin.ext e0
  · exact Fin.ext e1
  · exact Fin.ext e2
  · exact Fin.ext e3

open Cert.QkRefIdeal.Read in
/-- Where a column is read. -/
theorem at_col (b : Fin 4) (r : Fin 2048) (n : Fin 4096) : idx_main_v37 (idx_main_v46 (ix3 b r n)) = ix3 b r n :=
  (congrArg idx_main_v37 (col_head b r n)).trans (head_col _ _ _ _ n (by show n.val = n.val / 128 * 128 + n.val % 128; omega))

open Cert.QkRefIdeal.Read in
/-- Where a column's head is read. -/
theorem at_head (b : Fin 4) (r : Fin 2048) (n : Fin 4096) (k : Fin 128) (q : Fin 4096) (hq : q.val = n.val / 128 * 128 + k.val) :
    idx_main_v37 (idx_main_v39 (idx_main_v40 (idx_main_v44 (idx_main_v46 (ix3 b r n)))) k) = ix3 b r q := by
  have e (j : Cert.QkRefIdeal.S4x2048x32x128.Idx) (h : Fin 32) (l : Fin 128) (hj : j = ix4 b r h l) : idx_main_v39 (idx_main_v40 (idx_main_v44 j)) k = ix4 b r h k := by
    subst hj
    funext a
    fin_cases a <;> rfl
  exact (congrArg idx_main_v37 (e _ _ _ (col_head b r n))).trans (head_col b r (⟨n.val / 128, by omega⟩ : Fin 32) k q hq)

open Cert.QkRefIdeal.Read in
/-- The reference's norm of every head, from where its entries are read. -/
theorem norm_at (x0 : Vec Ideal S4x2048x2048 .bf16) (x1 : Vec Ideal S2x2048x26704 .f32) (x2 : Vec Ideal S2x4x6144 .f32) (i : S4x2048x4096.Idx) (j : Cert.QkRefIdeal.S4x2048x32x128.Idx)
    (hj : idx_main_v46 i = j) :
    val_main_v47 (F := Ideal) x0 x1 x2 i = over (val_main_v36 (F := Ideal) x0 x1 x2 (idx_main_v37 j))
      fun k => val_main_v36 (F := Ideal) x0 x1 x2 (idx_main_v37 (idx_main_v39 (idx_main_v40 (idx_main_v44 j)) k)) := by
  have sq (k : Cert.QkRefIdeal.S4x2048x32x128.Idx) : val_main_v38 (F := Ideal) x0 x1 x2 k
      = val_main_v36 (F := Ideal) x0 x1 x2 (idx_main_v37 k) * val_main_v36 (F := Ideal) x0 x1 x2 (idx_main_v37 k) := by
    rw [val_main_v38_apply, val_main_v37_apply]
    generalize val_main_v36 (F := Ideal) x0 x1 x2 (idx_main_v37 k) = a
    rfl
  have sum := Finset.sum_congr (s₁ := Finset.univ) rfl fun (k : Fin 128) _ => sq (idx_main_v39 (idx_main_v40 (idx_main_v44 j)) k)
  rw [val_main_v47_apply, val_main_v46_apply, hj, val_main_v45_apply, val_main_v37_apply, val_main_v44_apply, val_main_v43_apply, val_main_v42_apply, val_main_v41_apply, val_main_v40_apply,
    val_main_v39_apply, sum]
  unfold over
  generalize (∑ k : Fin 128, val_main_v36 (F := Ideal) x0 x1 x2 (idx_main_v37 (idx_main_v39 (idx_main_v40 (idx_main_v44 j)) k))
    * val_main_v36 (F := Ideal) x0 x1 x2 (idx_main_v37 (idx_main_v39 (idx_main_v40 (idx_main_v44 j)) k))) = z
  generalize val_main_v36 (F := Ideal) x0 x1 x2 (idx_main_v37 j) = a
  generalize idx_main_v41 (idx_main_v44 j) = j'
  pointwise [val_main_cst, val_main_cst_0]

open Cert.QkRefIdeal.Read in
/-- The reference's norm of every head, at one entry. -/
theorem ref_head (x0 : Vec Ideal S4x2048x2048 .bf16) (x1 : Vec Ideal S2x2048x26704 .f32) (x2 : Vec Ideal S2x4x6144 .f32) (b : Fin 4) (r : Fin 2048) (n : Fin 4096) :
    val_main_v47 (F := Ideal) x0 x1 x2 (ix3 b r n) = over (val_main_v36 (F := Ideal) x0 x1 x2 (ix3 b r n))
      fun k => val_main_v36 (F := Ideal) x0 x1 x2 (ix3 b r (⟨n.val / 128 * 128 + k.val, by omega⟩ : Fin 4096)) :=
  (norm_at x0 x1 x2 _ _ rfl).trans (congr (congrArg over (congrArg _ (at_col b r n))) (funext fun k => congrArg _ (at_head b r n k _ rfl)))

open Cert.QkRefIdeal.Read in
/-- The reference's norm of every head. -/
theorem ref_norm (x0 : Vec Ideal S4x2048x2048 .bf16) (x1 : Vec Ideal S2x2048x26704 .f32) (x2 : Vec Ideal S2x4x6144 .f32) (i : S4x2048x4096.Idx) :
    val_main_v47 (F := Ideal) x0 x1 x2 i = over (val_main_v36 (F := Ideal) x0 x1 x2 i)
      fun k => val_main_v36 (F := Ideal) x0 x1 x2 (ix3 (i 0) (i 1) (⟨(i 2).val / 128 * 128 + k.val, by have := (i 2).isLt; change _ < 4096 at this; omega⟩ : Fin 4096)) :=
  (congrArg _ (eq_ix3 i)).trans ((ref_head x0 x1 x2 (i 0) (i 1) (i 2)).trans (congrArg (fun j => over (val_main_v36 (F := Ideal) x0 x1 x2 j) _) (eq_ix3 i).symm))

theorem X_eq (c : Dev nD) (t : Fin cfg0.N) (q : Fin 2048) (n : Fin 1024) (b : Fin 4) (e0 : b.val = t.val % 4) (col : Fin 26704)
    (ec : col.val = 6144 + 1024 * (t.val / 4) + n.val) :
    X (iblk m c 0 t) (cols m c (t.val / 4)) q n
      = P (m ((c : Thread nD τ).loc main_arg0)) (m ((c : Thread nD τ).loc main_arg1)) b q col := by
  have := (idx t).1
  pointwise [X, P, cols]
  blk_point [iblk, V, idx t]

theorem val_eq (c : Dev nD) (t : Fin cfg0.N) (q : Fin 2048) (n : Fin 1024) (b : Fin 4) (e0 : b.val = t.val % 4) (ch : Fin 4096) (ec : ch.val = 1024 * (t.val / 4) + n.val) :
    val (iblk m c 0 t) (cols m c (t.val / 4)) (iblk m c 2 t) q n
      = refVal (m ((c : Thread nD τ).loc main_arg0)) (m ((c : Thread nD τ).loc main_arg1)) (m ((c : Thread nD τ).loc main_arg2)) b q ch := by
  have hj := (idx t).1
  have hx (r : Fin 2048) := X_eq m c t r n b e0 (⟨6144 + ch.val, by omega⟩ : Fin 26704) (by dsimp only; omega)
  have hw (k : Fin 4) : iblk m c 2 t (ix2 k n) = (m ((c : Thread nD τ).loc main_arg2) : S2x4x6144.Idx → EReal) (ix3 (0 : Fin 2) k (⟨ch.val, by omega⟩ : Fin 6144)) := by
    blk_point [iblk, V, idx t]
  have hb (k : ℕ) (r : Fin 2048) : B (iblk m c 0 t) (cols m c (t.val / 4)) k r n
      = BR (m ((c : Thread nD τ).loc main_arg0)) (m ((c : Thread nD τ).loc main_arg1)) k b r (⟨6144 + ch.val, by omega⟩ : Fin 26704) := by
    unfold B BR
    split_ifs with h
    · rfl
    · exact hx _
  exact combine (funext hw) (hx _) (hb 1 _) (hb 2 _) (hb 3 _)

theorem point (c : Dev nD) (t : Fin cfg0.N) (y : S1x2048x1024.Idx) (i : S4x2048x4096.Idx) (e0 : (i 0).val = t.val % 4) (e1 : i 1 = y 1)
    (e2 : (i 2).val = 1024 * (t.val / 4) + (y 2).val) :
    out (iblk m c 0 t) (cols m c (t.val / 4)) (iblk m c 2 t) y = target m c i := by
  have hj := (idx t).1
  have hy : (y 2).val < 1024 := (y 2).isLt
  rw [target, ref_norm, ref_silu]
  unfold out normed
  refine congr (congrArg over ((val_eq m c t (y 1) (y 2) (i 0) e0 (i 2) e2).trans (congrArg (fun r => refVal _ _ _ (i 0) r (i 2)) e1.symm))) (funext fun k => ?_)
  rw [ref_silu]
  refine (val_eq m c t (y 1) _ (i 0) e0 _ ?_).trans (congrArg (fun r => refVal _ _ _ (i 0) r _) e1.symm)
  show (i 2).val / 128 * 128 + k.val = 1024 * (t.val / 4) + (128 * ((y 2).val / 128) + k.val)
  omega

/-- The array after the run. -/
theorem final (c : Dev nD) : (dats m 0 c).arrAt 3 (cfgs 0).N = target m c := by
  refine (dats m 0 c).arrAt_eq_of_covers 3 _ (by decide +kernel) fun t hfl y => ?_
  blk_simp
  rw [after0_3, stored]
  exact point m c t _ _ (by blk_simp [idx t] <;> omega) (Fin.ext (by blk_simp [idx t] <;> omega)) (by blk_simp [idx t] <;> omega)

end Cert.QkIdeal.Value
end
-- ==== Proof.ModulateValue.lean ====
/- The first modulation: the kernel's and the reference's array over the extended reals. -/
module
public import proofs.«01_k».proof.Proof.Gen.ModulateIdeal.Value
public import proofs.«01_k».proof.Proof.Gen.ModulateRefIdeal.Read
public import Idealize.ShloMosaic.Lib.Pipeline.ValueKit
public import Idealize.ShloMosaic.Lib.Pipeline.ReadBack
public import Idealize.ShloMosaic.PureOps.Ideal.Laws
public import proofs.«01_k».proof.Proof.Carry
@[expose] public section
set_option maxRecDepth 16384
noncomputable section

open Idealize.ShloMosaic Idealize.ShloMosaic.TcCoe Idealize.SL.Sem
open Idealize.ShloMosaic.Pipeline (Dat)
namespace Cert.ModulateIdeal.Value
open Cert.ModulateIdeal Cert.ModulateIdeal.Gen
open Cert.ModulateRefIdeal.Read
open scoped BigOperators

variable (m : (ℓ : Loc nD τ sig) → Buf (Elt Ideal) ℓ)

/-- The blocks of every window. -/
theorem idx : ∀ t : Fin cfg0.N, t.val < 16 ∧ win0_0.index t = ![t.val / 4, t.val % 4, 0] ∧ win0_1.index t = ![t.val / 4, 0, 0]
    ∧ win0_2.index t = ![t.val / 4, 0, 0] ∧ win0_3.index t = ![t.val / 4, t.val % 4, 0] :=
  (by decide +kernel : ∀ t : Fin grid0.N, _)

/-- The reference's array over the kernel's arguments. -/
abbrev target (c : Dev nD) : S4x2048x2048.Idx → EReal :=
  val_main_v6 (F := Ideal) (m ((c : Thread nD τ).loc main_arg0)) (m ((c : Thread nD τ).loc main_arg1)) (m ((c : Thread nD τ).loc main_arg2))

theorem point (c : Dev nD) (t : Fin cfg0.N) (y : S1x512x2048.Idx) (i : S4x2048x2048.Idx) (e0 : (i 0).val = t.val / 4)
    (e1 : (i 1).val = 512 * (t.val % 4) + (y 1).val) (e2 : (i 2).val = (y 2).val) :
    k0_pay1 (iblk m c 0 t) (iblk m c 1 t) (iblk m c 2 t) y = target m c i := by
  have hy : (y 0).val < 1 := (y 0).isLt
  pointwise [k0_pay1, target, val_main_v0, val_main_v1, val_main_v2, val_main_v3, val_main_v4, val_main_v5, val_main_v6, val_main_cst]
  blk_point [iblk, V, idx t]

/-- The array after the run. -/
theorem final (c : Dev nD) : (dats m 0 c).arrAt 3 (cfgs 0).N = target m c := by
  refine (dats m 0 c).arrAt_eq_of_covers 3 _ (by decide +kernel) fun t hfl y => ?_
  blk_simp
  rw [after0_3]
  frame_out
  exact point m c t _ _ (by blk_simp [idx t] <;> omega) (by blk_simp [idx t] <;> omega) (by blk_simp [idx t] <;> omega)

end Cert.ModulateIdeal.Value
end
-- ==== Proof.SmallProjValue.lean ====
/- The logits of the two mixers' gates: the kernel's and the reference's array over the extended reals. -/
module
public import proofs.«01_k».proof.Proof.Gen.SmallProjIdeal.Value
public import proofs.«01_k».proof.Proof.Gen.SmallProjRefIdeal.Read
public import Idealize.ShloMosaic.Lib.Pipeline.ValueKit
public import Idealize.ShloMosaic.Lib.Pipeline.ReadBack
public import Idealize.ShloMosaic.PureOps.Ideal.Laws
public import proofs.«01_k».proof.Proof.Carry
@[expose] public section
set_option maxRecDepth 16384
noncomputable section

open Idealize.ShloMosaic Idealize.ShloMosaic.TcCoe Idealize.SL.Sem
open Idealize.ShloMosaic.Pipeline (Dat)
namespace Cert.SmallProjIdeal.Value
open Cert.SmallProjIdeal Cert.SmallProjIdeal.Gen
open Cert.SmallProjRefIdeal.Read
open scoped BigOperators

variable (m : (ℓ : Loc nD τ sig) → Buf (Elt Ideal) ℓ)

/-- The blocks of every window. -/
theorem idx : ∀ t : Fin cfg0.N, t.val < 4 ∧ win0_0.index t = ![t.val, 0] ∧ win0_1.index t = ![0, 224, 0]
    ∧ win0_2.index t = ![0, 1284, 0] ∧ win0_3.index t = ![t.val, 0] :=
  (by decide +kernel : ∀ t : Fin grid0.N, _)

/-- A row of the kept weight: the two parts of the whole weight's columns, then zeros. -/
def rows (c : Dev nD) : Vec Ideal S128x2048 .bf16 := fun x =>
  if h : (x 0).val < 64 then (m ((c : Thread nD τ).loc main_arg1) : S2x2048x26704.Idx → EReal) (ix3 (0 : Fin 2) (x 1) (⟨14336 + (x 0).val, by omega⟩ : Fin 26704))
  else if h : (x 0).val < 80 then (m ((c : Thread nD τ).loc main_arg1) : S2x2048x26704.Idx → EReal) (ix3 (0 : Fin 2) (x 1) (⟨20544 + ((x 0).val - 64), by omega⟩ : Fin 26704))
  else 0

/-- An entry of the first part's block. -/
theorem X_at (c : Dev nD) (t : Fin cfg0.N) (x : S1x64x2048.Idx) (n : Fin 2048) (q : Fin 26704) (h1 : n.val = (x 2).val) (h2 : q.val = 14336 + (x 1).val) :
    X0_1 m c t x = (m ((c : Thread nD τ).loc main_arg1) : S2x2048x26704.Idx → EReal) (ix3 (0 : Fin 2) n q) := by
  have hx : (x 0).val < 1 := (x 0).isLt
  rw [X0_1, Pipeline.Window.fill, dif_pos (moved0_1 t x)]
  blk_point [iblk, V, idx t]

theorem pay1 (c : Dev nD) (t : Fin cfg0.N) (x : S64x2048.Idx) (y : S128x2048.Idx) (h0 : (y 0).val = 0 + (x 0).val) (h1 : (y 1).val = 0 + (x 1).val) :
    k0_pay1 (F := Ideal) (X0_1 m c t) x = rows m c y := by
  have hx : (x 0).val < 64 := (x 0).isLt
  rw [rows, dif_pos (by omega)]
  have e : k0_pay1 (F := Ideal) (X0_1 m c t) x = X0_1 m c t (ix3 (0 : Fin 1) (x 0) (x 1)) := by
    generalize X0_1 m c t = z
    pointwise [k0_pay1]
  exact e.trans (X_at m c t _ _ _ (by show (y 1).val = (x 1).val; omega) (by show 14336 + (y 0).val = 14336 + (x 0).val; omega))

theorem pay2 (c : Dev nD) (t : Fin cfg0.N) (x : S16x2048.Idx) (y : S128x2048.Idx) (h0 : (y 0).val = 64 + (x 0).val) (h1 : (y 1).val = 0 + (x 1).val) :
    k0_pay2 (F := Ideal) (iblk m c 2 t) x = rows m c y := by
  have hx : (x 0).val < 16 := (x 0).isLt
  rw [rows, dif_neg (by omega), dif_pos (by omega)]
  pointwise [k0_pay2]
  blk_point [iblk, V, idx t]

theorem pay3 (c : Dev nD) (x : S48x2048.Idx) (y : S128x2048.Idx) (h0 : (y 0).val = 80 + (x 0).val) :
    k0_pay3 (F := Ideal) x = rows m c y := by
  rw [rows, dif_neg (by omega), dif_neg (by omega)]
  pointwise [k0_pay3]

/-- The three stores into the kept rows. -/
theorem canon_rows (c : Dev nD) (t : Fin cfg0.N) :
    View.canon [⟨Rect.unit (s := S128x2048) ![80, 0] ![48, 2048] inb_S128x2048_S48x2048_80_0, k0_pay3 (F := Ideal)⟩,
      ⟨Rect.unit ![64, 0] ![16, 2048] inb_S128x2048_S16x2048_64_0, k0_pay2 (F := Ideal) (iblk m c 2 t)⟩,
      ⟨Rect.unit ![0, 0] ![64, 2048] inb_S128x2048_S64x2048_0_0, k0_pay1 (F := Ideal) (X0_1 m c t)⟩] = rows m c := by
  funext y
  canon_tiles x h using View.cover_of_tiledBy _ ![16, 2048] (by sl_kernel_rfl) y
  case piece0 => exact pay3 m c x y h0
  case piece1 => exact pay2 m c t x y h0 (by omega)
  case piece2 => exact pay1 m c t x y (by omega) (by omega)

theorem read_rows (c : Dev nD) (t : Fin cfg0.N) :
    (View.whole cc0_scratch0).readCov [⟨Rect.unit (s := S128x2048) ![80, 0] ![48, 2048] inb_S128x2048_S48x2048_80_0, k0_pay3 (F := Ideal)⟩,
      ⟨Rect.unit ![64, 0] ![16, 2048] inb_S128x2048_S16x2048_64_0, k0_pay2 (F := Ideal) (iblk m c 2 t)⟩,
      ⟨Rect.unit ![0, 0] ![64, 2048] inb_S128x2048_S64x2048_0_0, k0_pay1 (F := Ideal) (X0_1 m c t)⟩]
      (Rect.unit (s := S128x2048) ![0, 0] ![128, 2048] inb_S128x2048_S128x2048_0_0).toLoadRect = rows m c := by
  rw [View.readCov_eq_canon', canon_rows]
  exact View.ld_unit_zero (by funext a; fin_cases a <;> rfl) _ _

/-- The kept rows after every point. -/
theorem kept (c : Dev nD) : ∀ (n : ℕ) (hn : n < cfg0.N), (outsAt0 m c n hn).2 = rows m c := by
  refine carry (p := 4) (fun n hn => (outsAt0 m c n hn).2) (fun _ => rows m c) (fun n hn h => ?_) fun n hn h => ?_
  · show (outsAt0 m c n hn).2 = _
    rw [outsAt0_A m c ⟨n, hn⟩ h]
    frame_out
    exact canon_rows m c ⟨n, hn⟩
  · show (outsAt0 m c (n + 1) hn).2 = _
    rw [outsAt0_B m c ⟨n + 1, hn⟩ h]
    frame_out
    rfl

/-- What every point stores. -/
theorem stored (c : Dev nD) (t : Fin cfg0.N) : (outsAt0 m c t.val t.isLt).1 = k0_pay4 (iblk m c 0 t) (rows m c) := by
  by_cases h : t.val % 4 = 0
  · rw [outsAt0_A m c t h]
    frame_out
    rw [read_rows]
  · rw [outsAt0_B m c t h]
    frame_out
    rw [read_unread_whole, kept]

/-- The reference's array over the kernel's arguments. -/
abbrev target (c : Dev nD) : S8192x128.Idx → EReal :=
  val_main_v8 (F := Ideal) (m ((c : Thread nD τ).loc main_arg0)) (m ((c : Thread nD τ).loc main_arg1))

theorem point (c : Dev nD) (t : Fin cfg0.N) (y : S2048x128.Idx) (i : S8192x128.Idx) (e0 : (i 0).val = 2048 * t.val + (y 0).val) (e1 : (i 1).val = (y 1).val) :
    k0_pay4 (iblk m c 0 t) (rows m c) y = target m c i := by
  have hy : (y 0).val < 2048 := (y 0).isLt
  pointwise [k0_pay4, rows, target, val_main_v8, val_main_v7, val_main_v6, val_main_v5, val_main_v4, val_main_v3, val_main_v2, val_main_v1, val_main_v0, val_main_cst]
  by_cases h : (i 1).val < 64
  · simp only [dif_pos h, dif_pos (e1 ▸ h)]
    blk_point [iblk, V, idx t]
  · by_cases h' : (i 1).val < 80
    · simp only [dif_neg h, dif_neg (e1 ▸ h), dif_pos (show (i 1).val - 64 < 16 by omega), dif_pos (e1 ▸ h')]
      blk_point [iblk, V, idx t]
    · simp only [dif_neg h, dif_neg (e1 ▸ h), dif_neg (show ¬ (i 1).val - 64 < 16 by omega), dif_neg (e1 ▸ h'), mul_zero, Finset.sum_const_zero]

/-- The projection's array after the run. -/
theorem final (c : Dev nD) : (dats m 0 c).arrAt 3 (cfgs 0).N = target m c := by
  refine (dats m 0 c).arrAt_eq_of_covers 3 _ (by decide +kernel) fun t hfl y => ?_
  blk_simp
  rw [after0_3, stored]
  exact point m c t _ _ (by blk_simp [idx t] <;> omega) (by blk_simp [idx t] <;> omega)

end Cert.SmallProjIdeal.Value
end
-- ==== Proof.lean ====
module

public import proofs.«01_k».proof.Defs
public import proofs.«01_k».proof.Proof.Gen.Fox
public import proofs.«01_k».proof.Proof.Gen.FoxIdeal
public import proofs.«01_k».proof.Proof.Gen.FoxRefIdeal
public import proofs.«01_k».proof.Proof.Gen.Fox.Frame
public import proofs.«01_k».proof.Proof.Gen.FoxIdeal.Value
public import proofs.«01_k».proof.Proof.Gen.FoxRefIdeal.Run
public import proofs.«01_k».proof.Proof.Gen.FoxRefIdeal.Read
public import proofs.«01_k».proof.Proof.Gen.Gates
public import proofs.«01_k».proof.Proof.Gen.GatesIdeal
public import proofs.«01_k».proof.Proof.Gen.GatesRefIdeal
public import proofs.«01_k».proof.Proof.Gen.Gates.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.Ffn1
public import proofs.«01_k».proof.Proof.Gen.Ffn1Ideal
public import proofs.«01_k».proof.Proof.Gen.Ffn1RefIdeal
public import proofs.«01_k».proof.Proof.Gen.Ffn1.Frame
public import proofs.«01_k».proof.Proof.Gen.Ffn1Ideal.Value
public import proofs.«01_k».proof.Proof.Gen.Ffn1RefIdeal.Run
public import proofs.«01_k».proof.Proof.Gen.Ffn1RefIdeal.Read
public import proofs.«01_k».proof.Proof.Gen.Ffn2
public import proofs.«01_k».proof.Proof.Gen.Ffn2Ideal
public import proofs.«01_k».proof.Proof.Gen.Ffn2RefIdeal
public import proofs.«01_k».proof.Proof.Gen.Ffn2.Frame
public import proofs.«01_k».proof.Proof.Gen.Ffn2Ideal.Value
public import proofs.«01_k».proof.Proof.Gen.Ffn2RefIdeal.Run
public import proofs.«01_k».proof.Proof.Gen.Ffn2RefIdeal.Read
public import proofs.«01_k».proof.Proof.Gen.FoxProj
public import proofs.«01_k».proof.Proof.Gen.FoxProjIdeal
public import proofs.«01_k».proof.Proof.Gen.FoxProjRefIdeal
public import proofs.«01_k».proof.Proof.Gen.FoxProj.Frame
public import proofs.«01_k».proof.Proof.Gen.FoxProjIdeal.Value
public import proofs.«01_k».proof.Proof.Gen.FoxProjRefIdeal.Run
public import proofs.«01_k».proof.Proof.Gen.FoxProjRefIdeal.Read
public import proofs.«01_k».proof.Proof.Gen.GateProj
public import proofs.«01_k».proof.Proof.Gen.GateProjIdeal
public import proofs.«01_k».proof.Proof.Gen.GateProjRefIdeal
public import proofs.«01_k».proof.Proof.Gen.GateProj.Frame
public import proofs.«01_k».proof.Proof.Gen.GateProjIdeal.Value
public import proofs.«01_k».proof.Proof.Gen.GateProjRefIdeal.Run
public import proofs.«01_k».proof.Proof.Gen.GateProjRefIdeal.Read
public import proofs.«01_k».proof.Proof.Gen.ZProj
public import proofs.«01_k».proof.Proof.Gen.ZProjIdeal
public import proofs.«01_k».proof.Proof.Gen.ZProjRefIdeal
public import proofs.«01_k».proof.Proof.Gen.ZProj.Frame
public import proofs.«01_k».proof.Proof.Gen.ZProjIdeal.Value
public import proofs.«01_k».proof.Proof.Gen.ZProjRefIdeal.Run
public import proofs.«01_k».proof.Proof.Gen.ZProjRefIdeal.Read
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Conva
public import proofs.«01_k».proof.Proof.Gen.ConvaIdeal
public import proofs.«01_k».proof.Proof.Gen.ConvaRefIdeal
public import proofs.«01_k».proof.Proof.Gen.Conva.Frame
public import proofs.«01_k».proof.Proof.Gen.ConvaIdeal.Value
public import proofs.«01_k».proof.Proof.Gen.ConvaRefIdeal.Run
public import proofs.«01_k».proof.Proof.Gen.ConvaRefIdeal.Read
public import proofs.«01_k».proof.Proof.Gen.Norm1
public import proofs.«01_k».proof.Proof.Gen.Norm1Ideal
public import proofs.«01_k».proof.Proof.Gen.Norm1RefIdeal
public import proofs.«01_k».proof.Proof.Gen.Norm1.Frame
public import proofs.«01_k».proof.Proof.Gen.Norm1Ideal.Value
public import proofs.«01_k».proof.Proof.Gen.Norm1RefIdeal.Run
public import proofs.«01_k».proof.Proof.Gen.Norm1RefIdeal.Read
public import proofs.«01_k».proof.Proof.Gen.Qk
public import proofs.«01_k».proof.Proof.Gen.QkIdeal
public import proofs.«01_k».proof.Proof.Gen.QkRefIdeal
public import proofs.«01_k».proof.Proof.Gen.Qk.Frame
public import proofs.«01_k».proof.Proof.Gen.QkIdeal.Value
public import proofs.«01_k».proof.Proof.Gen.QkRefIdeal.Run
public import proofs.«01_k».proof.Proof.Gen.QkRefIdeal.Read
public import proofs.«01_k».proof.Proof.Gen.Vv
public import proofs.«01_k».proof.Proof.Gen.VvIdeal
public import proofs.«01_k».proof.Proof.Gen.VvRefIdeal
public import proofs.«01_k».proof.Proof.Gen.Vv.Frame
public import proofs.«01_k».proof.Proof.Gen.VvIdeal.Value
public import proofs.«01_k».proof.Proof.Gen.VvRefIdeal.Run
public import proofs.«01_k».proof.Proof.Gen.VvRefIdeal.Read
public import proofs.«01_k».proof.Proof.Gen.Modulate
public import proofs.«01_k».proof.Proof.Gen.ModulateIdeal
public import proofs.«01_k».proof.Proof.Gen.ModulateRefIdeal
public import proofs.«01_k».proof.Proof.Gen.Modulate.Frame
public import proofs.«01_k».proof.Proof.Gen.ModulateIdeal.Value
public import proofs.«01_k».proof.Proof.Gen.ModulateRefIdeal.Run
public import proofs.«01_k».proof.Proof.Gen.ModulateRefIdeal.Read
public import proofs.«01_k».proof.Proof.Gen.SmallProj
public import proofs.«01_k».proof.Proof.Gen.SmallProjIdeal
public import proofs.«01_k».proof.Proof.Gen.SmallProjRefIdeal
public import proofs.«01_k».proof.Proof.Gen.SmallProj.Frame
public import proofs.«01_k».proof.Proof.Gen.SmallProjIdeal.Value
public import proofs.«01_k».proof.Proof.Gen.SmallProjRefIdeal.Run
public import proofs.«01_k».proof.Proof.Gen.SmallProjRefIdeal.Read
public import proofs.«01_k».proof.Proof.Gen.Pre_fox_finite
public import proofs.«01_k».proof.Proof.FoxValue
public import proofs.«01_k».proof.Proof.FoxRef
public import proofs.«01_k».proof.Proof.FoxPre
public import proofs.«01_k».proof.Proof.Ffn1Value
public import proofs.«01_k».proof.Proof.Ffn2Value
public import proofs.«01_k».proof.Proof.FoxProjValue
public import proofs.«01_k».proof.Proof.GateProjValue
public import proofs.«01_k».proof.Proof.ZProjValue
public import proofs.«01_k».proof.Proof.MergeValue
public import proofs.«01_k».proof.Proof.ConvaValue
public import proofs.«01_k».proof.Proof.Norm1Value
public import proofs.«01_k».proof.Proof.QkValue
public import proofs.«01_k».proof.Proof.VvValue
public import proofs.«01_k».proof.Proof.ModulateValue
public import proofs.«01_k».proof.Proof.SmallProjValue
public import Idealize.ShloMosaic.Lib.Claim
public import Idealize.ShloMosaic.Adequacy
public import Idealize.ShloMosaic.Init

@[expose] public section

noncomputable section

namespace Cert.Proof

open Idealize.ShloMosaic Idealize.SL.Sem Cert.Fox

/-- The attention call and its reference compute the same two arrays. -/
theorem fox : Cert.algebraic_FoxIdeal_FoxRefIdeal_pre_fox_finite := by
  intro m g m' g' hpre hagree
  have hf : ∀ c, FoxMath.Finite (Cert.FoxIdeal.Value.X m c) (Cert.FoxIdeal.Value.C m c) := fun c =>
    Cert.Pre_fox_finite.finite _ _ _ (hpre c)
  refine ⟨fun c => FoxMath.attnArr (Cert.FoxIdeal.Value.X m c) (Cert.FoxIdeal.Value.C m c),
    fun c i => (m ((c.tc : Thread Cert.FoxIdeal.nD Cert.FoxIdeal.τ).loc Cert.FoxIdeal.main_arg2)) (ix3 0 (i 1) (i 2)), ?_, ?_⟩
  · refine (θ_run Cert.FoxIdeal.defs _ _).mono (fun r h c => ?_) (Cert.FoxIdeal.Value.run_blocks m g)
    obtain ⟨h0, h1, h2⟩ := h c
    exact ⟨h0.trans (Cert.FoxIdeal.Value.final6 m c (hf c)), h1.trans (Cert.FoxIdeal.Value.final7 m c), h2⟩
  · refine (θ_run Cert.FoxRefIdeal.defs _ _).mono (fun r h c => ?_) (Cert.FoxRefIdeal.Value.run m' g')
    obtain ⟨h0, h1, h2⟩ := h c
    refine ⟨?_, ?_, h2⟩
    · rw [h0, Cert.FoxRefIdeal.Read.val_main_v45_eq, (hagree c).1, (hagree c).2.1]
      exact Cert.FoxRefIdeal.Read.final45 _ _ (hf c)
    · rw [h1, (hagree c).2.2]
      exact Cert.FoxRefIdeal.Read.final47 _

/-- The first feed-forward product and its reference compute the same array. -/
theorem ffn1 : Cert.algebraic_Ffn1Ideal_Ffn1RefIdeal := by
  intro m g m' g' _ hagree
  refine ⟨fun c => Cert.Ffn1Ideal.Value.hidden (Cert.Ffn1Ideal.Value.X m c) (Cert.Ffn1Ideal.Value.W m c), ?_, ?_⟩
  · refine (θ_run Cert.Ffn1Ideal.defs _ _).mono (fun r h c => ?_) (Cert.Ffn1Ideal.Value.run_blocks m g)
    exact ⟨(h c).1.trans (Cert.Ffn1Ideal.Value.final m c), (h c).2⟩
  · refine (θ_run Cert.Ffn1RefIdeal.defs _ _).mono (fun r h c => ?_) (Cert.Ffn1RefIdeal.Value.run m' g')
    obtain ⟨h0, h1⟩ := h c
    refine ⟨?_, h1⟩
    rw [h0, Cert.Ffn1RefIdeal.Read.val_main_v7_eq, (hagree c).1, (hagree c).2]
    exact Cert.Ffn1RefIdeal.Read.final _ _

/-- The second feed-forward product, with its residual and norm, and its reference compute the same array. -/
theorem ffn2 : Cert.algebraic_Ffn2Ideal_Ffn2RefIdeal := by
  intro m g m' g' _ hagree
  refine ⟨fun c => Cert.Ffn2Ideal.Value.target m c, ?_, ?_⟩
  · refine (θ_run Cert.Ffn2Ideal.defs _ _).mono (fun r h c => ?_) (Cert.Ffn2Ideal.Value.run_blocks m g)
    exact ⟨(h c).1.trans (Cert.Ffn2Ideal.Value.final m c), (h c).2⟩
  · refine (θ_run Cert.Ffn2RefIdeal.defs _ _).mono (fun r h c => ?_) (Cert.Ffn2RefIdeal.Value.run m' g')
    obtain ⟨h0, h1⟩ := h c
    refine ⟨?_, h1⟩
    rw [h0, Cert.Ffn2RefIdeal.Read.val_main_v37_eq, (hagree c).1, (hagree c).2.1, (hagree c).2.2.1, (hagree c).2.2.2.1, (hagree c).2.2.2.2.1, (hagree c).2.2.2.2.2]

/-- The projection to the queries, keys and values of the attention and its reference compute the same array. -/
theorem foxProj : Cert.algebraic_FoxProjIdeal_FoxProjRefIdeal := by
  intro m g m' g' _ hagree
  refine ⟨fun c => Cert.FoxProjIdeal.Value.target m c, ?_, ?_⟩
  · refine (θ_run Cert.FoxProjIdeal.defs _ _).mono (fun r h c => ?_) (Cert.FoxProjIdeal.Value.run_blocks m g)
    exact ⟨(h c).1.trans (Cert.FoxProjIdeal.Value.final m c), (h c).2⟩
  · refine (θ_run Cert.FoxProjRefIdeal.defs _ _).mono (fun r h c => ?_) (Cert.FoxProjRefIdeal.Value.run m' g')
    obtain ⟨h0, h1⟩ := h c
    refine ⟨?_, h1⟩
    rw [h0, Cert.FoxProjRefIdeal.Read.val_main_v6_eq, (hagree c).1, (hagree c).2]
    exact Cert.FoxProjRefIdeal.Read.final _ _

/-- The projection to the gates of the three branches and its reference compute the same array. -/
theorem gateProj : Cert.algebraic_GateProjIdeal_GateProjRefIdeal := by
  intro m g m' g' _ hagree
  refine ⟨fun c => Cert.GateProjIdeal.Value.target m c, ?_, ?_⟩
  · refine (θ_run Cert.GateProjIdeal.defs _ _).mono (fun r h c => ?_) (Cert.GateProjIdeal.Value.run_blocks m g)
    exact ⟨(h c).1.trans (Cert.GateProjIdeal.Value.final m c), (h c).2⟩
  · refine (θ_run Cert.GateProjRefIdeal.defs _ _).mono (fun r h c => ?_) (Cert.GateProjRefIdeal.Value.run m' g')
    obtain ⟨h0, h1⟩ := h c
    refine ⟨?_, h1⟩
    rw [h0, Cert.GateProjRefIdeal.Read.val_main_v6_eq, (hagree c).1, (hagree c).2]
    exact Cert.GateProjRefIdeal.Read.final _ _

/-- The projection to the second branch's output gate and its reference compute the same array. -/
theorem zProj : Cert.algebraic_ZProjIdeal_ZProjRefIdeal := by
  intro m g m' g' _ hagree
  refine ⟨fun c => Cert.ZProjIdeal.Value.target m c, ?_, ?_⟩
  · refine (θ_run Cert.ZProjIdeal.defs _ _).mono (fun r h c => ?_) (Cert.ZProjIdeal.Value.run_blocks m g)
    exact ⟨(h c).1.trans (Cert.ZProjIdeal.Value.final m c), (h c).2⟩
  · refine (θ_run Cert.ZProjRefIdeal.defs _ _).mono (fun r h c => ?_) (Cert.ZProjRefIdeal.Value.run m' g')
    obtain ⟨h0, h1⟩ := h c
    refine ⟨?_, h1⟩
    rw [h0, Cert.ZProjRefIdeal.Read.val_main_v6_eq, (hagree c).1, (hagree c).2]
    exact Cert.ZProjRefIdeal.Read.final _ _

/-- The short convolution's branch and its reference compute the same array. -/
theorem conva : Cert.algebraic_ConvaIdeal_ConvaRefIdeal := by
  intro m g m' g' _ hagree
  refine ⟨fun c => Cert.ConvaIdeal.Value.target m c, ?_, ?_⟩
  · refine (θ_run Cert.ConvaIdeal.defs _ _).mono (fun r h c => ?_) (Cert.ConvaIdeal.Value.run_blocks m g)
    exact ⟨(h c).1.trans (Cert.ConvaIdeal.Value.final m c), (h c).2⟩
  · refine (θ_run Cert.ConvaRefIdeal.defs _ _).mono (fun r h c => ?_) (Cert.ConvaRefIdeal.Value.run m' g')
    obtain ⟨h0, h1⟩ := h c
    refine ⟨?_, h1⟩
    rw [h0, Cert.ConvaRefIdeal.Read.val_main_v32_eq, (hagree c).1, (hagree c).2.1, (hagree c).2.2]

/-- The merge of the branches and its reference compute the same two arrays. -/
theorem merge : Cert.algebraic_MergeIdeal_MergeRefIdeal := by
  intro m g m' g' _ hagree
  refine ⟨fun c => Cert.MergeIdeal.Value.target m c, fun c => Cert.MergeIdeal.Value.copy m c, ?_, ?_⟩
  · refine (θ_run Cert.MergeIdeal.defs _ _).mono (fun r h c => ?_) (Cert.MergeIdeal.Value.run_blocks m g)
    exact ⟨(h c).1.trans (Cert.MergeIdeal.Value.final m c), (h c).2.1.trans (Cert.MergeIdeal.Value.final_copy m c), (h c).2.2⟩
  · refine (θ_run Cert.MergeRefIdeal.defs _ _).mono (fun r h c => ?_) (Cert.MergeRefIdeal.Value.run m' g')
    obtain ⟨h0, h1, h2⟩ := h c
    obtain ⟨a0, a1, a2, a3, a4, a5, a6, a7⟩ := hagree c
    refine ⟨?_, ?_, h2⟩
    · rw [h0, Cert.MergeRefIdeal.Read.val_main_v41_eq, a0, a1, a2, a3, a4, a5, a6]
    · rw [h1, Cert.MergeRefIdeal.Read.val_main_v43_eq, a7]

/-- The norm after the merge and its reference compute the same two arrays. -/
theorem norm1 : Cert.algebraic_Norm1Ideal_Norm1RefIdeal := by
  intro m g m' g' _ hagree
  refine ⟨fun c => Cert.Norm1Ideal.Value.normed m c, fun c => Cert.Norm1Ideal.Value.modulated m c, ?_, ?_⟩
  · refine (θ_run Cert.Norm1Ideal.defs _ _).mono (fun r h c => ?_) (Cert.Norm1Ideal.Value.run_blocks m g)
    exact ⟨(h c).1.trans (Cert.Norm1Ideal.Value.final m c), (h c).2.1.trans (Cert.Norm1Ideal.Value.final_mod m c), (h c).2.2⟩
  · refine (θ_run Cert.Norm1RefIdeal.defs _ _).mono (fun r h c => ?_) (Cert.Norm1RefIdeal.Value.run m' g')
    obtain ⟨h0, h1, h2⟩ := h c
    obtain ⟨a0, a1, a2, a3, a4, a5, a6, a7⟩ := hagree c
    refine ⟨?_, ?_, h2⟩
    · rw [h0, Cert.Norm1RefIdeal.Read.val_main_v37_eq, a0, a1, a2, a3, a4, a5]
    · rw [h1, Cert.Norm1RefIdeal.Read.val_main_v44_eq, a0, a1, a2, a3, a4, a5, a6, a7]

/-- The queries and keys of the gated delta rule and their reference: the same array. -/
theorem qk : Cert.algebraic_QkIdeal_QkRefIdeal := by
  intro m g m' g' _ hagree
  refine ⟨fun c => Cert.QkIdeal.Value.target m c, ?_, ?_⟩
  · refine (θ_run Cert.QkIdeal.defs _ _).mono (fun r h c => ?_) (Cert.QkIdeal.Value.run_blocks m g)
    exact ⟨(h c).1.trans (Cert.QkIdeal.Value.final m c), (h c).2⟩
  · refine (θ_run Cert.QkRefIdeal.defs _ _).mono (fun r h c => ?_) (Cert.QkRefIdeal.Value.run m' g')
    obtain ⟨h0, h1⟩ := h c
    obtain ⟨a0, a1, a2⟩ := hagree c
    refine ⟨?_, h1⟩
    rw [h0, Cert.QkRefIdeal.Read.val_main_v47_eq, a0, a1, a2]

/-- The values of the gated delta rule and their reference: the same array. -/
theorem vv : Cert.algebraic_VvIdeal_VvRefIdeal := by
  intro m g m' g' _ hagree
  refine ⟨fun c => Cert.VvIdeal.Value.target m c, ?_, ?_⟩
  · refine (θ_run Cert.VvIdeal.defs _ _).mono (fun r h c => ?_) (Cert.VvIdeal.Value.run_blocks m g)
    exact ⟨(h c).1.trans (Cert.VvIdeal.Value.final m c), (h c).2⟩
  · refine (θ_run Cert.VvRefIdeal.defs _ _).mono (fun r h c => ?_) (Cert.VvRefIdeal.Value.run m' g')
    obtain ⟨h0, h1⟩ := h c
    obtain ⟨a0, a1, a2⟩ := hagree c
    refine ⟨?_, h1⟩
    rw [h0, Cert.VvRefIdeal.Read.val_main_v37_eq, a0, a1, a2]

/-- The first modulation and its reference compute the same array. -/
theorem modulate : Cert.algebraic_ModulateIdeal_ModulateRefIdeal := by
  intro m g m' g' _ hagree
  refine ⟨fun c => Cert.ModulateIdeal.Value.target m c, ?_, ?_⟩
  · refine (θ_run Cert.ModulateIdeal.defs _ _).mono (fun r h c => ?_) (Cert.ModulateIdeal.Value.run_blocks m g)
    exact ⟨(h c).1.trans (Cert.ModulateIdeal.Value.final m c), (h c).2⟩
  · refine (θ_run Cert.ModulateRefIdeal.defs _ _).mono (fun r h c => ?_) (Cert.ModulateRefIdeal.Value.run m' g')
    obtain ⟨h0, h1⟩ := h c
    obtain ⟨a0, a1, a2⟩ := hagree c
    refine ⟨?_, h1⟩
    rw [h0, Cert.ModulateRefIdeal.Read.val_main_v6_eq, a0, a1, a2]

/-- The projection to the gates' logits and its reference compute the same array. -/
theorem smallProj : Cert.algebraic_SmallProjIdeal_SmallProjRefIdeal := by
  intro m g m' g' _ hagree
  refine ⟨fun c => Cert.SmallProjIdeal.Value.target m c, ?_, ?_⟩
  · refine (θ_run Cert.SmallProjIdeal.defs _ _).mono (fun r h c => ?_) (Cert.SmallProjIdeal.Value.run_blocks m g)
    exact ⟨(h c).1.trans (Cert.SmallProjIdeal.Value.final m c), (h c).2⟩
  · refine (θ_run Cert.SmallProjRefIdeal.defs _ _).mono (fun r h c => ?_) (Cert.SmallProjRefIdeal.Value.run m' g')
    obtain ⟨h0, h1⟩ := h c
    obtain ⟨a0, a1⟩ := hagree c
    refine ⟨?_, h1⟩
    rw [h0, Cert.SmallProjRefIdeal.Read.val_main_v8_eq, a0, a1]

theorem frame_foxref : Cert.quiescent_FoxRefIdeal := fun m ρ _ =>
  (θ_run Cert.FoxRefIdeal.defs _ _).mono (fun r h => ⟨fun c => (h c).2.2, sem_eq_zero_of_no_sems (by decide) r.2⟩)
    (Cert.FoxRefIdeal.Value.run m ρ)

theorem frame_ffn1ref : Cert.quiescent_Ffn1RefIdeal := fun m ρ _ =>
  (θ_run Cert.Ffn1RefIdeal.defs _ _).mono (fun r h => ⟨fun c => (h c).2, sem_eq_zero_of_no_sems (by decide) r.2⟩)
    (Cert.Ffn1RefIdeal.Value.run m ρ)

theorem frame_ffn2ref : Cert.quiescent_Ffn2RefIdeal := fun m ρ _ =>
  (θ_run Cert.Ffn2RefIdeal.defs _ _).mono (fun r h => ⟨fun c => (h c).2, sem_eq_zero_of_no_sems (by decide) r.2⟩)
    (Cert.Ffn2RefIdeal.Value.run m ρ)

theorem frame_foxprojref : Cert.quiescent_FoxProjRefIdeal := fun m ρ _ =>
  (θ_run Cert.FoxProjRefIdeal.defs _ _).mono (fun r h => ⟨fun c => (h c).2, sem_eq_zero_of_no_sems (by decide) r.2⟩)
    (Cert.FoxProjRefIdeal.Value.run m ρ)

theorem frame_gateprojref : Cert.quiescent_GateProjRefIdeal := fun m ρ _ =>
  (θ_run Cert.GateProjRefIdeal.defs _ _).mono (fun r h => ⟨fun c => (h c).2, sem_eq_zero_of_no_sems (by decide) r.2⟩)
    (Cert.GateProjRefIdeal.Value.run m ρ)

theorem frame_zprojref : Cert.quiescent_ZProjRefIdeal := fun m ρ _ =>
  (θ_run Cert.ZProjRefIdeal.defs _ _).mono (fun r h => ⟨fun c => (h c).2, sem_eq_zero_of_no_sems (by decide) r.2⟩)
    (Cert.ZProjRefIdeal.Value.run m ρ)

theorem frame_mergeref : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run m ρ)

theorem frame_convaref : Cert.quiescent_ConvaRefIdeal := fun m ρ _ =>
  (θ_run Cert.ConvaRefIdeal.defs _ _).mono (fun r h => ⟨fun c => (h c).2, sem_eq_zero_of_no_sems (by decide) r.2⟩)
    (Cert.ConvaRefIdeal.Value.run m ρ)

theorem frame_norm1ref : Cert.quiescent_Norm1RefIdeal := fun m ρ _ =>
  (θ_run Cert.Norm1RefIdeal.defs _ _).mono (fun r h => ⟨fun c => (h c).2.2, sem_eq_zero_of_no_sems (by decide) r.2⟩)
    (Cert.Norm1RefIdeal.Value.run m ρ)

theorem frame_qkref : Cert.quiescent_QkRefIdeal := fun m ρ _ =>
  (θ_run Cert.QkRefIdeal.defs _ _).mono (fun r h => ⟨fun c => (h c).2, sem_eq_zero_of_no_sems (by decide) r.2⟩)
    (Cert.QkRefIdeal.Value.run m ρ)

theorem frame_vvref : Cert.quiescent_VvRefIdeal := fun m ρ _ =>
  (θ_run Cert.VvRefIdeal.defs _ _).mono (fun r h => ⟨fun c => (h c).2, sem_eq_zero_of_no_sems (by decide) r.2⟩)
    (Cert.VvRefIdeal.Value.run m ρ)

theorem frame_modulateref : Cert.quiescent_ModulateRefIdeal := fun m ρ _ =>
  (θ_run Cert.ModulateRefIdeal.defs _ _).mono (fun r h => ⟨fun c => (h c).2, sem_eq_zero_of_no_sems (by decide) r.2⟩)
    (Cert.ModulateRefIdeal.Value.run m ρ)

theorem frame_smallprojref : Cert.quiescent_SmallProjRefIdeal := fun m ρ _ =>
  (θ_run Cert.SmallProjRefIdeal.defs _ _).mono (fun r h => ⟨fun c => (h c).2, sem_eq_zero_of_no_sems (by decide) r.2⟩)
    (Cert.SmallProjRefIdeal.Value.run m ρ)

theorem frame_gatesref : Cert.quiescent_GatesRefIdeal := fun m ρ _ =>
  (θ_run Cert.GatesRefIdeal.defs _ _).mono (fun r h => ⟨fun c => (h c).2.2, sem_eq_zero_of_no_sems (by decide) r.2⟩)
    (Cert.GatesRefIdeal.Value.run m ρ)

theorem claim : Cert.Claim := ⟨Cert.Fox.Gen.facts, Cert.FoxIdeal.Gen.facts, Cert.FoxRefIdeal.Gen.facts,
  Cert.Ffn1.Gen.facts, Cert.Ffn1Ideal.Gen.facts, Cert.Ffn1RefIdeal.Gen.facts,
  Cert.Ffn2.Gen.facts, Cert.Ffn2Ideal.Gen.facts, Cert.Ffn2RefIdeal.Gen.facts,
  Cert.FoxProj.Gen.facts, Cert.FoxProjIdeal.Gen.facts, Cert.FoxProjRefIdeal.Gen.facts,
  Cert.GateProj.Gen.facts, Cert.GateProjIdeal.Gen.facts, Cert.GateProjRefIdeal.Gen.facts,
  Cert.ZProj.Gen.facts, Cert.ZProjIdeal.Gen.facts, Cert.ZProjRefIdeal.Gen.facts,
  Cert.Merge.Gen.facts, Cert.MergeIdeal.Gen.facts, Cert.MergeRefIdeal.Gen.facts,
  Cert.Conva.Gen.facts, Cert.ConvaIdeal.Gen.facts, Cert.ConvaRefIdeal.Gen.facts,
  Cert.Norm1.Gen.facts, Cert.Norm1Ideal.Gen.facts, Cert.Norm1RefIdeal.Gen.facts,
  Cert.Qk.Gen.facts, Cert.QkIdeal.Gen.facts, Cert.QkRefIdeal.Gen.facts,
  Cert.Vv.Gen.facts, Cert.VvIdeal.Gen.facts, Cert.VvRefIdeal.Gen.facts,
  Cert.Modulate.Gen.facts, Cert.ModulateIdeal.Gen.facts, Cert.ModulateRefIdeal.Gen.facts,
  Cert.SmallProj.Gen.facts, Cert.SmallProjIdeal.Gen.facts, Cert.SmallProjRefIdeal.Gen.facts,
  Cert.Gates.Gen.facts, Cert.GatesIdeal.Gen.facts, Cert.GatesRefIdeal.Gen.facts,
  Cert.Pre_fox_finite.Gen.facts,
  fun m ρ _ => Cert.Fox.Gen.frame m ρ, fun m ρ _ => Cert.FoxIdeal.Gen.frame m ρ, fun m ρ _ => Cert.FoxIdeal.Gen.frame m ρ, frame_foxref,
  fun m ρ _ => frame_foxref m ρ trivial,
  fun m ρ _ => Cert.Ffn1.Gen.frame m ρ, fun m ρ _ => Cert.Ffn1Ideal.Gen.frame m ρ, frame_ffn1ref,
  fun m ρ _ => Cert.Ffn2.Gen.frame m ρ, fun m ρ _ => Cert.Ffn2Ideal.Gen.frame m ρ, frame_ffn2ref,
  fun m ρ _ => Cert.FoxProj.Gen.frame m ρ, fun m ρ _ => Cert.FoxProjIdeal.Gen.frame m ρ, frame_foxprojref,
  fun m ρ _ => Cert.GateProj.Gen.frame m ρ, fun m ρ _ => Cert.GateProjIdeal.Gen.frame m ρ, frame_gateprojref,
  fun m ρ _ => Cert.ZProj.Gen.frame m ρ, fun m ρ _ => Cert.ZProjIdeal.Gen.frame m ρ, frame_zprojref,
  fun m ρ _ => Cert.Merge.Gen.frame m ρ, fun m ρ _ => Cert.MergeIdeal.Gen.frame m ρ, frame_mergeref,
  fun m ρ _ => Cert.Conva.Gen.frame m ρ, fun m ρ _ => Cert.ConvaIdeal.Gen.frame m ρ, frame_convaref,
  fun m ρ _ => Cert.Norm1.Gen.frame m ρ, fun m ρ _ => Cert.Norm1Ideal.Gen.frame m ρ, frame_norm1ref,
  fun m ρ _ => Cert.Qk.Gen.frame m ρ, fun m ρ _ => Cert.QkIdeal.Gen.frame m ρ, frame_qkref,
  fun m ρ _ => Cert.Vv.Gen.frame m ρ, fun m ρ _ => Cert.VvIdeal.Gen.frame m ρ, frame_vvref,
  fun m ρ _ => Cert.Modulate.Gen.frame m ρ, fun m ρ _ => Cert.ModulateIdeal.Gen.frame m ρ, frame_modulateref,
  fun m ρ _ => Cert.SmallProj.Gen.frame m ρ, fun m ρ _ => Cert.SmallProjIdeal.Gen.frame m ρ, frame_smallprojref,
  fun m ρ _ => Cert.Gates.Gen.frame m ρ, fun m ρ _ => Cert.GatesIdeal.Gen.frame m ρ, frame_gatesref,
  ⟨IdealRules.named_const.statement Cert.FoxIdeal.κ "log2e" .f32 0x3FB8AA3B#32 (((Real.log 2)⁻¹ : ℝ) : EReal) rfl,
    IdealRules.named_const.statement Cert.FoxIdeal.κ "c1" .f32 0x3E0293EE#32 (((Real.log 2)⁻¹ * (Real.sqrt 128)⁻¹ : ℝ) : EReal) rfl,
    IdealRules.named_const.statement Cert.FoxIdeal.κ "mask" .f32 0xF149F2CA#32 ⊥ rfl⟩,
  fox, trivial, ffn1, trivial, ffn2, trivial, foxProj, trivial, gateProj, trivial, zProj, trivial, merge, trivial, conva, trivial,
  norm1, trivial, qk, trivial, vv, trivial, modulate, trivial, smallProj, trivial⟩

end Cert.Proof

end
